-- ==== Defs.lean ====
def Pre_Kernel [hPre_rows_distinct : Cert.Pre_rows_distinct.Facts] (m : (ℓ : Loc Cert.Kernel.nD Cert.Kernel.τ Cert.Kernel.sig) → Buf (Elt Bits) ℓ) : Prop :=
  ∀ c : Dev Cert.Kernel.nD,
    (Cert.Pre_rows_distinct.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_rows_distinct.fn (F := Bits) (m ((c.tc : Thread Cert.Kernel.nD Cert.Kernel.τ).loc Cert.Kernel.main_arg0)) (m ((c.tc : Thread Cert.Kernel.nD Cert.Kernel.τ).loc Cert.Kernel.main_arg1))).2 = (fun _ => 1#1)

def Pre_KernelIdeal [hPre_rows_distinct : Cert.Pre_rows_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_rows_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_rows_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_distinct [hPre_rows_distinct : Cert.Pre_rows_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_rows_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Reference (m : (ℓ : Loc Cert.Reference.nD Cert.Reference.τ Cert.Reference.sig) → Buf (Elt Bits) ℓ) : Prop :=
  True

def Pre_Reference_rows_distinct [hPre_rows_distinct : Cert.Pre_rows_distinct.Facts] (m : (ℓ : Loc Cert.Reference.nD Cert.Reference.τ Cert.Reference.sig) → Buf (Elt Bits) ℓ) : Prop :=
  ∀ c : Dev Cert.Reference.nD,
    (Cert.Pre_rows_distinct.fn (F := Bits) (m ((c.tc : Thread Cert.Reference.nD Cert.Reference.τ).loc Cert.Reference.main_arg0)) (m ((c.tc : Thread Cert.Reference.nD Cert.Reference.τ).loc Cert.Reference.main_arg1))).1 = (fun _ => 1#1)
    ∧ (Cert.Pre_rows_distinct.fn (F := Bits) (m ((c.tc : Thread Cert.Reference.nD Cert.Reference.τ).loc Cert.Reference.main_arg0)) (m ((c.tc : Thread Cert.Reference.nD Cert.Reference.τ).loc Cert.Reference.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores [hPre_finite_scores : Cert.Pre_finite_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).1 = (fun _ => 1#1)
    ∧ (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores [hPre_finite_scores : Cert.Pre_finite_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).1 = (fun _ => 1#1)
    ∧ (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2 = (fun _ => 1#1)

def quiescent_Kernel [hKernel : Cert.Kernel.Facts] [hPre_rows_distinct : Cert.Pre_rows_distinct.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_distinct : Cert.Pre_rows_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_distinct [hReferenceIdeal : Cert.ReferenceIdeal.Facts] [hPre_rows_distinct : Cert.Pre_rows_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_rows_distinct [hReference : Cert.Reference.Facts] [hPre_rows_distinct : Cert.Pre_rows_distinct.Facts] : Prop :=
  ∀ (m : (ℓ : Loc Cert.Reference.nD Cert.Reference.τ Cert.Reference.sig) → Buf (Elt Bits) ℓ) (g : Dev Cert.Reference.nD → PrngReg), Pre_Reference_rows_distinct m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite_scores [hKernel4Ideal : Cert.Kernel4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite_scores [hReference4Ideal : Cert.Reference4Ideal.Facts] [hPre_finite_scores : Cert.Pre_finite_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_distinct : Cert.Pre_rows_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_distinct : Cert.Pre_rows_distinct.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v36) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v26)) (v1 : (c : Dev Cert.Kernel3Ideal.nD) → Buf (Elt Ideal) ((c.tc : Thread Cert.Kernel3Ideal.nD Cert.Kernel3Ideal.τ).loc Cert.Kernel3Ideal.main_v27)) (v2 : (c : Dev Cert.Kernel3Ideal.nD) → Buf (Elt Ideal) ((c.tc : Thread Cert.Kernel3Ideal.nD Cert.Kernel3Ideal.τ).loc Cert.Kernel3Ideal.main_v28)) (v3 : (c : Dev Cert.Kernel3Ideal.nD) → Buf (Elt Ideal) ((c.tc : Thread Cert.Kernel3Ideal.nD Cert.Kernel3Ideal.τ).loc Cert.Kernel3Ideal.main_v29)) (v4 : (c : Dev Cert.Kernel3Ideal.nD) → Buf (Elt Ideal) ((c.tc : Thread Cert.Kernel3Ideal.nD Cert.Kernel3Ideal.τ).loc Cert.Kernel3Ideal.main_v30)) (v5 : (c : Dev Cert.Kernel3Ideal.nD) → Buf (Elt Ideal) ((c.tc : Thread Cert.Kernel3Ideal.nD Cert.Kernel3Ideal.τ).loc Cert.Kernel3Ideal.main_v31)) (v6 : (c : Dev Cert.Kernel3Ideal.nD) → Buf (Elt Ideal) ((c.tc : Thread Cert.Kernel3Ideal.nD Cert.Kernel3Ideal.τ).loc Cert.Kernel3Ideal.main_v33)) (v7 : (c : Dev Cert.Kernel3Ideal.nD) → Buf (Elt Ideal) ((c.tc : Thread Cert.Kernel3Ideal.nD Cert.Kernel3Ideal.τ).loc Cert.Kernel3Ideal.main_v34)) (v8 : (c : Dev Cert.Kernel3Ideal.nD) → Buf (Elt Ideal) ((c.tc : Thread Cert.Kernel3Ideal.nD Cert.Kernel3Ideal.τ).loc Cert.Kernel3Ideal.main_v35)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_v27) = v1 c
          ∧ r.2.mem ((c.tc : Thread Cert.Kernel3Ideal.nD Cert.Kernel3Ideal.τ).loc Cert.Kernel3Ideal.main_v28) = v2 c
          ∧ r.2.mem ((c.tc : Thread Cert.Kernel3Ideal.nD Cert.Kernel3Ideal.τ).loc Cert.Kernel3Ideal.main_v29) = v3 c
          ∧ r.2.mem ((c.tc : Thread Cert.Kernel3Ideal.nD Cert.Kernel3Ideal.τ).loc Cert.Kernel3Ideal.main_v30) = v4 c
          ∧ r.2.mem ((c.tc : Thread Cert.Kernel3Ideal.nD Cert.Kernel3Ideal.τ).loc Cert.Kernel3Ideal.main_v31) = v5 c
          ∧ r.2.mem ((c.tc : Thread Cert.Kernel3Ideal.nD Cert.Kernel3Ideal.τ).loc Cert.Kernel3Ideal.main_v33) = v6 c
          ∧ r.2.mem ((c.tc : Thread Cert.Kernel3Ideal.nD Cert.Kernel3Ideal.τ).loc Cert.Kernel3Ideal.main_v34) = v7 c
          ∧ r.2.mem ((c.tc : Thread Cert.Kernel3Ideal.nD Cert.Kernel3Ideal.τ).loc Cert.Kernel3Ideal.main_v35) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v2) = v1 c
          ∧ r.2.mem ((c.tc : Thread Cert.Reference3Ideal.nD Cert.Reference3Ideal.τ).loc Cert.Reference3Ideal.main_v3) = v2 c
          ∧ r.2.mem ((c.tc : Thread Cert.Reference3Ideal.nD Cert.Reference3Ideal.τ).loc Cert.Reference3Ideal.main_v4) = v3 c
          ∧ r.2.mem ((c.tc : Thread Cert.Reference3Ideal.nD Cert.Reference3Ideal.τ).loc Cert.Reference3Ideal.main_v22) = v4 c
          ∧ r.2.mem ((c.tc : Thread Cert.Reference3Ideal.nD Cert.Reference3Ideal.τ).loc Cert.Reference3Ideal.main_v23) = v5 c
          ∧ r.2.mem ((c.tc : Thread Cert.Reference3Ideal.nD Cert.Reference3Ideal.τ).loc Cert.Reference3Ideal.main_v7) = v6 c
          ∧ r.2.mem ((c.tc : Thread Cert.Reference3Ideal.nD Cert.Reference3Ideal.τ).loc Cert.Reference3Ideal.main_v8) = v7 c
          ∧ r.2.mem ((c.tc : Thread Cert.Reference3Ideal.nD Cert.Reference3Ideal.τ).loc Cert.Reference3Ideal.main_v9) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_scores [hKernel4Ideal : Cert.Kernel4Ideal.Facts] [hReference4Ideal : Cert.Reference4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v12_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_rows_distinct : Cert.Pre_rows_distinct.Facts) (hPre_finite_scores : Cert.Pre_finite_scores.Facts),
    quiescent_Kernel (hKernel := hKernel) (hPre_rows_distinct := hPre_rows_distinct)
    ∧ quiescent_KernelIdeal (hKernelIdeal := hKernelIdeal) (hPre_rows_distinct := hPre_rows_distinct)
    ∧ quiescent_ReferenceIdeal (hReferenceIdeal := hReferenceIdeal)
    ∧ quiescent_ReferenceIdeal_pre_rows_distinct (hReferenceIdeal := hReferenceIdeal) (hPre_rows_distinct := hPre_rows_distinct)
    ∧ quiescent_Reference (hReference := hReference)
    ∧ quiescent_Reference_pre_rows_distinct (hReference := hReference) (hPre_rows_distinct := hPre_rows_distinct)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scores (hKernel4Ideal := hKernel4Ideal) (hPre_finite_scores := hPre_finite_scores)
    ∧ quiescent_Reference4Ideal (hReference4Ideal := hReference4Ideal)
    ∧ quiescent_Reference4Ideal_pre_finite_scores (hReference4Ideal := hReference4Ideal) (hPre_finite_scores := hPre_finite_scores)
    ∧ preserves_Kernel_KernelIdeal
    ∧ algebraic_KernelIdeal_ReferenceIdeal (hKernelIdeal := hKernelIdeal) (hReferenceIdeal := hReferenceIdeal) (hPre_rows_distinct := hPre_rows_distinct)
    ∧ bitexact_Kernel_Reference (hKernel := hKernel) (hReference := hReference) (hPre_rows_distinct := hPre_rows_distinct)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_scores (hKernel4Ideal := hKernel4Ideal) (hReference4Ideal := hReference4Ideal) (hPre_finite_scores := hPre_finite_scores)
-- ==== Pre_finite_scores.lean ====
abbrev S32768x1024 : Shape := ⟨2, ![32768, 1024]⟩
abbrev S32768x512 : Shape := ⟨2, ![32768, 512]⟩
abbrev S1024x512 : Shape := ⟨2, ![1024, 512]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S32768x512 : S_.BroadcastsInDim S32768x512 (![] : Fin 0 → Fin S32768x512.rank)
  bcast_S_S1024x512 : S_.BroadcastsInDim S1024x512 (![] : Fin 0 → Fin S1024x512.rank)

variable [Facts]

def fn {F : FTy → Type} [FloatOps F] (main_arg0 : FVec F S32768x1024 .f32) (main_arg1 : FVec F S32768x512 .f32) (main_arg2 : FVec F S32768x512 .f32) (main_arg3 : FVec F S1024x512 .f32) (main_arg4 : FVec F S1024x512 .f32) (main_arg5 : FVec F S32768x1024 .f32) (main_arg6 : FVec F S2048x1024 .f32) (main_arg7 : FVec F S1024 .f32) (main_arg8 : FVec F S1024 .f32) (main_arg9 : FVec F S1024x32 .f32) (main_arg10 : FVec F S32 .f32) : IVec S32768x512 1 × IVec S1024x512 1 :=
  let main_v0 : FVec F S32768x512 .f32 := Host.absf main_arg2
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S1024x512 .f32 := Host.absf main_arg3
  let main_cst_0 : FVec F S_ .f32 := constant S_ .f32 0x7F800000#32
  let main_v4 : FVec F S1024x512 .f32 := broadcastInDim S1024x512 ![] bcast_S_S1024x512 main_cst_0
  let main_v5 : IVec S1024x512 1 := cmpf .olt main_v3 main_v4
  (main_v2, main_v5)
-- ==== Pre_rows_distinct.lean ====
abbrev S4x32768 : Shape := ⟨2, ![4, 32768]⟩
abbrev S32768x1024 : Shape := ⟨2, ![32768, 1024]⟩
abbrev S131072 : Shape := ⟨1, ![131072]⟩
abbrev S_ : Shape := ⟨0, ![]⟩
abbrev S147456 : Shape := ⟨1, ![147456]⟩
abbrev S131072x1 : Shape := ⟨2, ![131072, 1]⟩

class Facts : Prop where
  shapeCasts_S4x32768_S131072 : S4x32768.ShapeCasts S131072
  bcast_S_S147456 : S_.BroadcastsInDim S147456 (![] : Fin 0 → Fin S147456.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S4x32768 : S_.BroadcastsInDim S4x32768 (![] : Fin 0 → Fin S4x32768.rank)
  scatter_S147456_S131072x1_S131072_n_0_0_1_wf : ScatterDims.WF S147456 S131072x1 S131072 [] [0] [0] 1
  gather_S147456_S131072x1_S131072_n_0_n_n_0_1_1_wf : GatherDims.WF S147456 S131072x1 S131072 [] [0] [] [0] [] 1 ![1]

variable [Facts]

def scatter_S147456_S131072x1_S131072_n_0_0_1 : ScatterDims S147456 S131072x1 S131072 where
  updateWindowDims := []
  insertedWindowDims := [0]
  scatterDimsToOperandDims := [0]
  indexVectorDim := 1
  wf := scatter_S147456_S131072x1_S131072_n_0_0_1_wf
def gather_S147456_S131072x1_S131072_n_0_n_n_0_1_1 : GatherDims S147456 S131072x1 S131072 where
  offsetDims := []
  collapsedSliceDims := [0]
  operandBatchingDims := []
  startIndicesBatchingDims := []
  startIndexMap := [0]
  indexVectorDim := 1
  sliceSizes := ![1]
  wf := gather_S147456_S131072x1_S131072_n_0_n_n_0_1_1_wf
def fn_part1 {F : FTy → Type} [FloatOps F] (main_v0 : IVec S131072 32) (main_v1 : IVec S131072 32) (main_v9 : IVec S147456 32) (main_v14 : IVec S4x32768 1) (main_v16 : IVec S131072 1) (main_c_5 : IVec S_ 32) : IVec S4x32768 1 × IVec S131072 1 :=
  let main_v17 : IVec S131072 32 := broadcastInDim S131072 ![] bcast_S_S131072 main_c_5
  let main_v18 : IVec S131072 32 := addi main_v0 main_v17
  let main_v19 : IVec S131072 32 := select main_v16 main_v18 main_v0
  let main_v20 : IVec S131072x1 32 := broadcastInDim S131072x1 ![0] bcast_S131072_S131072x1_0 main_v19
  let main_v21 : IVec S131072 32 := (fun x i => Host.gather gather_S147456_S131072x1_S131072_n_0_n_n_0_1_1 x i) main_v9 main_v20
  let main_v22 : IVec S131072 1 := cmpi .eq main_v21 main_v1
  (main_v14, main_v22)

def fn {F : FTy → Type} [FloatOps F] (main_arg0 : IVec S4x32768 32) (main_arg1 : FVec F S32768x1024 .f32) : IVec S4x32768 1 × IVec S131072 1 :=
  let main_v0 : IVec S131072 32 := shapeCast S131072 main_arg0 shapeCasts_S4x32768_S131072
  let main_v1 : IVec S131072 32 := iotaInDim S131072 32 0
  let main_c : IVec S_ 32 := constantI S_ 32 0#32
  let main_v2 : IVec S147456 32 := broadcastInDim S147456 ![] bcast_S_S147456 main_c
  let main_c_0 : IVec S_ 32 := constantI S_ 32 0#32
  let main_v3 : IVec S131072 32 := broadcastInDim S131072 ![] bcast_S_S131072 main_c_0
  let main_v4 : IVec S131072 1 := cmpi .slt main_v0 main_v3
  let main_c_1 : IVec S_ 32 := constantI S_ 32 147456#32
  let main_v5 : IVec S131072 32 := broadcastInDim S131072 ![] bcast_S_S131072 main_c_1
  let main_v6 : IVec S131072 32 := addi main_v0 main_v5
  let main_v7 : IVec S131072 32 := select main_v4 main_v6 main_v0
  let main_v8 : IVec S131072x1 32 := broadcastInDim S131072x1 ![0] bcast_S131072_S131072x1_0 main_v7
  let main_v9 : IVec S147456 32 := (fun x i u => Host.scatter scatter_S147456_S131072x1_S131072_n_0_0_1 (fun _ b => b) x i u) main_v2 main_v8 main_v1
  let main_c_2 : IVec S_ 32 := constantI S_ 32 0#32
  let main_v10 : IVec S4x32768 32 := broadcastInDim S4x32768 ![] bcast_S_S4x32768 main_c_2
  let main_v11 : IVec S4x32768 1 := cmpi .sge main_arg0 main_v10
  let main_c_3 : IVec S_ 32 := constantI S_ 32 147456#32
  let main_v12 : IVec S4x32768 32 := broadcastInDim S4x32768 ![] bcast_S_S4x32768 main_c_3
  let main_v13 : IVec S4x32768 1 := cmpi .slt main_arg0 main_v12
  let main_v14 : IVec S4x32768 1 := andi main_v11 main_v13
  let main_c_4 : IVec S_ 32 := constantI S_ 32 0#32
  let main_v15 : IVec S131072 32 := broadcastInDim S131072 ![] bcast_S_S131072 main_c_4
  let main_v16 : IVec S131072 1 := cmpi .slt main_v0 main_v15
  let main_c_5 : IVec S_ 32 := constantI S_ 32 147456#32
  fn_part1 (F := F) main_v0 main_v1 main_v9 main_v14 main_v16 main_c_5
-- ==== Kernel.lean ====
abbrev S4x32768 : Shape := ⟨2, ![4, 32768]⟩
abbrev S32768x1024 : Shape := ⟨2, ![32768, 1024]⟩
abbrev S_ : Shape := ⟨0, ![]⟩
abbrev S147456x1024 : Shape := ⟨2, ![147456, 1024]⟩
abbrev S4x256 : Shape := ⟨2, ![4, 256]⟩
abbrev S256x1024 : Shape := ⟨2, ![256, 1024]⟩
abbrev S1x1 : Shape := ⟨2, ![1, 1]⟩
abbrev S1x1024 : Shape := ⟨2, ![1, 1024]⟩

abbrev nBuf : Space → Nat
  | .hbm => 4
  | .vmem => 2
  | .smem => 2
  | _ => 0

abbrev bufTy : (tb : Table) → Fin (tcTables nBuf tb) → BufTy
  | .hbm, ⟨0, _⟩ => ⟨S4x32768, .i32⟩
  | .hbm, ⟨1, _⟩ => ⟨S32768x1024, .f32⟩
  | .hbm, ⟨2, _⟩ => ⟨S_, .f32⟩
  | .hbm, ⟨3, _⟩ => ⟨S147456x1024, .f32⟩
  | .local _ .vmem, ⟨0, _⟩ => ⟨S256x1024, .f32⟩
  | .local _ .vmem, ⟨1, _⟩ => ⟨S256x1024, .f32⟩
  | .local _ .smem, ⟨0, _⟩ => ⟨S4x256, .i32⟩
  | .local _ .smem, ⟨1, _⟩ => ⟨S4x256, .i32⟩
  | _, _ => ⟨S4x32768, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 2 → Nat :=
  let c0 : Index := 0#32
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let v4 : Index := Scalar.indexCast v3
  ![0, v4.toNat]
def k0_off2 (v5 : BitVec 32) : Fin 2 → Nat :=
  let c0_i32_4 : BitVec 32 := 0#32
  ![v5.toNat, 0]

def k0_chk1 (v5 : BitVec 32) : Prop :=
  (∀ a, (k0_off2 v5) a + S1x1024.size a ≤ S147456x1024.size a)
theorem k0_off2_inb : ∀ (v5 : BitVec 32) (k0_hw1 : k0_chk1 v5), ∀ a, (k0_off2 v5) a + S1x1024.size a ≤ S147456x1024.size a := fun v5 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let c0_i32_5 : BitVec 32 := 0#32
  ![v3.toNat, 0]
def k0_off4 (k0_t1 : Fin k0_t1_loop.trips) : Fin 2 → Nat :=
  let c1 : Index := 1#32
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let v8 : Index := Scalar.indexCast v3
  ![1, v8.toNat]
def k0_off5 (v9 : BitVec 32) : Fin 2 → Nat :=
  let c0_i32_6 : BitVec 32 := 0#32
  ![v9.toNat, 0]

def k0_chk2 (v9 : BitVec 32) : Prop :=
  (∀ a, (k0_off5 v9) a + S1x1024.size a ≤ S147456x1024.size a)
theorem k0_off5_inb : ∀ (v9 : BitVec 32) (k0_hw2 : k0_chk2 v9), ∀ a, (k0_off5 v9) a + S1x1024.size a ≤ S147456x1024.size a := fun v9 k0_hw2 => k0_hw2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let c0_i32_7 : BitVec 32 := 0#32
  ![v3.toNat, 0]
def k0_off7 (k0_t1 : Fin k0_t1_loop.trips) : Fin 2 → Nat :=
  let c2 : Index := 2#32
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let v12 : Index := Scalar.indexCast v3
  ![2, v12.toNat]
def k0_off8 (v13 : BitVec 32) : Fin 2 → Nat :=
  let c0_i32_8 : BitVec 32 := 0#32
  ![v13.toNat, 0]

def k0_chk3 (v13 : BitVec 32) : Prop :=
  (∀ a, (k0_off8 v13) a + S1x1024.size a ≤ S147456x1024.size a)
theorem k0_off8_inb : ∀ (v13 : BitVec 32) (k0_hw3 : k0_chk3 v13), ∀ a, (k0_off8 v13) a + S1x1024.size a ≤ S147456x1024.size a := fun v13 k0_hw3 => k0_hw3

def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let c0_i32_9 : BitVec 32 := 0#32
  ![v3.toNat, 0]
def k0_off10 (k0_t1 : Fin k0_t1_loop.trips) : Fin 2 → Nat :=
  let c3 : Index := 3#32
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let v16 : Index := Scalar.indexCast v3
  ![3, v16.toNat]
def k0_off11 (v17 : BitVec 32) : Fin 2 → Nat :=
  let c0_i32_10 : BitVec 32 := 0#32
  ![v17.toNat, 0]

def k0_chk4 (v17 : BitVec 32) : Prop :=
  (∀ a, (k0_off11 v17) a + S1x1024.size a ≤ S147456x1024.size a)
theorem k0_off11_inb : ∀ (v17 : BitVec 32) (k0_hw4 : k0_chk4 v17), ∀ a, (k0_off11 v17) a + S1x1024.size a ≤ S147456x1024.size a := fun v17 k0_hw4 => k0_hw4

def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let c0_i32_11 : BitVec 32 := 0#32
  ![v3.toNat, 0]
def k0_off13 (k0_t1 : Fin k0_t1_loop.trips) : Fin 2 → Nat :=
  let c0_14 : Index := 0#32
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  let c1_i32_13 : BitVec 32 := 1#32
  let v21 : BitVec 32 := Scalar.addi v20 c1_i32_13
  let v22 : Index := Scalar.indexCast v21
  ![0, v22.toNat]
def k0_off14 (v23 : BitVec 32) : Fin 2 → Nat :=
  let c0_i32_15 : BitVec 32 := 0#32
  ![v23.toNat, 0]

def k0_chk5 (v23 : BitVec 32) : Prop :=
  (∀ a, (k0_off14 v23) a + S1x1024.size a ≤ S147456x1024.size a)
theorem k0_off14_inb : ∀ (v23 : BitVec 32) (k0_hw5 : k0_chk5 v23), ∀ a, (k0_off14 v23) a + S1x1024.size a ≤ S147456x1024.size a := fun v23 k0_hw5 => k0_hw5

def k0_off15 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  let c1_i32_13 : BitVec 32 := 1#32
  let v21 : BitVec 32 := Scalar.addi v20 c1_i32_13
  let c0_i32_16 : BitVec 32 := 0#32
  ![v21.toNat, 0]
def k0_off16 (k0_t1 : Fin k0_t1_loop.trips) : Fin 2 → Nat :=
  let c1_17 : Index := 1#32
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  let c1_i32_13 : BitVec 32 := 1#32
  let v21 : BitVec 32 := Scalar.addi v20 c1_i32_13
  let v26 : Index := Scalar.indexCast v21
  ![1, v26.toNat]
def k0_off17 (v27 : BitVec 32) : Fin 2 → Nat :=
  let c0_i32_18 : BitVec 32 := 0#32
  ![v27.toNat, 0]

def k0_chk6 (v27 : BitVec 32) : Prop :=
  (∀ a, (k0_off17 v27) a + S1x1024.size a ≤ S147456x1024.size a)
theorem k0_off17_inb : ∀ (v27 : BitVec 32) (k0_hw6 : k0_chk6 v27), ∀ a, (k0_off17 v27) a + S1x1024.size a ≤ S147456x1024.size a := fun v27 k0_hw6 => k0_hw6

def k0_off18 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  let c1_i32_13 : BitVec 32 := 1#32
  let v21 : BitVec 32 := Scalar.addi v20 c1_i32_13
  let c0_i32_19 : BitVec 32 := 0#32
  ![v21.toNat, 0]
def k0_off19 (k0_t1 : Fin k0_t1_loop.trips) : Fin 2 → Nat :=
  let c2_20 : Index := 2#32
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  let c1_i32_13 : BitVec 32 := 1#32
  let v21 : BitVec 32 := Scalar.addi v20 c1_i32_13
  let v30 : Index := Scalar.indexCast v21
  ![2, v30.toNat]
def k0_off20 (v31 : BitVec 32) : Fin 2 → Nat :=
  let c0_i32_21 : BitVec 32 := 0#32
  ![v31.toNat, 0]

def k0_chk7 (v31 : BitVec 32) : Prop :=
  (∀ a, (k0_off20 v31) a + S1x1024.size a ≤ S147456x1024.size a)
theorem k0_off20_inb : ∀ (v31 : BitVec 32) (k0_hw7 : k0_chk7 v31), ∀ a, (k0_off20 v31) a + S1x1024.size a ≤ S147456x1024.size a := fun v31 k0_hw7 => k0_hw7

def k0_off21 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  let c1_i32_13 : BitVec 32 := 1#32
  let v21 : BitVec 32 := Scalar.addi v20 c1_i32_13
  let c0_i32_22 : BitVec 32 := 0#32
  ![v21.toNat, 0]
def k0_off22 (k0_t1 : Fin k0_t1_loop.trips) : Fin 2 → Nat :=
  let c3_23 : Index := 3#32
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  let c1_i32_13 : BitVec 32 := 1#32
  let v21 : BitVec 32 := Scalar.addi v20 c1_i32_13
  let v34 : Index := Scalar.indexCast v21
  ![3, v34.toNat]
def k0_off23 (v35 : BitVec 32) : Fin 2 → Nat :=
  let c0_i32_24 : BitVec 32 := 0#32
  ![v35.toNat, 0]

def k0_chk8 (v35 : BitVec 32) : Prop :=
  (∀ a, (k0_off23 v35) a + S1x1024.size a ≤ S147456x1024.size a)
theorem k0_off23_inb : ∀ (v35 : BitVec 32) (k0_hw8 : k0_chk8 v35), ∀ a, (k0_off23 v35) a + S1x1024.size a ≤ S147456x1024.size a := fun v35 k0_hw8 => k0_hw8

def k0_off24 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  let c1_i32_13 : BitVec 32 := 1#32
  let v21 : BitVec 32 := Scalar.addi v20 c1_i32_13
  let c0_i32_25 : BitVec 32 := 0#32
  ![v21.toNat, 0]
def k0_off25 (k0_t1 : Fin k0_t1_loop.trips) : Fin 2 → Nat :=
  let c0_27 : Index := 0#32
  let c0_i32 : BitVec 32 := 0#32
  let c1_i32 : BitVec 32 := 1#32
  let arg6 : BitVec 32 := Scf.iv c0_i32 c1_i32 k0_t1
  let c8_i32_26 : BitVec 32 := 8#32
  let v38 : BitVec 32 := Scalar.muli arg6 c8_i32_26
  let c2_i32 : BitVec 32 := 2#32
  let v39 : BitVec 32 := Scalar.addi v38 c2_i32
  let v40 : Index := Scalar.indexCast v39
  ![0, v40.toNat]
def k0_off26 (v41 : BitVec 32) : Fin 2 → Nat :=
  let c0_i32_28 : BitVec 32 := 0#32
  ![v41.toNat, 0]

def k0_chk9 (v41 : BitVec 32) : Prop :=
  (∀ a, (k0_off26 v41) a + S1x1024.size a ≤ S147456x1024.size a)
theorem k0_off26_inb : ∀ (v41 : BitVec 32) (k0_hw9 : k0_chk9 v41), ∀ a, (k0_off26 v41) a + S1x1024.size a ≤ S147456x1024.size a := fun v41 k0_hw9 => k0_hw9

def k0_off27 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_26 : BitVec 32 := 8#32
  let v38 : BitVec 32 := Scalar.muli arg6 c8_i32_26
  let c2_i32 : BitVec 32 := 2#32
  let v39 : BitVec 32 := Scalar.addi v38 c2_i32
  let c0_i32_29 : BitVec 32 := 0#32
  ![v39.toNat, 0]
def k0_off28 (k0_t1 : Fin k0_t1_loop.trips) : Fin 2 → Nat :=
  let c1_30 : Index := 1#32
  let c0_i32 : BitVec 32 := 0#32
  let c1_i32 : BitVec 32 := 1#32
  let arg6 : BitVec 32 := Scf.iv c0_i32 c1_i32 k0_t1
  let c8_i32_26 : BitVec 32 := 8#32
  let v38 : BitVec 32 := Scalar.muli arg6 c8_i32_26
  let c2_i32 : BitVec 32 := 2#32
  let v39 : BitVec 32 := Scalar.addi v38 c2_i32
  let v44 : Index := Scalar.indexCast v39
  ![1, v44.toNat]
def k0_off29 (v45 : BitVec 32) : Fin 2 → Nat :=
  let c0_i32_31 : BitVec 32 := 0#32
  ![v45.toNat, 0]

def k0_chk10 (v45 : BitVec 32) : Prop :=
  (∀ a, (k0_off29 v45) a + S1x1024.size a ≤ S147456x1024.size a)
theorem k0_off29_inb : ∀ (v45 : BitVec 32) (k0_hw10 : k0_chk10 v45), ∀ a, (k0_off29 v45) a + S1x1024.size a ≤ S147456x1024.size a := fun v45 k0_hw10 => k0_hw10

def k0_off30 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_26 : BitVec 32 := 8#32
  let v38 : BitVec 32 := Scalar.muli arg6 c8_i32_26
  let c2_i32 : BitVec 32 := 2#32
  let v39 : BitVec 32 := Scalar.addi v38 c2_i32
  let c0_i32_32 : BitVec 32 := 0#32
  ![v39.toNat, 0]
def k0_off31 (k0_t1 : Fin k0_t1_loop.trips) : Fin 2 → Nat :=
  let c2_33 : Index := 2#32
  let c0_i32 : BitVec 32 := 0#32
  let c1_i32 : BitVec 32 := 1#32
  let arg6 : BitVec 32 := Scf.iv c0_i32 c1_i32 k0_t1
  let c8_i32_26 : BitVec 32 := 8#32
  let v38 : BitVec 32 := Scalar.muli arg6 c8_i32_26
  let c2_i32 : BitVec 32 := 2#32
  let v39 : BitVec 32 := Scalar.addi v38 c2_i32
  let v48 : Index := Scalar.indexCast v39
  ![2, v48.toNat]
def k0_off32 (v49 : BitVec 32) : Fin 2 → Nat :=
  let c0_i32_34 : BitVec 32 := 0#32
  ![v49.toNat, 0]

def k0_chk11 (v49 : BitVec 32) : Prop :=
  (∀ a, (k0_off32 v49) a + S1x1024.size a ≤ S147456x1024.size a)
theorem k0_off32_inb : ∀ (v49 : BitVec 32) (k0_hw11 : k0_chk11 v49), ∀ a, (k0_off32 v49) a + S1x1024.size a ≤ S147456x1024.size a := fun v49 k0_hw11 => k0_hw11

def k0_off33 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_26 : BitVec 32 := 8#32
  let v38 : BitVec 32 := Scalar.muli arg6 c8_i32_26
  let c2_i32 : BitVec 32 := 2#32
  let v39 : BitVec 32 := Scalar.addi v38 c2_i32
  let c0_i32_35 : BitVec 32 := 0#32
  ![v39.toNat, 0]
def k0_off34 (k0_t1 : Fin k0_t1_loop.trips) : Fin 2 → Nat :=
  let c3_36 : Index := 3#32
  let c0_i32 : BitVec 32 := 0#32
  let c1_i32 : BitVec 32 := 1#32
  let arg6 : BitVec 32 := Scf.iv c0_i32 c1_i32 k0_t1
  let c8_i32_26 : BitVec 32 := 8#32
  let v38 : BitVec 32 := Scalar.muli arg6 c8_i32_26
  let c2_i32 : BitVec 32 := 2#32
  let v39 : BitVec 32 := Scalar.addi v38 c2_i32
  let v52 : Index := Scalar.indexCast v39
  ![3, v52.toNat]
def k0_off35 (v53 : BitVec 32) : Fin 2 → Nat :=
  let c0_i32_37 : BitVec 32 := 0#32
  ![v53.toNat, 0]

def k0_chk12 (v53 : BitVec 32) : Prop :=
  (∀ a, (k0_off35 v53) a + S1x1024.size a ≤ S147456x1024.size a)
theorem k0_off35_inb : ∀ (v53 : BitVec 32) (k0_hw12 : k0_chk12 v53), ∀ a, (k0_off35 v53) a + S1x1024.size a ≤ S147456x1024.size a := fun v53 k0_hw12 => k0_hw12

def k0_off36 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_26 : BitVec 32 := 8#32
  let v38 : BitVec 32 := Scalar.muli arg6 c8_i32_26
  let c2_i32 : BitVec 32 := 2#32
  let v39 : BitVec 32 := Scalar.addi v38 c2_i32
  let c0_i32_38 : BitVec 32 := 0#32
  ![v39.toNat, 0]
def k0_off37 (k0_t1 : Fin k0_t1_loop.trips) : Fin 2 → Nat :=
  let c0_40 : Index := 0#32
  let c0_i32 : BitVec 32 := 0#32
  let c1_i32 : BitVec 32 := 1#32
  let arg6 : BitVec 32 := Scf.iv c0_i32 c1_i32 k0_t1
  let c8_i32_39 : BitVec 32 := 8#32
  let v56 : BitVec 32 := Scalar.muli arg6 c8_i32_39
  let c3_i32 : BitVec 32 := 3#32
  let v57 : BitVec 32 := Scalar.addi v56 c3_i32
  let v58 : Index := Scalar.indexCast v57
  ![0, v58.toNat]
def k0_off38 (v59 : BitVec 32) : Fin 2 → Nat :=
  let c0_i32_41 : BitVec 32 := 0#32
  ![v59.toNat, 0]

def k0_chk13 (v59 : BitVec 32) : Prop :=
  (∀ a, (k0_off38 v59) a + S1x1024.size a ≤ S147456x1024.size a)
theorem k0_off38_inb : ∀ (v59 : BitVec 32) (k0_hw13 : k0_chk13 v59), ∀ a, (k0_off38 v59) a + S1x1024.size a ≤ S147456x1024.size a := fun v59 k0_hw13 => k0_hw13

def k0_off39 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_39 : BitVec 32 := 8#32
  let v56 : BitVec 32 := Scalar.muli arg6 c8_i32_39
  let c3_i32 : BitVec 32 := 3#32
  let v57 : BitVec 32 := Scalar.addi v56 c3_i32
  let c0_i32_42 : BitVec 32 := 0#32
  ![v57.toNat, 0]
def k0_off40 (k0_t1 : Fin k0_t1_loop.trips) : Fin 2 → Nat :=
  let c1_43 : Index := 1#32
  let c0_i32 : BitVec 32 := 0#32
  let c1_i32 : BitVec 32 := 1#32
  let arg6 : BitVec 32 := Scf.iv c0_i32 c1_i32 k0_t1
  let c8_i32_39 : BitVec 32 := 8#32
  let v56 : BitVec 32 := Scalar.muli arg6 c8_i32_39
  let c3_i32 : BitVec 32 := 3#32
  let v57 : BitVec 32 := Scalar.addi v56 c3_i32
  let v62 : Index := Scalar.indexCast v57
  ![1, v62.toNat]
def k0_off41 (v63 : BitVec 32) : Fin 2 → Nat :=
  let c0_i32_44 : BitVec 32 := 0#32
  ![v63.toNat, 0]

def k0_chk14 (v63 : BitVec 32) : Prop :=
  (∀ a, (k0_off41 v63) a + S1x1024.size a ≤ S147456x1024.size a)
theorem k0_off41_inb : ∀ (v63 : BitVec 32) (k0_hw14 : k0_chk14 v63), ∀ a, (k0_off41 v63) a + S1x1024.size a ≤ S147456x1024.size a := fun v63 k0_hw14 => k0_hw14

def k0_off42 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_39 : BitVec 32 := 8#32
  let v56 : BitVec 32 := Scalar.muli arg6 c8_i32_39
  let c3_i32 : BitVec 32 := 3#32
  let v57 : BitVec 32 := Scalar.addi v56 c3_i32
  let c0_i32_45 : BitVec 32 := 0#32
  ![v57.toNat, 0]
def k0_off43 (k0_t1 : Fin k0_t1_loop.trips) : Fin 2 → Nat :=
  let c2_46 : Index := 2#32
  let c0_i32 : BitVec 32 := 0#32
  let c1_i32 : BitVec 32 := 1#32
  let arg6 : BitVec 32 := Scf.iv c0_i32 c1_i32 k0_t1
  let c8_i32_39 : BitVec 32 := 8#32
  let v56 : BitVec 32 := Scalar.muli arg6 c8_i32_39
  let c3_i32 : BitVec 32 := 3#32
  let v57 : BitVec 32 := Scalar.addi v56 c3_i32
  let v66 : Index := Scalar.indexCast v57
  ![2, v66.toNat]
def k0_off44 (v67 : BitVec 32) : Fin 2 → Nat :=
  let c0_i32_47 : BitVec 32 := 0#32
  ![v67.toNat, 0]

def k0_chk15 (v67 : BitVec 32) : Prop :=
  (∀ a, (k0_off44 v67) a + S1x1024.size a ≤ S147456x1024.size a)
theorem k0_off44_inb : ∀ (v67 : BitVec 32) (k0_hw15 : k0_chk15 v67), ∀ a, (k0_off44 v67) a + S1x1024.size a ≤ S147456x1024.size a := fun v67 k0_hw15 => k0_hw15

def k0_off45 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_39 : BitVec 32 := 8#32
  let v56 : BitVec 32 := Scalar.muli arg6 c8_i32_39
  let c3_i32 : BitVec 32 := 3#32
  let v57 : BitVec 32 := Scalar.addi v56 c3_i32
  let c0_i32_48 : BitVec 32 := 0#32
  ![v57.toNat, 0]
def k0_off46 (k0_t1 : Fin k0_t1_loop.trips) : Fin 2 → Nat :=
  let c3_49 : Index := 3#32
  let c0_i32 : BitVec 32 := 0#32
  let c1_i32 : BitVec 32 := 1#32
  let arg6 : BitVec 32 := Scf.iv c0_i32 c1_i32 k0_t1
  let c8_i32_39 : BitVec 32 := 8#32
  let v56 : BitVec 32 := Scalar.muli arg6 c8_i32_39
  let c3_i32 : BitVec 32 := 3#32
  let v57 : BitVec 32 := Scalar.addi v56 c3_i32
  let v70 : Index := Scalar.indexCast v57
  ![3, v70.toNat]
def k0_off47 (v71 : BitVec 32) : Fin 2 → Nat :=
  let c0_i32_50 : BitVec 32 := 0#32
  ![v71.toNat, 0]

def k0_chk16 (v71 : BitVec 32) : Prop :=
  (∀ a, (k0_off47 v71) a + S1x1024.size a ≤ S147456x1024.size a)
theorem k0_off47_inb : ∀ (v71 : BitVec 32) (k0_hw16 : k0_chk16 v71), ∀ a, (k0_off47 v71) a + S1x1024.size a ≤ S147456x1024.size a := fun v71 k0_hw16 => k0_hw16

def k0_off48 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_39 : BitVec 32 := 8#32
  let v56 : BitVec 32 := Scalar.muli arg6 c8_i32_39
  let c3_i32 : BitVec 32 := 3#32
  let v57 : BitVec 32 := Scalar.addi v56 c3_i32
  let c0_i32_51 : BitVec 32 := 0#32
  ![v57.toNat, 0]
def k0_off49 (k0_t1 : Fin k0_t1_loop.trips) : Fin 2 → Nat :=
  let c0_53 : Index := 0#32
  let c0_i32 : BitVec 32 := 0#32
  let c1_i32 : BitVec 32 := 1#32
  let arg6 : BitVec 32 := Scf.iv c0_i32 c1_i32 k0_t1
  let c8_i32_52 : BitVec 32 := 8#32
  let v74 : BitVec 32 := Scalar.muli arg6 c8_i32_52
  let c4_i32 : BitVec 32 := 4#32
  let v75 : BitVec 32 := Scalar.addi v74 c4_i32
  let v76 : Index := Scalar.indexCast v75
  ![0, v76.toNat]
def k0_off50 (v77 : BitVec 32) : Fin 2 → Nat :=
  let c0_i32_54 : BitVec 32 := 0#32
  ![v77.toNat, 0]

def k0_chk17 (v77 : BitVec 32) : Prop :=
  (∀ a, (k0_off50 v77) a + S1x1024.size a ≤ S147456x1024.size a)
theorem k0_off50_inb : ∀ (v77 : BitVec 32) (k0_hw17 : k0_chk17 v77), ∀ a, (k0_off50 v77) a + S1x1024.size a ≤ S147456x1024.size a := fun v77 k0_hw17 => k0_hw17

def k0_off51 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_52 : BitVec 32 := 8#32
  let v74 : BitVec 32 := Scalar.muli arg6 c8_i32_52
  let c4_i32 : BitVec 32 := 4#32
  let v75 : BitVec 32 := Scalar.addi v74 c4_i32
  let c0_i32_55 : BitVec 32 := 0#32
  ![v75.toNat, 0]
def k0_off52 (k0_t1 : Fin k0_t1_loop.trips) : Fin 2 → Nat :=
  let c1_56 : Index := 1#32
  let c0_i32 : BitVec 32 := 0#32
  let c1_i32 : BitVec 32 := 1#32
  let arg6 : BitVec 32 := Scf.iv c0_i32 c1_i32 k0_t1
  let c8_i32_52 : BitVec 32 := 8#32
  let v74 : BitVec 32 := Scalar.muli arg6 c8_i32_52
  let c4_i32 : BitVec 32 := 4#32
  let v75 : BitVec 32 := Scalar.addi v74 c4_i32
  let v80 : Index := Scalar.indexCast v75
  ![1, v80.toNat]
def k0_off53 (v81 : BitVec 32) : Fin 2 → Nat :=
  let c0_i32_57 : BitVec 32 := 0#32
  ![v81.toNat, 0]

def k0_chk18 (v81 : BitVec 32) : Prop :=
  (∀ a, (k0_off53 v81) a + S1x1024.size a ≤ S147456x1024.size a)
theorem k0_off53_inb : ∀ (v81 : BitVec 32) (k0_hw18 : k0_chk18 v81), ∀ a, (k0_off53 v81) a + S1x1024.size a ≤ S147456x1024.size a := fun v81 k0_hw18 => k0_hw18

def k0_off54 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_52 : BitVec 32 := 8#32
  let v74 : BitVec 32 := Scalar.muli arg6 c8_i32_52
  let c4_i32 : BitVec 32 := 4#32
  let v75 : BitVec 32 := Scalar.addi v74 c4_i32
  let c0_i32_58 : BitVec 32 := 0#32
  ![v75.toNat, 0]
def k0_off55 (k0_t1 : Fin k0_t1_loop.trips) : Fin 2 → Nat :=
  let c2_59 : Index := 2#32
  let c0_i32 : BitVec 32 := 0#32
  let c1_i32 : BitVec 32 := 1#32
  let arg6 : BitVec 32 := Scf.iv c0_i32 c1_i32 k0_t1
  let c8_i32_52 : BitVec 32 := 8#32
  let v74 : BitVec 32 := Scalar.muli arg6 c8_i32_52
  let c4_i32 : BitVec 32 := 4#32
  let v75 : BitVec 32 := Scalar.addi v74 c4_i32
  let v84 : Index := Scalar.indexCast v75
  ![2, v84.toNat]
def k0_off56 (v85 : BitVec 32) : Fin 2 → Nat :=
  let c0_i32_60 : BitVec 32 := 0#32
  ![v85.toNat, 0]

def k0_chk19 (v85 : BitVec 32) : Prop :=
  (∀ a, (k0_off56 v85) a + S1x1024.size a ≤ S147456x1024.size a)
theorem k0_off56_inb : ∀ (v85 : BitVec 32) (k0_hw19 : k0_chk19 v85), ∀ a, (k0_off56 v85) a + S1x1024.size a ≤ S147456x1024.size a := fun v85 k0_hw19 => k0_hw19

def k0_off57 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_52 : BitVec 32 := 8#32
  let v74 : BitVec 32 := Scalar.muli arg6 c8_i32_52
  let c4_i32 : BitVec 32 := 4#32
  let v75 : BitVec 32 := Scalar.addi v74 c4_i32
  let c0_i32_61 : BitVec 32 := 0#32
  ![v75.toNat, 0]
def k0_off58 (k0_t1 : Fin k0_t1_loop.trips) : Fin 2 → Nat :=
  let c3_62 : Index := 3#32
  let c0_i32 : BitVec 32 := 0#32
  let c1_i32 : BitVec 32 := 1#32
  let arg6 : BitVec 32 := Scf.iv c0_i32 c1_i32 k0_t1
  let c8_i32_52 : BitVec 32 := 8#32
  let v74 : BitVec 32 := Scalar.muli arg6 c8_i32_52
  let c4_i32 : BitVec 32 := 4#32
  let v75 : BitVec 32 := Scalar.addi v74 c4_i32
  let v88 : Index := Scalar.indexCast v75
  ![3, v88.toNat]
def k0_off59 (v89 : BitVec 32) : Fin 2 → Nat :=
  let c0_i32_63 : BitVec 32 := 0#32
  ![v89.toNat, 0]

def k0_chk20 (v89 : BitVec 32) : Prop :=
  (∀ a, (k0_off59 v89) a + S1x1024.size a ≤ S147456x1024.size a)
theorem k0_off59_inb : ∀ (v89 : BitVec 32) (k0_hw20 : k0_chk20 v89), ∀ a, (k0_off59 v89) a + S1x1024.size a ≤ S147456x1024.size a := fun v89 k0_hw20 => k0_hw20

def k0_off60 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_52 : BitVec 32 := 8#32
  let v74 : BitVec 32 := Scalar.muli arg6 c8_i32_52
  let c4_i32 : BitVec 32 := 4#32
  let v75 : BitVec 32 := Scalar.addi v74 c4_i32
  let c0_i32_64 : BitVec 32 := 0#32
  ![v75.toNat, 0]
def k0_off61 (k0_t1 : Fin k0_t1_loop.trips) : Fin 2 → Nat :=
  let c0_66 : Index := 0#32
  let c0_i32 : BitVec 32 := 0#32
  let c1_i32 : BitVec 32 := 1#32
  let arg6 : BitVec 32 := Scf.iv c0_i32 c1_i32 k0_t1
  let c8_i32_65 : BitVec 32 := 8#32
  let v92 : BitVec 32 := Scalar.muli arg6 c8_i32_65
  let c5_i32 : BitVec 32 := 5#32
  let v93 : BitVec 32 := Scalar.addi v92 c5_i32
  let v94 : Index := Scalar.indexCast v93
  ![0, v94.toNat]
def k0_off62 (v95 : BitVec 32) : Fin 2 → Nat :=
  let c0_i32_67 : BitVec 32 := 0#32
  ![v95.toNat, 0]

def k0_chk21 (v95 : BitVec 32) : Prop :=
  (∀ a, (k0_off62 v95) a + S1x1024.size a ≤ S147456x1024.size a)
theorem k0_off62_inb : ∀ (v95 : BitVec 32) (k0_hw21 : k0_chk21 v95), ∀ a, (k0_off62 v95) a + S1x1024.size a ≤ S147456x1024.size a := fun v95 k0_hw21 => k0_hw21

def k0_off63 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_65 : BitVec 32 := 8#32
  let v92 : BitVec 32 := Scalar.muli arg6 c8_i32_65
  let c5_i32 : BitVec 32 := 5#32
  let v93 : BitVec 32 := Scalar.addi v92 c5_i32
  let c0_i32_68 : BitVec 32 := 0#32
  ![v93.toNat, 0]
def k0_off64 (k0_t1 : Fin k0_t1_loop.trips) : Fin 2 → Nat :=
  let c1_69 : Index := 1#32
  let c0_i32 : BitVec 32 := 0#32
  let c1_i32 : BitVec 32 := 1#32
  let arg6 : BitVec 32 := Scf.iv c0_i32 c1_i32 k0_t1
  let c8_i32_65 : BitVec 32 := 8#32
  let v92 : BitVec 32 := Scalar.muli arg6 c8_i32_65
  let c5_i32 : BitVec 32 := 5#32
  let v93 : BitVec 32 := Scalar.addi v92 c5_i32
  let v98 : Index := Scalar.indexCast v93
  ![1, v98.toNat]
def k0_off65 (v99 : BitVec 32) : Fin 2 → Nat :=
  let c0_i32_70 : BitVec 32 := 0#32
  ![v99.toNat, 0]

def k0_chk22 (v99 : BitVec 32) : Prop :=
  (∀ a, (k0_off65 v99) a + S1x1024.size a ≤ S147456x1024.size a)
theorem k0_off65_inb : ∀ (v99 : BitVec 32) (k0_hw22 : k0_chk22 v99), ∀ a, (k0_off65 v99) a + S1x1024.size a ≤ S147456x1024.size a := fun v99 k0_hw22 => k0_hw22

def k0_off66 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_65 : BitVec 32 := 8#32
  let v92 : BitVec 32 := Scalar.muli arg6 c8_i32_65
  let c5_i32 : BitVec 32 := 5#32
  let v93 : BitVec 32 := Scalar.addi v92 c5_i32
  let c0_i32_71 : BitVec 32 := 0#32
  ![v93.toNat, 0]
def k0_off67 (k0_t1 : Fin k0_t1_loop.trips) : Fin 2 → Nat :=
  let c2_72 : Index := 2#32
  let c0_i32 : BitVec 32 := 0#32
  let c1_i32 : BitVec 32 := 1#32
  let arg6 : BitVec 32 := Scf.iv c0_i32 c1_i32 k0_t1
  let c8_i32_65 : BitVec 32 := 8#32
  let v92 : BitVec 32 := Scalar.muli arg6 c8_i32_65
  let c5_i32 : BitVec 32 := 5#32
  let v93 : BitVec 32 := Scalar.addi v92 c5_i32
  let v102 : Index := Scalar.indexCast v93
  ![2, v102.toNat]
def k0_off68 (v103 : BitVec 32) : Fin 2 → Nat :=
  let c0_i32_73 : BitVec 32 := 0#32
  ![v103.toNat, 0]

def k0_chk23 (v103 : BitVec 32) : Prop :=
  (∀ a, (k0_off68 v103) a + S1x1024.size a ≤ S147456x1024.size a)
theorem k0_off68_inb : ∀ (v103 : BitVec 32) (k0_hw23 : k0_chk23 v103), ∀ a, (k0_off68 v103) a + S1x1024.size a ≤ S147456x1024.size a := fun v103 k0_hw23 => k0_hw23

def k0_off69 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_65 : BitVec 32 := 8#32
  let v92 : BitVec 32 := Scalar.muli arg6 c8_i32_65
  let c5_i32 : BitVec 32 := 5#32
  let v93 : BitVec 32 := Scalar.addi v92 c5_i32
  let c0_i32_74 : BitVec 32 := 0#32
  ![v93.toNat, 0]
def k0_off70 (k0_t1 : Fin k0_t1_loop.trips) : Fin 2 → Nat :=
  let c3_75 : Index := 3#32
  let c0_i32 : BitVec 32 := 0#32
  let c1_i32 : BitVec 32 := 1#32
  let arg6 : BitVec 32 := Scf.iv c0_i32 c1_i32 k0_t1
  let c8_i32_65 : BitVec 32 := 8#32
  let v92 : BitVec 32 := Scalar.muli arg6 c8_i32_65
  let c5_i32 : BitVec 32 := 5#32
  let v93 : BitVec 32 := Scalar.addi v92 c5_i32
  let v106 : Index := Scalar.indexCast v93
  ![3, v106.toNat]
def k0_off71 (v107 : BitVec 32) : Fin 2 → Nat :=
  let c0_i32_76 : BitVec 32 := 0#32
  ![v107.toNat, 0]

def k0_chk24 (v107 : BitVec 32) : Prop :=
  (∀ a, (k0_off71 v107) a + S1x1024.size a ≤ S147456x1024.size a)
theorem k0_off71_inb : ∀ (v107 : BitVec 32) (k0_hw24 : k0_chk24 v107), ∀ a, (k0_off71 v107) a + S1x1024.size a ≤ S147456x1024.size a := fun v107 k0_hw24 => k0_hw24

def k0_off72 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_65 : BitVec 32 := 8#32
  let v92 : BitVec 32 := Scalar.muli arg6 c8_i32_65
  let c5_i32 : BitVec 32 := 5#32
  let v93 : BitVec 32 := Scalar.addi v92 c5_i32
  let c0_i32_77 : BitVec 32 := 0#32
  ![v93.toNat, 0]
def k0_off73 (k0_t1 : Fin k0_t1_loop.trips) : Fin 2 → Nat :=
  let c0_79 : Index := 0#32
  let c0_i32 : BitVec 32 := 0#32
  let c1_i32 : BitVec 32 := 1#32
  let arg6 : BitVec 32 := Scf.iv c0_i32 c1_i32 k0_t1
  let c8_i32_78 : BitVec 32 := 8#32
  let v110 : BitVec 32 := Scalar.muli arg6 c8_i32_78
  let c6_i32 : BitVec 32 := 6#32
  let v111 : BitVec 32 := Scalar.addi v110 c6_i32
  let v112 : Index := Scalar.indexCast v111
  ![0, v112.toNat]
def k0_off74 (v113 : BitVec 32) : Fin 2 → Nat :=
  let c0_i32_80 : BitVec 32 := 0#32
  ![v113.toNat, 0]

def k0_chk25 (v113 : BitVec 32) : Prop :=
  (∀ a, (k0_off74 v113) a + S1x1024.size a ≤ S147456x1024.size a)
theorem k0_off74_inb : ∀ (v113 : BitVec 32) (k0_hw25 : k0_chk25 v113), ∀ a, (k0_off74 v113) a + S1x1024.size a ≤ S147456x1024.size a := fun v113 k0_hw25 => k0_hw25

def k0_off75 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_78 : BitVec 32 := 8#32
  let v110 : BitVec 32 := Scalar.muli arg6 c8_i32_78
  let c6_i32 : BitVec 32 := 6#32
  let v111 : BitVec 32 := Scalar.addi v110 c6_i32
  let c0_i32_81 : BitVec 32 := 0#32
  ![v111.toNat, 0]
def k0_off76 (k0_t1 : Fin k0_t1_loop.trips) : Fin 2 → Nat :=
  let c1_82 : Index := 1#32
  let c0_i32 : BitVec 32 := 0#32
  let c1_i32 : BitVec 32 := 1#32
  let arg6 : BitVec 32 := Scf.iv c0_i32 c1_i32 k0_t1
  let c8_i32_78 : BitVec 32 := 8#32
  let v110 : BitVec 32 := Scalar.muli arg6 c8_i32_78
  let c6_i32 : BitVec 32 := 6#32
  let v111 : BitVec 32 := Scalar.addi v110 c6_i32
  let v116 : Index := Scalar.indexCast v111
  ![1, v116.toNat]
def k0_off77 (v117 : BitVec 32) : Fin 2 → Nat :=
  let c0_i32_83 : BitVec 32 := 0#32
  ![v117.toNat, 0]

def k0_chk26 (v117 : BitVec 32) : Prop :=
  (∀ a, (k0_off77 v117) a + S1x1024.size a ≤ S147456x1024.size a)
theorem k0_off77_inb : ∀ (v117 : BitVec 32) (k0_hw26 : k0_chk26 v117), ∀ a, (k0_off77 v117) a + S1x1024.size a ≤ S147456x1024.size a := fun v117 k0_hw26 => k0_hw26

def k0_off78 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_78 : BitVec 32 := 8#32
  let v110 : BitVec 32 := Scalar.muli arg6 c8_i32_78
  let c6_i32 : BitVec 32 := 6#32
  let v111 : BitVec 32 := Scalar.addi v110 c6_i32
  let c0_i32_84 : BitVec 32 := 0#32
  ![v111.toNat, 0]
def k0_off79 (k0_t1 : Fin k0_t1_loop.trips) : Fin 2 → Nat :=
  let c2_85 : Index := 2#32
  let c0_i32 : BitVec 32 := 0#32
  let c1_i32 : BitVec 32 := 1#32
  let arg6 : BitVec 32 := Scf.iv c0_i32 c1_i32 k0_t1
  let c8_i32_78 : BitVec 32 := 8#32
  let v110 : BitVec 32 := Scalar.muli arg6 c8_i32_78
  let c6_i32 : BitVec 32 := 6#32
  let v111 : BitVec 32 := Scalar.addi v110 c6_i32
  let v120 : Index := Scalar.indexCast v111
  ![2, v120.toNat]
def k0_off80 (v121 : BitVec 32) : Fin 2 → Nat :=
  let c0_i32_86 : BitVec 32 := 0#32
  ![v121.toNat, 0]

def k0_chk27 (v121 : BitVec 32) : Prop :=
  (∀ a, (k0_off80 v121) a + S1x1024.size a ≤ S147456x1024.size a)
theorem k0_off80_inb : ∀ (v121 : BitVec 32) (k0_hw27 : k0_chk27 v121), ∀ a, (k0_off80 v121) a + S1x1024.size a ≤ S147456x1024.size a := fun v121 k0_hw27 => k0_hw27

def k0_off81 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_78 : BitVec 32 := 8#32
  let v110 : BitVec 32 := Scalar.muli arg6 c8_i32_78
  let c6_i32 : BitVec 32 := 6#32
  let v111 : BitVec 32 := Scalar.addi v110 c6_i32
  let c0_i32_87 : BitVec 32 := 0#32
  ![v111.toNat, 0]
def k0_off82 (k0_t1 : Fin k0_t1_loop.trips) : Fin 2 → Nat :=
  let c3_88 : Index := 3#32
  let c0_i32 : BitVec 32 := 0#32
  let c1_i32 : BitVec 32 := 1#32
  let arg6 : BitVec 32 := Scf.iv c0_i32 c1_i32 k0_t1
  let c8_i32_78 : BitVec 32 := 8#32
  let v110 : BitVec 32 := Scalar.muli arg6 c8_i32_78
  let c6_i32 : BitVec 32 := 6#32
  let v111 : BitVec 32 := Scalar.addi v110 c6_i32
  let v124 : Index := Scalar.indexCast v111
  ![3, v124.toNat]
def k0_off83 (v125 : BitVec 32) : Fin 2 → Nat :=
  let c0_i32_89 : BitVec 32 := 0#32
  ![v125.toNat, 0]

def k0_chk28 (v125 : BitVec 32) : Prop :=
  (∀ a, (k0_off83 v125) a + S1x1024.size a ≤ S147456x1024.size a)
theorem k0_off83_inb : ∀ (v125 : BitVec 32) (k0_hw28 : k0_chk28 v125), ∀ a, (k0_off83 v125) a + S1x1024.size a ≤ S147456x1024.size a := fun v125 k0_hw28 => k0_hw28

def k0_off84 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_78 : BitVec 32 := 8#32
  let v110 : BitVec 32 := Scalar.muli arg6 c8_i32_78
  let c6_i32 : BitVec 32 := 6#32
  let v111 : BitVec 32 := Scalar.addi v110 c6_i32
  let c0_i32_90 : BitVec 32 := 0#32
  ![v111.toNat, 0]
def k0_off85 (k0_t1 : Fin k0_t1_loop.trips) : Fin 2 → Nat :=
  let c0_92 : Index := 0#32
  let c0_i32 : BitVec 32 := 0#32
  let c1_i32 : BitVec 32 := 1#32
  let arg6 : BitVec 32 := Scf.iv c0_i32 c1_i32 k0_t1
  let c8_i32_91 : BitVec 32 := 8#32
  let v128 : BitVec 32 := Scalar.muli arg6 c8_i32_91
  let c7_i32 : BitVec 32 := 7#32
  let v129 : BitVec 32 := Scalar.addi v128 c7_i32
  let v130 : Index := Scalar.indexCast v129
  ![0, v130.toNat]
def k0_off86 (v131 : BitVec 32) : Fin 2 → Nat :=
  let c0_i32_93 : BitVec 32 := 0#32
  ![v131.toNat, 0]

def k0_chk29 (v131 : BitVec 32) : Prop :=
  (∀ a, (k0_off86 v131) a + S1x1024.size a ≤ S147456x1024.size a)
theorem k0_off86_inb : ∀ (v131 : BitVec 32) (k0_hw29 : k0_chk29 v131), ∀ a, (k0_off86 v131) a + S1x1024.size a ≤ S147456x1024.size a := fun v131 k0_hw29 => k0_hw29

def k0_off87 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_91 : BitVec 32 := 8#32
  let v128 : BitVec 32 := Scalar.muli arg6 c8_i32_91
  let c7_i32 : BitVec 32 := 7#32
  let v129 : BitVec 32 := Scalar.addi v128 c7_i32
  let c0_i32_94 : BitVec 32 := 0#32
  ![v129.toNat, 0]
def k0_off88 (k0_t1 : Fin k0_t1_loop.trips) : Fin 2 → Nat :=
  let c1_95 : Index := 1#32
  let c0_i32 : BitVec 32 := 0#32
  let c1_i32 : BitVec 32 := 1#32
  let arg6 : BitVec 32 := Scf.iv c0_i32 c1_i32 k0_t1
  let c8_i32_91 : BitVec 32 := 8#32
  let v128 : BitVec 32 := Scalar.muli arg6 c8_i32_91
  let c7_i32 : BitVec 32 := 7#32
  let v129 : BitVec 32 := Scalar.addi v128 c7_i32
  let v134 : Index := Scalar.indexCast v129
  ![1, v134.toNat]
def k0_off89 (v135 : BitVec 32) : Fin 2 → Nat :=
  let c0_i32_96 : BitVec 32 := 0#32
  ![v135.toNat, 0]

def k0_chk30 (v135 : BitVec 32) : Prop :=
  (∀ a, (k0_off89 v135) a + S1x1024.size a ≤ S147456x1024.size a)
theorem k0_off89_inb : ∀ (v135 : BitVec 32) (k0_hw30 : k0_chk30 v135), ∀ a, (k0_off89 v135) a + S1x1024.size a ≤ S147456x1024.size a := fun v135 k0_hw30 => k0_hw30

def k0_off90 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_91 : BitVec 32 := 8#32
  let v128 : BitVec 32 := Scalar.muli arg6 c8_i32_91
  let c7_i32 : BitVec 32 := 7#32
  let v129 : BitVec 32 := Scalar.addi v128 c7_i32
  let c0_i32_97 : BitVec 32 := 0#32
  ![v129.toNat, 0]
def k0_off91 (k0_t1 : Fin k0_t1_loop.trips) : Fin 2 → Nat :=
  let c2_98 : Index := 2#32
  let c0_i32 : BitVec 32 := 0#32
  let c1_i32 : BitVec 32 := 1#32
  let arg6 : BitVec 32 := Scf.iv c0_i32 c1_i32 k0_t1
  let c8_i32_91 : BitVec 32 := 8#32
  let v128 : BitVec 32 := Scalar.muli arg6 c8_i32_91
  let c7_i32 : BitVec 32 := 7#32
  let v129 : BitVec 32 := Scalar.addi v128 c7_i32
  let v138 : Index := Scalar.indexCast v129
  ![2, v138.toNat]
def k0_off92 (v139 : BitVec 32) : Fin 2 → Nat :=
  let c0_i32_99 : BitVec 32 := 0#32
  ![v139.toNat, 0]

def k0_chk31 (v139 : BitVec 32) : Prop :=
  (∀ a, (k0_off92 v139) a + S1x1024.size a ≤ S147456x1024.size a)
theorem k0_off92_inb : ∀ (v139 : BitVec 32) (k0_hw31 : k0_chk31 v139), ∀ a, (k0_off92 v139) a + S1x1024.size a ≤ S147456x1024.size a := fun v139 k0_hw31 => k0_hw31

def k0_off93 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_91 : BitVec 32 := 8#32
  let v128 : BitVec 32 := Scalar.muli arg6 c8_i32_91
  let c7_i32 : BitVec 32 := 7#32
  let v129 : BitVec 32 := Scalar.addi v128 c7_i32
  let c0_i32_100 : BitVec 32 := 0#32
  ![v129.toNat, 0]
def k0_off94 (k0_t1 : Fin k0_t1_loop.trips) : Fin 2 → Nat :=
  let c3_101 : Index := 3#32
  let c0_i32 : BitVec 32 := 0#32
  let c1_i32 : BitVec 32 := 1#32
  let arg6 : BitVec 32 := Scf.iv c0_i32 c1_i32 k0_t1
  let c8_i32_91 : BitVec 32 := 8#32
  let v128 : BitVec 32 := Scalar.muli arg6 c8_i32_91
  let c7_i32 : BitVec 32 := 7#32
  let v129 : BitVec 32 := Scalar.addi v128 c7_i32
  let v142 : Index := Scalar.indexCast v129
  ![3, v142.toNat]
def k0_off95 (v143 : BitVec 32) : Fin 2 → Nat :=
  let c0_i32_102 : BitVec 32 := 0#32
  ![v143.toNat, 0]

def k0_chk32 (v143 : BitVec 32) : Prop :=
  (∀ a, (k0_off95 v143) a + S1x1024.size a ≤ S147456x1024.size a)
theorem k0_off95_inb : ∀ (v143 : BitVec 32) (k0_hw32 : k0_chk32 v143), ∀ a, (k0_off95 v143) a + S1x1024.size a ≤ S147456x1024.size a := fun v143 k0_hw32 => k0_hw32

def k0_off96 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_91 : BitVec 32 := 8#32
  let v128 : BitVec 32 := Scalar.muli arg6 c8_i32_91
  let c7_i32 : BitVec 32 := 7#32
  let v129 : BitVec 32 := Scalar.addi v128 c7_i32
  let c0_i32_103 : BitVec 32 := 0#32
  ![v129.toNat, 0]
@[reducible] def k0_t2_loop : Scf.Loop 32 :=
  let c0_i32_1 : BitVec 32 := 0#32
  let c256_i32 : BitVec 32 := 256#32
  let v1 : BitVec 32 := Scalar.addi c0_i32_1 c256_i32
  let c1_i32_2 : BitVec 32 := 1#32
  ⟨c0_i32_1, v1, c1_i32_2⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S4x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x32768 : Shape := ⟨2, ![4, 32768]⟩
abbrev S32768x1024 : Shape := ⟨2, ![32768, 1024]⟩
abbrev S_ : Shape := ⟨0, ![]⟩
abbrev S147456x1024 : Shape := ⟨2, ![147456, 1024]⟩
abbrev S1x32768 : Shape := ⟨2, ![1, 32768]⟩
abbrev S32768 : Shape := ⟨1, ![32768]⟩
abbrev S32768x1 : Shape := ⟨2, ![32768, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x32768, .i32⟩
  | .hbm, ⟨1, _⟩ => ⟨S32768x1024, .f32⟩
  | .hbm, ⟨2, _⟩ => ⟨S_, .f32⟩
  | .hbm, ⟨3, _⟩ => ⟨S147456x1024, .f32⟩
  | .hbm, ⟨4, _⟩ => ⟨S1x32768, .i32⟩
  | .hbm, ⟨5, _⟩ => ⟨S32768, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S147456x1024, .f32⟩
  | .hbm, ⟨15, _⟩ => ⟨S1x32768, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S147456x1024, .f32⟩
  | .hbm, ⟨26, _⟩ => ⟨S1x32768, .i32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S147456x1024, .f32⟩
  | .hbm, ⟨37, _⟩ => ⟨S1x32768, .i32⟩
  | .hbm, ⟨38, _⟩ => ⟨S32768, .i32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S32768x1, .i32⟩
  | .hbm, ⟨47, _⟩ => ⟨S147456x1024, .f32⟩
  | _, _ => ⟨S4x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_5 : Ref sig .tc := ⟨.hbm, 39, rfl⟩
abbrev main_v30 : Ref sig .tc := ⟨.hbm, 40, rfl⟩
abbrev main_v31 : Ref sig .tc := ⟨.hbm, 41, rfl⟩
abbrev main_c_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel2.lean ====
abbrev S32 : Shape := ⟨1, ![32]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S287 : Shape := ⟨1, ![287]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 77
  | .vmem => 14
  | .smem => 3
  | _ => 0

abbrev bufTy : (tb : Table) → Fin (tcTables nBuf tb) → BufTy
  | .hbm, ⟨0, _⟩ => ⟨S32, .i32⟩
  | .hbm, ⟨1, _⟩ => ⟨S147456x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S288, .i32⟩
  | .hbm, ⟨37, _⟩ => ⟨S_, .i32⟩
  | .hbm, ⟨38, _⟩ => ⟨S288, .i32⟩
  | .hbm, ⟨39, _⟩ => ⟨S288, .i32⟩
  | .hbm, ⟨40, _⟩ => ⟨S1x32, .i32⟩
  | .hbm, ⟨41, _⟩ => ⟨S288x1, .i32⟩
  | .hbm, ⟨42, _⟩ => ⟨S288x32, .i32⟩
  | .hbm, ⟨43, _⟩ => ⟨S288x32, .i32⟩
  | .hbm, ⟨44, _⟩ => ⟨S288x32, .i1⟩
  | .hbm, ⟨45, _⟩ => ⟨S288x32, .i32⟩
  | .hbm, ⟨46, _⟩ => ⟨S_, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S287, .i32⟩
  | .hbm, ⟨71, _⟩ => ⟨S287, .i32⟩
  | .hbm, ⟨72, _⟩ => ⟨S287, .i1⟩
  | .hbm, ⟨73, _⟩ => ⟨S287, .i32⟩
  | .hbm, ⟨74, _⟩ => ⟨S32x1x2048, .f32⟩
  | .hbm, ⟨75, _⟩ => ⟨S32x1x1024, .f32⟩
  | .hbm, ⟨76, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S288, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_c_7 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v19 : Ref sig .tc := ⟨.smem, 0, rfl⟩
abbrev main_v21 : Ref sig .tc := ⟨.smem, 1, rfl⟩
abbrev main_v27 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_v19.idx, main_v21.idx, main_v27.idx], fun | 0 => main_v19.names | 1 => main_v21.names | 2 => main_v27.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_0 : BitVec 32 := 0#32
  let v8 : BitVec 1 := Scalar.cmpi .ne v7 c0_i32_0
  v8

def k0_cond3 (i : grid0.Coords) (v9 : BitVec 32) : BitVec 1 :=
  let arg0 : BitVec 32 := BitVec.ofNat 32 (i 0).val
  let v10 : BitVec 1 := Scalar.cmpi .sge arg0 v9
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32 : Shape := ⟨1, ![32]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S147456 : Shape := ⟨1, ![147456]⟩
abbrev S1x32 : Shape := ⟨2, ![1, 32]⟩
abbrev S147456x1 : Shape := ⟨2, ![147456, 1]⟩
abbrev S147456x32 : Shape := ⟨2, ![147456, 32]⟩
abbrev S147456x1024x2048 : Shape := ⟨3, ![147456, 1024, 2048]⟩
abbrev S147456x2048 : Shape := ⟨2, ![147456, 2048]⟩
abbrev S147456x1024x1024 : Shape := ⟨3, ![147456, 1024, 1024]⟩
abbrev S1 : Shape := ⟨1, ![1]⟩

abbrev nBuf : Space → Nat
  | .hbm => 127
  | .vmem => 0
  | .smem => 0
  | _ => 0

abbrev bufTy : (tb : Table) → Fin (tcTables nBuf tb) → BufTy
  | .hbm, ⟨0, _⟩ => ⟨S32, .i32⟩
  | .hbm, ⟨1, _⟩ => ⟨S147456x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S147456, .i32⟩
  | .hbm, ⟨37, _⟩ => ⟨S1x32, .i32⟩
  | .hbm, ⟨38, _⟩ => ⟨S147456x1, .i32⟩
  | .hbm, ⟨39, _⟩ => ⟨S147456x32, .i32⟩
  | .hbm, ⟨40, _⟩ => ⟨S147456x32, .i32⟩
  | .hbm, ⟨41, _⟩ => ⟨S147456x32, .i1⟩
  | .hbm, ⟨42, _⟩ => ⟨S147456x32, .i32⟩
  | .hbm, ⟨43, _⟩ => ⟨S_, .i32⟩
  | .hbm, ⟨44, _⟩ => ⟨S147456, .i32⟩
  | .hbm, ⟨45, _⟩ => ⟨S_, .i32⟩
  | .hbm, ⟨46, _⟩ => ⟨S147456, .i32⟩
  | .hbm, ⟨47, _⟩ => ⟨S147456, .i32⟩
  | .hbm, ⟨48, _⟩ => ⟨S_, .i32⟩
  | .hbm, ⟨49, _⟩ => ⟨S147456, .i32⟩
  | .hbm, ⟨50, _⟩ => ⟨S147456, .i1⟩
  | .hbm, ⟨51, _⟩ => ⟨S_, .i32⟩
  | .hbm, ⟨52, _⟩ => ⟨S147456, .i32⟩
  | .hbm, ⟨53, _⟩ => ⟨S147456, .i32⟩
  | .hbm, ⟨54, _⟩ => ⟨S147456, .i32⟩
  | .hbm, ⟨55, _⟩ => ⟨S147456x1, .i32⟩
  | .hbm, ⟨56, _⟩ => ⟨S147456x1024x2048, .f32⟩
  | .hbm, ⟨57, _⟩ => ⟨S147456x2048, .f32⟩
  | .hbm, ⟨58, _⟩ => ⟨S_, .i32⟩
  | .hbm, ⟨59, _⟩ => ⟨S147456, .i32⟩
  | .hbm, ⟨60, _⟩ => ⟨S147456, .i1⟩
  | .hbm, ⟨61, _⟩ => ⟨S_, .i32⟩
  | .hbm, ⟨62, _⟩ => ⟨S147456, .i32⟩
  | .hbm, ⟨63, _⟩ => ⟨S147456, .i32⟩
  | .hbm, ⟨64, _⟩ => ⟨S147456, .i32⟩
  | .hbm, ⟨65, _⟩ => ⟨S147456x1, .i32⟩
  | .hbm, ⟨66, _⟩ => ⟨S147456x2048, .f32⟩
  | .hbm, ⟨67, _⟩ => ⟨S147456x2048, .f32⟩
  | .hbm, ⟨68, _⟩ => ⟨S147456x1024, .f32⟩
  | .hbm, ⟨69, _⟩ => ⟨S147456x1024, .f32⟩
  | .hbm, ⟨70, _⟩ => ⟨S_, .f32⟩
  | .hbm, ⟨71, _⟩ => ⟨S147456x1024, .f32⟩
  | .hbm, ⟨72, _⟩ => ⟨S147456x1024, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S147456x1024, .f32⟩
  | .hbm, ⟨77, _⟩ => ⟨S147456x1024, .f32⟩
  | .hbm, ⟨78, _⟩ => ⟨S_, .f32⟩
  | .hbm, ⟨79, _⟩ => ⟨S147456x1024, .f32⟩
  | .hbm, ⟨80, _⟩ => ⟨S147456x1024, .f32⟩
  | .hbm, ⟨81, _⟩ => ⟨S_, .f32⟩
  | .hbm, ⟨82, _⟩ => ⟨S147456x1024, .f32⟩
  | .hbm, ⟨83, _⟩ => ⟨S147456x1024, .f32⟩
  | .hbm, ⟨84, _⟩ => ⟨S147456x1024, .f32⟩
  | .hbm, ⟨85, _⟩ => ⟨S147456x1024, .f32⟩
  | .hbm, ⟨86, _⟩ => ⟨S_, .f32⟩
  | .hbm, ⟨87, _⟩ => ⟨S147456x1024, .f32⟩
  | .hbm, ⟨88, _⟩ => ⟨S147456x1024, .f32⟩
  | .hbm, ⟨89, _⟩ => ⟨S_, .f32⟩
  | .hbm, ⟨90, _⟩ => ⟨S147456x1024, .f32⟩
  | .hbm, ⟨91, _⟩ => ⟨S147456x1024, .f32⟩
  | .hbm, ⟨92, _⟩ => ⟨S147456x1024, .f32⟩
  | .hbm, ⟨93, _⟩ => ⟨S_, .f32⟩
  | .hbm, ⟨94, _⟩ => ⟨S147456x1024, .f32⟩
  | .hbm, ⟨95, _⟩ => ⟨S147456x1024, .f32⟩
  | .hbm, ⟨96, _⟩ => ⟨S147456x1024, .f32⟩
  | .hbm, ⟨97, _⟩ => ⟨S_, .i32⟩
  | .hbm, ⟨98, _⟩ => ⟨S147456, .i32⟩
  | .hbm, ⟨99, _⟩ => ⟨S147456, .i1⟩
  | .hbm, ⟨100, _⟩ => ⟨S_, .i32⟩
  | .hbm, ⟨101, _⟩ => ⟨S147456, .i32⟩
  | .hbm, ⟨102, _⟩ => ⟨S147456, .i32⟩
  | .hbm, ⟨103, _⟩ => ⟨S147456, .i32⟩
  | .hbm, ⟨104, _⟩ => ⟨S147456x1, .i32⟩
  | .hbm, ⟨105, _⟩ => ⟨S147456x1024x1024, .f32⟩
  | .hbm, ⟨106, _⟩ => ⟨S147456x1024, .f32⟩
  | .hbm, ⟨107, _⟩ => ⟨S_, .i32⟩
  | .hbm, ⟨108, _⟩ => ⟨S147456, .i32⟩
  | .hbm, ⟨109, _⟩ => ⟨S147456, .i1⟩
  | .hbm, ⟨110, _⟩ => ⟨S_, .i32⟩
  | .hbm, ⟨111, _⟩ => ⟨S147456, .i32⟩
  | .hbm, ⟨112, _⟩ => ⟨S147456, .i32⟩
  | .hbm, ⟨113, _⟩ => ⟨S147456, .i32⟩
  | .hbm, ⟨114, _⟩ => ⟨S147456x1, .i32⟩
  | .hbm, ⟨115, _⟩ => ⟨S147456x1024, .f32⟩
  | .hbm, ⟨116, _⟩ => ⟨S147456x1024, .f32⟩
  | .hbm, ⟨117, _⟩ => ⟨S1, .i32⟩
  | .hbm, ⟨118, _⟩ => ⟨S_, .i32⟩
  | .hbm, ⟨119, _⟩ => ⟨S147456, .i32⟩
  | .hbm, ⟨120, _⟩ => ⟨S147456, .i1⟩
  | .hbm, ⟨121, _⟩ => ⟨S147456x1, .i1⟩
  | .hbm, ⟨122, _⟩ => ⟨S_, .f32⟩
  | .hbm, ⟨123, _⟩ => ⟨S_, .f32⟩
  | .hbm, ⟨124, _⟩ => ⟨S147456x1024, .i1⟩
  | .hbm, ⟨125, _⟩ => ⟨S147456x1024, .f32⟩
  | .hbm, ⟨126, _⟩ => ⟨S147456x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_c_6 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_7 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst : Ref sig .tc := ⟨.hbm, 70, rfl⟩
abbrev main_v36 : Ref sig .tc := ⟨.hbm, 71, rfl⟩
abbrev main_v37 : Ref sig .tc := ⟨.hbm, 72, rfl⟩
abbrev main_cst_9 : Ref sig .tc := ⟨.hbm, 73, rfl⟩
abbrev main_cst_10 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v38 : Ref sig .tc := ⟨.hbm, 80, rfl⟩
abbrev main_cst_11 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_12 : Ref sig .tc := ⟨.hbm, 86, rfl⟩
abbrev main_v43 : Ref sig .tc := ⟨.hbm, 87, rfl⟩
abbrev main_v44 : Ref sig .tc := ⟨.hbm, 88, rfl⟩
abbrev main_cst_13 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_14 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_c_15 : Ref sig .tc := ⟨.hbm, 97, rfl⟩
abbrev main_v51 : Ref sig .tc := ⟨.hbm, 98, rfl⟩
abbrev main_v52 : Ref sig .tc := ⟨.hbm, 99, rfl⟩
abbrev main_c_16 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_c_17 : Ref sig .tc := ⟨.hbm, 107, rfl⟩
abbrev main_v59 : Ref sig .tc := ⟨.hbm, 108, rfl⟩
abbrev main_v60 : Ref sig .tc := ⟨.hbm, 109, rfl⟩
abbrev main_c_18 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_19 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v72 : Ref sig .tc := ⟨.hbm, 126, rfl⟩

abbrev nD : Nat := 1
abbrev τ : Topo := Topo.v7x

variable {F : FTy → Type} [FloatOps F]
-- ==== Kernel3.lean ====
abbrev S32768x1024 : Shape := ⟨2, ![32768, 1024]⟩
abbrev S1024x4564 : Shape := ⟨2, ![1024, 4564]⟩
abbrev S128 : Shape := ⟨1, ![128]⟩
abbrev S1024x64 : Shape := ⟨2, ![1024, 64]⟩
abbrev S_ : Shape := ⟨0, ![]⟩
abbrev S1024x2560 : Shape := ⟨2, ![1024, 2560]⟩
abbrev S1024x1024 : Shape := ⟨2, ![1024, 1024]⟩
abbrev S1024x512 : Shape := ⟨2, ![1024, 512]⟩
abbrev S1024x2176 : Shape := ⟨2, ![1024, 2176]⟩
abbrev S1024x128 : Shape := ⟨2, ![1024, 128]⟩
abbrev S1024x16 : Shape := ⟨2, ![1024, 16]⟩
abbrev S1024x4 : Shape := ⟨2, ![1024, 4]⟩
abbrev S1024x108 : Shape := ⟨2, ![1024, 108]⟩
abbrev S1024x256 : Shape := ⟨2, ![1024, 256]⟩
abbrev S1x128 : Shape := ⟨2, ![1, 128]⟩
abbrev S32768x2560 : Shape := ⟨2, ![32768, 2560]⟩
abbrev S32768x512 : Shape := ⟨2, ![32768, 512]⟩
abbrev S32768x128 : Shape := ⟨2, ![32768, 128]⟩
abbrev S512x1024 : Shape := ⟨2, ![512, 1024]⟩
abbrev S512x2560 : Shape := ⟨2, ![512, 2560]⟩
abbrev S512x512 : Shape := ⟨2, ![512, 512]⟩
abbrev S512x128 : Shape := ⟨2, ![512, 128]⟩
abbrev S512x2176 : Shape := ⟨2, ![512, 2176]⟩
abbrev S512x256 : Shape := ⟨2, ![512, 256]⟩
abbrev S512 : Shape := ⟨1, ![512]⟩
abbrev S512x1 : Shape := ⟨2, ![512, 1]⟩
abbrev S32768x4x128 : Shape := ⟨3, ![32768, 4, 128]⟩
abbrev S32768x4x64 : Shape := ⟨3, ![32768, 4, 64]⟩
abbrev S32768x1536 : Shape := ⟨2, ![32768, 1536]⟩
abbrev S32768x16 : Shape := ⟨2, ![32768, 16]⟩
abbrev S32768x64 : Shape := ⟨2, ![32768, 64]⟩
abbrev S32768x4 : Shape := ⟨2, ![32768, 4]⟩

abbrev nBuf : Space → Nat
  | .hbm => 51
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S1024x4564, .f32⟩
  | .hbm, ⟨2, _⟩ => ⟨S128, .f32⟩
  | .hbm, ⟨3, _⟩ => ⟨S1024x64, .f32⟩
  | .hbm, ⟨4, _⟩ => ⟨S_, .f32⟩
  | .hbm, ⟨5, _⟩ => ⟨S1024x64, .f32⟩
  | .hbm, ⟨6, _⟩ => ⟨S1024x64, .f32⟩
  | .hbm, ⟨7, _⟩ => ⟨S_, .f32⟩
  | .hbm, ⟨8, _⟩ => ⟨S1024x64, .f32⟩
  | .hbm, ⟨9, _⟩ => ⟨S1024x64, .f32⟩
  | .hbm, ⟨10, _⟩ => ⟨S_, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x2560, .f32⟩
  | .hbm, ⟨16, _⟩ => ⟨S1024x1024, .f32⟩
  | .hbm, ⟨17, _⟩ => ⟨S1024x512, .f32⟩
  | .hbm, ⟨18, _⟩ => ⟨S1024x64, .f32⟩
  | .hbm, ⟨19, _⟩ => ⟨S_, .f32⟩
  | .hbm, ⟨20, _⟩ => ⟨S1024x64, .f32⟩
  | .hbm, ⟨21, _⟩ => ⟨S1024x2176, .f32⟩
  | .hbm, ⟨22, _⟩ => ⟨S1024x128, .f32⟩
  | .hbm, ⟨23, _⟩ => ⟨S1024x16, .f32⟩
  | .hbm, ⟨24, _⟩ => ⟨S1024x4, .f32⟩
  | .hbm, ⟨25, _⟩ => ⟨S_, .f32⟩
  | .hbm, ⟨26, _⟩ => ⟨S1024x108, .f32⟩
  | .hbm, ⟨27, _⟩ => ⟨S1024x256, .f32⟩
  | .hbm, ⟨28, _⟩ => ⟨S1024x2560, .bf16⟩
  | .hbm, ⟨29, _⟩ => ⟨S1024x2176, .bf16⟩
  | .hbm, ⟨30, _⟩ => ⟨S1024x256, .bf16⟩
  | .hbm, ⟨31, _⟩ => ⟨S1x128, .f32⟩
  | .hbm, ⟨32, _⟩ => ⟨S32768x2560, .f32⟩
  | .hbm, ⟨33, _⟩ => ⟨S32768x1024, .bf16⟩
  | .hbm, ⟨34, _⟩ => ⟨S32768x512, .bf16⟩
  | .hbm, ⟨35, _⟩ => ⟨S32768x512, .bf16⟩
  | .hbm, ⟨36, _⟩ => ⟨S32768x128, .bf16⟩
  | .hbm, ⟨37, _⟩ => ⟨S32768x128, .bf16⟩
  | .hbm, ⟨38, _⟩ => ⟨S32768x128, .f32⟩
  | .hbm, ⟨39, _⟩ => ⟨S32768x4x128, .bf16⟩
  | .hbm, ⟨40, _⟩ => ⟨S32768x4x64, .bf16⟩
  | .hbm, ⟨41, _⟩ => ⟨S32768x1024, .f32⟩
  | .hbm, ⟨42, _⟩ => ⟨S32768x1536, .f32⟩
  | .hbm, ⟨43, _⟩ => ⟨S32768x16, .f32⟩
  | .hbm, ⟨44, _⟩ => ⟨S32768x1024, .f32⟩
  | .hbm, ⟨45, _⟩ => ⟨S32768x128, .f32⟩
  | .hbm, ⟨46, _⟩ => ⟨S32768x4x64, .f32⟩
  | .hbm, ⟨47, _⟩ => ⟨S32768x64, .bf16⟩
  | .hbm, ⟨48, _⟩ => ⟨S32768x64, .f32⟩
  | .hbm, ⟨49, _⟩ => ⟨S32768x4, .f32⟩
  | .hbm, ⟨50, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S1024x2176, .bf16⟩
  | .local _ .vmem, ⟨4, _⟩ => ⟨S1024x256, .bf16⟩
  | .local _ .vmem, ⟨5, _⟩ => ⟨S1x128, .f32⟩
  | .local _ .vmem, ⟨6, _⟩ => ⟨S512x2560, .f32⟩
  | .local _ .vmem, ⟨7, _⟩ => ⟨S512x2560, .f32⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev main_v23_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x1024 : Shape := ⟨2, ![32768, 1024]⟩
abbrev S1024x4564 : Shape := ⟨2, ![1024, 4564]⟩
abbrev S128 : Shape := ⟨1, ![128]⟩
abbrev S32768x4564 : Shape := ⟨2, ![32768, 4564]⟩
abbrev S32768x1536 : Shape := ⟨2, ![32768, 1536]⟩
abbrev S32768x16 : Shape := ⟨2, ![32768, 16]⟩
abbrev S32768x128 : Shape := ⟨2, ![32768, 128]⟩
abbrev S32768x256 : Shape := ⟨2, ![32768, 256]⟩
abbrev S32768x64 : Shape := ⟨2, ![32768, 64]⟩
abbrev S32768x4 : Shape := ⟨2, ![32768, 4]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x128 : Shape := ⟨2, ![1, 128]⟩
abbrev S32768x4x64 : Shape := ⟨3, ![32768, 4, 64]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4564, .f32⟩
  | .hbm, ⟨2, _⟩ => ⟨S128, .f32⟩
  | .hbm, ⟨3, _⟩ => ⟨S32768x4564, .f32⟩
  | .hbm, ⟨4, _⟩ => ⟨S32768x1024, .f32⟩
  | .hbm, ⟨5, _⟩ => ⟨S32768x1536, .f32⟩
  | .hbm, ⟨6, _⟩ => ⟨S32768x16, .f32⟩
  | .hbm, ⟨7, _⟩ => ⟨S32768x1024, .f32⟩
  | .hbm, ⟨8, _⟩ => ⟨S32768x128, .f32⟩
  | .hbm, ⟨9, _⟩ => ⟨S32768x256, .f32⟩
  | .hbm, ⟨10, _⟩ => ⟨S32768x64, .f32⟩
  | .hbm, ⟨11, _⟩ => ⟨S32768x4, .f32⟩
  | .hbm, ⟨12, _⟩ => ⟨S32768x512, .f32⟩
  | .hbm, ⟨13, _⟩ => ⟨S32768x128, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x128, .f32⟩
  | .hbm, ⟨25, _⟩ => ⟨S32768x128, .f32⟩
  | .hbm, ⟨26, _⟩ => ⟨S1x128, .f32⟩
  | .hbm, ⟨27, _⟩ => ⟨S32768x128, .f32⟩
  | .hbm, ⟨28, _⟩ => ⟨S32768x128, .f32⟩
  | .hbm, ⟨29, _⟩ => ⟨S32768x4x64, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S1024x512 : Shape := ⟨2, ![1024, 512]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S32x1 : Shape := ⟨2, ![32, 1]⟩
abbrev S32x128 : Shape := ⟨2, ![32, 128]⟩
abbrev S1x1024 : Shape := ⟨2, ![1, 1024]⟩
abbrev S32x1024 : Shape := ⟨2, ![32, 1024]⟩
abbrev S4x32768 : Shape := ⟨2, ![4, 32768]⟩
abbrev S1024x1024 : Shape := ⟨2, ![1024, 1024]⟩
abbrev S256x512 : Shape := ⟨2, ![256, 512]⟩
abbrev S4x1024 : Shape := ⟨2, ![4, 1024]⟩
abbrev S1024x128 : Shape := ⟨2, ![1024, 128]⟩
abbrev S256x128 : Shape := ⟨2, ![256, 128]⟩
abbrev S1024x256 : Shape := ⟨2, ![1024, 256]⟩
abbrev S1024x1 : Shape := ⟨2, ![1024, 1]⟩
abbrev S512x1024 : Shape := ⟨2, ![512, 1024]⟩

abbrev nBuf : Space → Nat
  | .hbm => 28
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x512, .f32⟩
  | .hbm, ⟨4, _⟩ => ⟨S1024x512, .f32⟩
  | .hbm, ⟨5, _⟩ => ⟨S32768x1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S32x1, .f32⟩
  | .hbm, ⟨12, _⟩ => ⟨S32x128, .f32⟩
  | .hbm, ⟨13, _⟩ => ⟨S32768x1024, .bf16⟩
  | .hbm, ⟨14, _⟩ => ⟨S32768x512, .bf16⟩
  | .hbm, ⟨15, _⟩ => ⟨S32768x512, .bf16⟩
  | .hbm, ⟨16, _⟩ => ⟨S1024x512, .bf16⟩
  | .hbm, ⟨17, _⟩ => ⟨S1024x512, .bf16⟩
  | .hbm, ⟨18, _⟩ => ⟨S2048x1024, .bf16⟩
  | .hbm, ⟨19, _⟩ => ⟨S1x1024, .f32⟩
  | .hbm, ⟨20, _⟩ => ⟨S1x1024, .f32⟩
  | .hbm, ⟨21, _⟩ => ⟨S32x1024, .f32⟩
  | .hbm, ⟨22, _⟩ => ⟨S32x1024, .bf16⟩
  | .hbm, ⟨23, _⟩ => ⟨S32768x1024, .f32⟩
  | .hbm, ⟨24, _⟩ => ⟨S4x32768, .i32⟩
  | .hbm, ⟨25, _⟩ => ⟨S4x32768, .f32⟩
  | .hbm, ⟨26, _⟩ => ⟨S4x32768, .i32⟩
  | .hbm, ⟨27, _⟩ => ⟨S32x128, .i32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | .local _ .vmem, ⟨13, _⟩ => ⟨S1x1024, .f32⟩
  | .local _ .vmem, ⟨14, _⟩ => ⟨S1x1024, .f32⟩
  | .local _ .vmem, ⟨15, _⟩ => ⟨S32x1024, .bf16⟩
  | .local _ .vmem, ⟨16, _⟩ => ⟨S32x128, .f32⟩
  | .local _ .vmem, ⟨17, _⟩ => ⟨S1024x1024, .f32⟩
  | .local _ .vmem, ⟨18, _⟩ => ⟨S1024x1024, .f32⟩
  | .local _ .vmem, ⟨19, _⟩ => ⟨S4x1024, .i32⟩
  | .local _ .vmem, ⟨20, _⟩ => ⟨S4x1024, .i32⟩
  | .local _ .vmem, ⟨21, _⟩ => ⟨S4x1024, .f32⟩
  | .local _ .vmem, ⟨22, _⟩ => ⟨S4x1024, .f32⟩
  | .local _ .vmem, ⟨23, _⟩ => ⟨S4x1024, .i32⟩
  | .local _ .vmem, ⟨24, _⟩ => ⟨S4x1024, .i32⟩
  | .local _ .vmem, ⟨25, _⟩ => ⟨S32x128, .i32⟩
  | .local _ .vmem, ⟨26, _⟩ => ⟨S32x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1024 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S32768x1024 : Shape := ⟨2, ![32768, 1024]⟩
abbrev S32768x512 : Shape := ⟨2, ![32768, 512]⟩
abbrev S1024x512 : Shape := ⟨2, ![1024, 512]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S4x8192x4x128 : Shape := ⟨4, ![4, 8192, 4, 128]⟩
abbrev S4x256x4x128 : Shape := ⟨4, ![4, 256, 4, 128]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S32768x2048 : Shape := ⟨2, ![32768, 2048]⟩
abbrev S32768 : Shape := ⟨1, ![32768]⟩
abbrev S32768x1 : Shape := ⟨2, ![32768, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x512, .f32⟩
  | .hbm, ⟨4, _⟩ => ⟨S1024x512, .f32⟩
  | .hbm, ⟨5, _⟩ => ⟨S32768x1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S4x8192x4x128, .f32⟩
  | .hbm, ⟨12, _⟩ => ⟨S4x256x4x128, .f32⟩
  | .hbm, ⟨13, _⟩ => ⟨S4x256x4x128, .f32⟩
  | .hbm, ⟨14, _⟩ => ⟨S4x4x8192x256, .f32⟩
  | .hbm, ⟨15, _⟩ => ⟨S_, .f32⟩
  | .hbm, ⟨16, _⟩ => ⟨S4x4x8192x256, .f32⟩
  | .hbm, ⟨17, _⟩ => ⟨S4x4x8192x256, .f32⟩
  | .hbm, ⟨18, _⟩ => ⟨S_, .f32⟩
  | .hbm, ⟨19, _⟩ => ⟨S4x4x8192, .f32⟩
  | .hbm, ⟨20, _⟩ => ⟨S_, .f32⟩
  | .hbm, ⟨21, _⟩ => ⟨S4x4x8192, .f32⟩
  | .hbm, ⟨22, _⟩ => ⟨S4x4x8192, .f32⟩
  | .hbm, ⟨23, _⟩ => ⟨S4x4x8192x1, .f32⟩
  | .hbm, ⟨24, _⟩ => ⟨S4x4x8192x256, .f32⟩
  | .hbm, ⟨25, _⟩ => ⟨S4x4x8192x256, .f32⟩
  | .hbm, ⟨26, _⟩ => ⟨S4x4x8192x256, .f32⟩
  | .hbm, ⟨27, _⟩ => ⟨S_, .f32⟩
  | .hbm, ⟨28, _⟩ => ⟨S4x4x8192, .f32⟩
  | .hbm, ⟨29, _⟩ => ⟨S4x4x8192x1, .f32⟩
  | .hbm, ⟨30, _⟩ => ⟨S4x4x8192x256, .f32⟩
  | .hbm, ⟨31, _⟩ => ⟨S4x4x8192x256, .f32⟩
  | .hbm, ⟨32, _⟩ => ⟨S4x4x128x8192, .f32⟩
  | .hbm, ⟨33, _⟩ => ⟨S4x8192x4x128, .f32⟩
  | .hbm, ⟨34, _⟩ => ⟨S32768x512, .f32⟩
  | .hbm, ⟨35, _⟩ => ⟨S32768x2048, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S1x1024, .f32⟩
  | .hbm, ⟨66, _⟩ => ⟨S32768x1024, .f32⟩
  | .hbm, ⟨67, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Proof.DispatchIssue.lean ====
/-
  The dispatch kernel's body, one grid point: 1,024 row copies issued on one DMA semaphore, then 1,024 waits.

  A point holds a table of destination rows (4 × 256 words in SMEM) and a block of 256 token rows. Transfer `j` sends
  token row `j / 4` of the block to the row of the result that the table's word `(j % 4, j / 4)` names. The 1,024 transfers
  form one `Transfers.Batch`: the issue loop issues 32 a trip (`step_load`, `step_assume`, `step_issue`), the drain loop
  takes their credit back four a trip, and `batch_collect'` hands every landed row back.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic

@[expose] public section

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's beside the transfers' counters. -/
local notation "𝕄" => MT nD τ sig Unit (Elt F) ℕ (Pipeline.UD sig nD τ) ℕ

/-! ## Rows as sets of elements -/

/-- Row `r` of the result: its elements at leading index `r`. -/
def dstSet (r : ℕ) : Finset S147456x1024.Idx := Finset.univ.filter fun y => (y 0).val = r

theorem mem_dstSet (r : ℕ) (y : S147456x1024.Idx) : y ∈ dstSet r ↔ (y 0).val = r := by
  unfold dstSet; rw [Finset.mem_filter]; exact ⟨fun h => h.2, fun h => ⟨Finset.mem_univ _, h⟩⟩

theorem dstSet_disjoint {r r' : ℕ} (h : r ≠ r') : Disjoint (dstSet r) (dstSet r') := by
  rw [Finset.disjoint_left]; intro y hy hy'; rw [mem_dstSet] at hy hy'; exact h (hy.symm.trans hy')

theorem row_inb {r : ℕ} (h : r < 147456) : ∀ a, (![r, 0] : Fin 2 → ℕ) a + S1x1024.size a ≤ S147456x1024.size a := by
  intro a; fin_cases a
  · show r + 1 ≤ 147456; omega
  · show 0 + 1024 ≤ 1024; omega

theorem tok_inb {r : ℕ} (h : r < 256) : ∀ a, (![r, 0] : Fin 2 → ℕ) a + S1x1024.size a ≤ S256x1024.size a := by
  intro a; fin_cases a
  · show r + 1 ≤ 256; omega
  · show 0 + 1024 ≤ 1024; omega

theorem rect_row {r : ℕ} (h : r < 147456) :
    (Rect.unit (s := S147456x1024) ![r, 0] S1x1024.size (row_inb h)).set = dstSet r := by
  ext y; rw [Rect.mem_set_unit, mem_dstSet]
  have h1 : (y 1).val < 1024 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 1024; omega

theorem quarter_lt (j : Fin 1024) : j.val / 4 < 256 := by have := j.isLt; omega

/-! ## The point's resources -/

section Point

variable (c : Dev nD)
  (arg1 : Memref sig .tc .smem S4x256 .i32) (harg1 : arg1.IsWhole)
  (arg2 : Memref sig .tc .vmem S256x1024 .f32) (harg2 : arg2.IsWhole)
  (f1 : Buf (Elt F) (arg1.view.loc (c : Thread nD τ))) (f2 : Buf (Elt F) (arg2.view.loc (c : Thread nD τ)))
  (f0 g : S147456x1024.Idx → Elt F .f32) (rowOf : Fin 1024 → ℕ)

/-- The result buffer, whole, in HBM. -/
abbrev outM : Memref sig .tc .hbm S147456x1024 .f32 := Memref.whole main_v0

/-- A row of the result and a row of the staged block, as the program spells them. -/
abbrev dstW (off : Fin 2 → ℕ) (h : ∀ a, off a + S1x1024.size a ≤ S147456x1024.size a) : Memref sig .tc .hbm S1x1024 .f32 :=
  outM.slice (Rect.unit (s := S147456x1024) off S1x1024.size h) (fun _ => rfl)
abbrev srcW (off : Fin 2 → ℕ) (h : ∀ a, off a + S1x1024.size a ≤ S256x1024.size a) : Memref sig .tc .vmem S1x1024 .f32 :=
  arg2.slice (Rect.unit (s := S256x1024) off S1x1024.size h) (fun _ => rfl)

/-- Token row `r` of the staged block. -/
def srcM (r : ℕ) (h : r < 256) : Memref sig .tc .vmem S1x1024 .f32 :=
  arg2.slice (Rect.unit (s := S256x1024) ![r, 0] S1x1024.size (tok_inb h)) (fun _ => rfl)

/-- Transfer `j`'s destination row of the result, at contents `f`. -/
def dstAt (f : S147456x1024.Idx → Elt F .f32) (j : Fin 1024) : sProp 𝕄 :=
  (c : Thread nD τ).loc main_v0 ↦[dstSet (rowOf j)]{fullShare} f

/-- Token row `r` of the staged block, as elements of the block's buffer. -/
def srcSet (r : ℕ) (h : r < 256) : Finset (Idx (arg2.view.loc (c : Thread nD τ))) := (srcM arg2 r h).view.set

/-- Transfer `j`'s read token of its token row. -/
def srcAt (j : Fin 1024) : sProp 𝕄 :=
  arg2.view.loc (c : Thread nD τ) ↦[srcSet c arg2 (j.val / 4) (quarter_lt j)]{Transfers.shareTokN fullShare j.val} f2

/-- Transfer `j`'s two ends, the destination at contents `f`. -/
def ends (f : S147456x1024.Idx → Elt F .f32) (j : Fin 1024) : sProp 𝕄 :=
  iprop(dstAt c rowOf f j ∗ srcAt c arg2 f2 j)

instance ends_storable (f : S147456x1024.Idx → Elt F .f32) (j : Fin 1024) :
    BI.Storable (upEmb : UEmb _ 𝕄) (ends c arg2 f2 rowOf f j) := by
  have h1 : BI.Storable (upEmb : UEmb _ 𝕄) (dstAt c rowOf f j) := by unfold dstAt; infer_instance
  have h2 : BI.Storable (upEmb : UEmb _ 𝕄) (srcAt c arg2 f2 j) := by unfold srcAt; infer_instance
  unfold ends; infer_instance

/-- One row's credit on the semaphore. -/
def NN : ℕ := (outM.slice (Rect.unit (s := S147456x1024) ![0, 0] S1x1024.size inb_S147456x1024_S1x1024_0_0) (fun _ => rfl)).view.dmaCredit

theorem NN_pos : 0 < NN := View.dmaCredit_pos _ (by decide)

/-- The batch: `j` transfers issued, `u` units of credit taken back. -/
abbrev batch (j u : ℕ) : sProp 𝕄 :=
  Transfers.Batch (countersEmb (U := Pipeline.UD sig nD τ)) (c : Thread nD τ) (.dma cc0_scratch0.sem) () NN
    (ends c arg2 f2 rowOf g) j u

/-- The table of destination rows, held. -/
abbrev tableAt : sProp 𝕄 := arg1.view.loc (c : Thread nD τ) ↦[arg1.view.set]{fullShare} f1

/-- Before transfer `j`: the table, the ends of the transfers from `j` on, and the batch with `j` issued. -/
def issueAt (j : ℕ) : sProp 𝕄 :=
  iprop(tableAt c arg1 f1 ∗ bigSep (Ring.rangeSet 1024 j 1024) (ends c arg2 f2 rowOf f0) ∗ batch c arg2 f2 g rowOf j 0)

/-- Word `(j % 4, j / 4)` of the table is transfer `j`'s destination row. -/
def TableReads : Prop := ∀ (j : Fin 1024) (y : S4x256.Idx), (y 0).val = j.val % 4 → (y 1).val = j.val / 4 →
  BitVec.toNat (w := 32) (arg1.view.read (Elt F) f1 y) = rowOf j

/-- Contents `g` hold, at transfer `j`'s destination row, its token row. -/
def Landed : Prop := ∀ (j : Fin 1024) (y : S147456x1024.Idx) (x : S256x1024.Idx), (y 0).val = rowOf j →
  (x 0).val = j.val / 4 → (x 1).val = (y 1).val → g y = arg2.view.read (Elt F) f2 x

variable {α : Type}

omit [FloatOps F] in
theorem load_word [FloatOps F] (hT : TableReads c arg1 f1 rowOf) (j : Fin 1024) (off : Fin 2 → ℕ)
    (hoff : off = ![j.val % 4, j.val / 4]) (hL : ∀ a, off a + S1x1.size a ≤ S4x256.size a)
    (x : (Rect.unit (s := S4x256) off S1x1.size hL).shape.Idx) :
    BitVec.toNat (w := 32) (arg1.view.readAt (Elt F) (Rect.unit (s := S4x256) off S1x1.size hL) f1 x) = rowOf j := by
  subst hoff
  have h0 : (x 0).val < 1 := (x 0).isLt
  have h1 : (x 1).val < 1 := (x 1).isLt
  exact hT j _ (by show j.val % 4 + 1 * (x 0).val = _; omega) (by show j.val / 4 + 1 * (x 1).val = _; omega)

/-- A word of the table read: the program continues at the word. -/
theorem step_load {Q : α → sProp 𝕄} {r : LoadRect S4x256} {hl : arg1.view.LoadsAt r} {K : (r.shape.Idx → Elt F .i32) → Prog (TpuEff nD τ sig (Elt F) Λ₀ .tc) α} {j : ℕ}
    (h : ∀ w, w = arg1.view.readAt (Elt F) r f1 → issueAt c arg1 arg2 f1 f2 f0 g rowOf j ⊢ wp frame (wpE (defs₀ (F := F)) Variants.none (c : Thread nD τ) none) Set.univ (K w) Q) :
    issueAt c arg1 arg2 f1 f2 f0 g rowOf j ⊢ wp frame (wpE (defs₀ (F := F)) Variants.none (c : Thread nD τ) none) Set.univ (.op (.load arg1 r hl) K) Q := by
  have hS : arg1.view.setOn r.set ⊆ arg1.view.set := View.setOn_subset_set arg1.view r.set
  have h' := h _ rfl
  unfold issueAt at h' ⊢
  iintro ⟨H, HR⟩
  iapply (wp_load Variants.none (c : Thread nD τ) none Set.univ (m := arg1) (r := r) (hl := hl) (k := K) hS) $$ H
  iintro H
  iapply h'
  isplitl [H]; · iexact H
  iexact HR

/-- A row of the result written with a token row of the block holds what the landed contents hold there. -/
theorem landed_row (hrow : ∀ j, rowOf j < 147456) (hg : Landed c arg2 f2 g rowOf) {j : ℕ} (hj : j < 1024)
    (hS : ∀ a, (![j / 4, 0] : Fin 2 → ℕ) a + S1x1024.size a ≤ S256x1024.size a)
    (hD : ∀ a, (![rowOf ⟨j, hj⟩, 0] : Fin 2 → ℕ) a + S1x1024.size a ≤ S147456x1024.size a)
    {y : S147456x1024.Idx} (hy : (y 0).val = rowOf ⟨j, hj⟩) :
    (dstW ![rowOf ⟨j, hj⟩, 0] hD).view.write (Elt F) f0 ((srcW arg2 ![j / 4, 0] hS).view.read (Elt F) f2) Finset.univ y = g y := by
  let x : S1x1024.Idx := fun a => match a with | ⟨0, _⟩ => ⟨0, Nat.one_pos⟩ | ⟨1, _⟩ => y 1
  have hx : (Rect.unit (s := S147456x1024) ![rowOf ⟨j, hj⟩, 0] S1x1024.size hD).emb x = y := by
    funext a; fin_cases a
    · apply Fin.ext; show rowOf ⟨j, hj⟩ + 1 * 0 = (y 0).val; omega
    · apply Fin.ext; show 0 + 1 * (y 1).val = (y 1).val; omega
  have e1 := View.read_slice_write_emb (v := (outM).view) (Rect.unit (s := S147456x1024) ![rowOf ⟨j, hj⟩, 0] S1x1024.size hD) f0
    ((srcW arg2 ![j / 4, 0] hS).view.read (Elt F) f2) (Finset.mem_univ x)
  have e2 := hg ⟨j, hj⟩ y ((Rect.unit (s := S256x1024) ![j / 4, 0] S1x1024.size hS).emb x) hy
    (by show j / 4 + 1 * 0 = j / 4; omega) (by show 0 + 1 * (y 1).val = (y 1).val; omega)
  rw [hx] at e1
  have e3 : outM.view.read (Elt F) ((dstW ![rowOf ⟨j, hj⟩, 0] hD).view.write (Elt F) f0 ((srcW arg2 ![j / 4, 0] hS).view.read (Elt F) f2) Finset.univ)
      = (dstW ![rowOf ⟨j, hj⟩, 0] hD).view.write (Elt F) f0 ((srcW arg2 ![j / 4, 0] hS).view.read (Elt F) f2) Finset.univ := View.read_whole main_v0 _
  have e4 : (srcW arg2 ![j / 4, 0] hS).view.read (Elt F) f2 x
    = arg2.view.read (Elt F) f2 ((Rect.unit (s := S256x1024) ![j / 4, 0] S1x1024.size hS).emb x) := rfl
  rw [e2, ← e4, ← congrFun e3 y]
  exact e1

/-- A transfer issued: its ends are handed over and the batch counts one more. -/
theorem step_issue {Q : α → sProp 𝕄} (hrow : ∀ j, rowOf j < 147456) (hg : Landed c arg2 f2 g rowOf) {j : ℕ} (hj : j < 1024) {offS offD : Fin 2 → ℕ}
    (hS : ∀ a, offS a + S1x1024.size a ≤ S256x1024.size a) (hD : ∀ a, offD a + S1x1024.size a ≤ S147456x1024.size a)
    (eS : offS = ![j / 4, 0]) (eD : offD = ![rowOf ⟨j, hj⟩, 0])
    {hsrc : (srcW arg2 offS hS).view.WordExact} {hdst : (dstW offD hD).view.WordExact}
    {hsem : DmaTarget.Typed (nD := nD) .vmem (.dma cc0_scratch0.sem) (.here (dstW offD hD) : DmaTarget nD τ sig (Proc.tc : Proc τ) .hbm S1x1024 .f32)}
    {K : PUnit → Prog (TpuEff nD τ sig (Elt F) Λ₀ .tc) α}
    (h : issueAt c arg1 arg2 f1 f2 f0 g rowOf (j + 1) ⊢ wp frame (wpE (defs₀ (F := F)) Variants.none (c : Thread nD τ) none) Set.univ (K ⟨⟩) Q) :
    issueAt c arg1 arg2 f1 f2 f0 g rowOf j
      ⊢ wp frame (wpE (defs₀ (F := F)) Variants.none (c : Thread nD τ) none) Set.univ (.op (.enqueueDma (srcW arg2 offS hS) (.here (dstW offD hD)) (.dma cc0_scratch0.sem) hsrc hdst hsem) K) Q := by
  subst eS eD
  have hset : (dstW ![rowOf ⟨j, hj⟩, 0] hD).view.set = dstSet (rowOf ⟨j, hj⟩) :=
    (View.set_slice_whole _ _).trans (rect_row (hrow _))
  unfold issueAt
  rw [Ring.bigSep_rangeSet_head (Φ := ends c arg2 f2 rowOf f0) hj hj]
  rw [show ends c arg2 f2 rowOf f0 ⟨j, hj⟩ = (iprop(dstAt c rowOf f0 ⟨j, hj⟩ ∗ srcAt c arg2 f2 ⟨j, hj⟩) : sProp 𝕄) from rfl]
  unfold dstAt srcAt
  iintro ⟨H1, ⟨⟨Hd, Hs⟩, HR⟩, HB⟩
  iapply (Transfers.wp_dmaBatch (countersEmb (U := Pipeline.UD sig nD τ)) Variants.none (c : Thread nD τ) none (D := ends c arg2 f2 rowOf g)
    (src := srcW arg2 ![j / 4, 0] hS) (dst := dstW ![rowOf ⟨j, hj⟩, 0] hD) (via := .same) (sm := .dma cc0_scratch0.sem) (fs := f2) (fd := f0)
    (Sd := dstSet (rowOf ⟨j, hj⟩)) (j := j) (u := 0) () NN rfl (hset ▸ Finset.Subset.refl _) hj (Nat.zero_le _) ?_) $$ [Hd Hs HB]
  · show _ ⊢ (iprop(dstAt c rowOf g ⟨j, hj⟩ ∗ srcAt c arg2 f2 ⟨j, hj⟩) : sProp 𝕄)
    unfold dstAt srcAt
    iintro ⟨HD, HS⟩
    isplitl [HD]
    · iapply (Entails.of_eq (pointsTo_congr fun y hy => ?_)) $$ HD
      exact landed_row c arg2 f2 f0 g rowOf hrow hg hj hS hD (y := y) ((mem_dstSet _ _).mp hy)
    · iexact HS
  · isplitl [Hs]; · iexact Hs
    isplitl [Hd]; · iexact Hd
    iexact HB
  iintro HB
  iapply h
  unfold issueAt
  isplitl [H1]; · iexact H1
  isplitl [HR]; · iexact HR
  iexact HB

end Point

end Cert.Dispatch

end
-- ==== Proof.DispatchTrip.lean ====
/-
  One trip of the dispatch kernel's issue loop: 32 transfers, one lemma for each part of the printed trip.

  Trip `t` issues transfers `32 t … 32 t + 31`. Each is a word read (`step_word`), the check that its row lies in the
  result (`step_check`), and the issue itself (`step_enqueue`).
-/
module

public import proofs.«01_k».proof.Proof.DispatchIssue

@[expose] public section

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline library's beside the transfers' counters. -/
local notation "𝕄" => MT nD τ sig Unit (Elt F) ℕ (Pipeline.UD sig nD τ) ℕ

section Steps

variable {c : Dev nD} {arg1 : Memref sig .tc .smem S4x256 .i32} {arg2 : Memref sig .tc .vmem S256x1024 .f32}
  {f1 : Buf (Elt F) (arg1.view.loc (c : Thread nD τ))} {f2 : Buf (Elt F) (arg2.view.loc (c : Thread nD τ))}
  {f0 g : S147456x1024.Idx → Elt F .f32} {rowOf : Fin 1024 → ℕ} {α : Type}

/-- A word of the table read by the program: it is its transfer's destination row. -/
theorem step_word {Q : α → sProp 𝕄} (hT : TableReads c arg1 f1 rowOf) {j : ℕ} (hj : j < 1024) {off : Fin 2 → ℕ}
    (hoff : off = ![j % 4, j / 4]) {hL : ∀ a, off a + S1x1.size a ≤ S4x256.size a}
    {h1 : (Rect.unit (s := S4x256) off S1x1.size hL).shape.numel = 1} {hp : EltTy.packing .i32 = 1}
    {K : Elt F .i32 → Prog (TpuEff nD τ sig (Elt F) Λ₀ .tc) α}
    (h : ∀ w : Elt F .i32, BitVec.toNat (w := 32) w = rowOf ⟨j, hj⟩ →
      issueAt c arg1 arg2 f1 f2 f0 g rowOf j ⊢ wp frame (wpE (defs₀ (F := F)) Variants.none (c : Thread nD τ) none) Set.univ (K w) Q) :
    issueAt c arg1 arg2 f1 f2 f0 g rowOf j
      ⊢ wp frame (wpE (defs₀ (F := F)) Variants.none (c : Thread nD τ) none) Set.univ
          (smemLoad arg1 (Rect.unit (s := S4x256) off S1x1.size hL) h1 hp >>= K) Q := by
  rw [wp_bind]
  unfold smemLoad smemLoadElt
  refine step_load c arg1 arg2 f1 f2 f0 g rowOf fun w hw => ?_
  rw [wp_ret]
  refine (h _ ?_).trans (BI.fupd_intro)
  rw [hw]
  exact load_word c arg1 f1 rowOf hT ⟨j, hj⟩ off hoff hL _

/-- A check the program makes, held. -/
theorem step_check {Q : α → sProp 𝕄} {H : sProp 𝕄} {P : Prop} {d : Decidable P} {K : PLift P → Prog (TpuEff nD τ sig (Elt F) Λ₀ .tc) α}
    (hP : P) (h : H ⊢ wp frame (wpE (defs₀ (F := F)) Variants.none (c : Thread nD τ) none) Set.univ (K ⟨hP⟩) Q) :
    H ⊢ wp frame (wpE (defs₀ (F := F)) Variants.none (c : Thread nD τ) none) Set.univ (Prog.lift (TpuEff.assume P d) >>= K) Q :=
  h.trans (wp_assume Variants.none (c : Thread nD τ) none Set.univ hP)

/-- A transfer issued by the program. -/
theorem step_enqueue {Q : α → sProp 𝕄} (hrow : ∀ j, rowOf j < 147456) (hg : Landed c arg2 f2 g rowOf) {j : ℕ} (hj : j < 1024) {offS offD : Fin 2 → ℕ}
    {hS : ∀ a, offS a + S1x1024.size a ≤ S256x1024.size a} {hD : ∀ a, offD a + S1x1024.size a ≤ S147456x1024.size a}
    (eS : offS = ![j / 4, 0]) (eD : offD = ![rowOf ⟨j, hj⟩, 0])
    {hsrc : (srcW arg2 offS hS).view.WordExact} {hdst : (dstW offD hD).view.WordExact}
    {hsem : DmaTarget.Typed (nD := nD) .vmem (.dma cc0_scratch0.sem) (.here (dstW offD hD) : DmaTarget nD τ sig (Proc.tc : Proc τ) .hbm S1x1024 .f32)}
    {K : PUnit → Prog (TpuEff nD τ sig (Elt F) Λ₀ .tc) α}
    (h : issueAt c arg1 arg2 f1 f2 f0 g rowOf (j + 1)
      ⊢ wp frame (wpE (defs₀ (F := F)) Variants.none (c : Thread nD τ) none) Set.univ (K ⟨⟩) Q) :
    issueAt c arg1 arg2 f1 f2 f0 g rowOf j
      ⊢ wp frame (wpE (defs₀ (F := F)) Variants.none (c : Thread nD τ) none) Set.univ
          (Prog.lift (.enqueueDma (srcW arg2 offS hS) (.here (dstW offD hD)) (.dma cc0_scratch0.sem) hsrc hdst hsem) >>= K) Q :=
  step_issue c arg1 arg2 f1 f2 f0 g rowOf hrow hg hj hS hD eS eD h

end Steps

/-- A row read from the table lies in the result. -/
theorem row_check {w : BitVec 32} {n : ℕ} (hw : w.toNat = n) (h : n < 147456) :
    ∀ a, (![w.toNat, 0] : Fin 2 → ℕ) a + S1x1024.size a ≤ S147456x1024.size a := hw ▸ row_inb h

/-- The printed offsets of a table word and of a token row, in the transfer's number. -/
theorem off_word {a b a' b' : ℕ} (h : a = a') (h' : b = b') : (![a, b] : Fin 2 → ℕ) = ![a', b'] := by rw [h, h']

theorem k0_trips : k0_t1_loop.trips = 32 := by decide

theorem trip_lt (t : Fin k0_t1_loop.trips) {n : ℕ} (h : n < 32) : 32 * t.val + n < 1024 := by
  have h' : t.val < 32 := Nat.lt_of_lt_of_eq t.isLt k0_trips
  omega

section Trip

variable (c : Dev nD) (i : grid0.Coords)
  (arg1 : Memref sig .tc .smem S4x256 .i32) (harg1 : arg1.IsWhole)
  (arg2 : Memref sig .tc .vmem S256x1024 .f32) (harg2 : arg2.IsWhole)
  (f1 : Buf (Elt F) (arg1.view.loc (c : Thread nD τ))) (f2 : Buf (Elt F) (arg2.view.loc (c : Thread nD τ)))
  (f0 g : S147456x1024.Idx → Elt F .f32) (rowOf : Fin 1024 → ℕ)

/-- The result buffer as the body takes it. -/
abbrev outA : Memref sig .tc .hbm S147456x1024 .f32 := Memref.whole main_v0

/-- Part 1 of a trip: the transfers 0–4 of the trip are issued, and the word of transfer 5 is read and checked. -/
theorem part1_wp (t : Fin k0_t1_loop.trips) (hT : TableReads c arg1 f1 rowOf) (hrow : ∀ j, rowOf j < 147456) (hg : Landed c arg2 f2 g rowOf)
     {Q : (Σ' (arg6 : BitVec 32) (v21 : BitVec 32) (v27 : Elt F .i32), k0_chk6 v27) → sProp 𝕄}
    (h : ∀ r : (Σ' (arg6 : BitVec 32) (v21 : BitVec 32) (v27 : Elt F .i32), k0_chk6 v27), BitVec.toNat (w := 32) r.2.2.1 = rowOf ⟨32 * t.val + 5, trip_lt t (by decide)⟩ →
      issueAt c arg1 arg2 f1 f2 f0 g rowOf (32 * t.val + 5) ⊢ Q r) :
    issueAt c arg1 arg2 f1 f2 f0 g rowOf (32 * t.val + 0)
      ⊢ wp frame (wpE (defs₀ (F := F)) Variants.none (c : Thread nD τ) none) Set.univ
          (k0_part1 i arg1 harg1 arg2 harg2 (outA) (Memref.isWhole_whole _) (outA) (Memref.isWhole_whole _) cc0_scratch0 0#32 1#32 t) Q := by
  rw [k0_part1_eq_skeleton]
  unfold k0_part1_skel
  have ht : t.val < 32 := Nat.lt_of_lt_of_eq t.isLt k0_trips
  refine step_word hT (j := 32 * t.val + 0) (by omega) ((k0_off1_eq t).trans (off_word (by omega) (by omega))) (fun w0 hw0 => ?_)
  refine step_check (row_check hw0 (hrow _)) ?_
  refine step_enqueue hrow hg (j := 32 * t.val + 0) (by omega) ((k0_off3_eq t).trans (off_word (by omega) rfl)) (off_word hw0 rfl) ?_
  refine step_word hT (j := 32 * t.val + 1) (by omega) ((k0_off4_eq t).trans (off_word (by omega) (by omega))) (fun w1 hw1 => ?_)
  refine step_check (row_check hw1 (hrow _)) ?_
  refine step_enqueue hrow hg (j := 32 * t.val + 1) (by omega) ((k0_off6_eq t).trans (off_word (by omega) rfl)) (off_word hw1 rfl) ?_
  refine step_word hT (j := 32 * t.val + 2) (by omega) ((k0_off7_eq t).trans (off_word (by omega) (by omega))) (fun w2 hw2 => ?_)
  refine step_check (row_check hw2 (hrow _)) ?_
  refine step_enqueue hrow hg (j := 32 * t.val + 2) (by omega) ((k0_off9_eq t).trans (off_word (by omega) rfl)) (off_word hw2 rfl) ?_
  refine step_word hT (j := 32 * t.val + 3) (by omega) ((k0_off10_eq t).trans (off_word (by omega) (by omega))) (fun w3 hw3 => ?_)
  refine step_check (row_check hw3 (hrow _)) ?_
  refine step_enqueue hrow hg (j := 32 * t.val + 3) (by omega) ((k0_off12_eq t).trans (off_word (by omega) rfl)) (off_word hw3 rfl) ?_
  refine step_word hT (j := 32 * t.val + 4) (by omega) ((k0_off13_eq t).trans (off_word (by omega) (by omega))) (fun w4 hw4 => ?_)
  refine step_check (row_check hw4 (hrow _)) ?_
  refine step_enqueue hrow hg (j := 32 * t.val + 4) (by omega) ((k0_off15_eq t).trans (off_word (by omega) rfl)) (off_word hw4 rfl) ?_
  refine step_word hT (j := 32 * t.val + 5) (by omega) ((k0_off16_eq t).trans (off_word (by omega) (by omega))) (fun w5 hw5 => ?_)
  refine step_check (row_check hw5 (hrow _)) ?_
  show _ ⊢ wp frame (wpE (defs₀ (F := F)) Variants.none (c : Thread nD τ) none) Set.univ (.ret _) Q
  rw [wp_ret]
  exact (h _ hw5).trans (BI.fupd_intro)

/-- Part 2 of a trip: the transfers 5–10 of the trip are issued, and the word of transfer 11 is read and checked. -/
theorem part2_wp (t : Fin k0_t1_loop.trips) (hT : TableReads c arg1 f1 rowOf) (hrow : ∀ j, rowOf j < 147456) (hg : Landed c arg2 f2 g rowOf)
    (x y : BitVec 32) (v : Elt F .i32) (hv : BitVec.toNat (w := 32) v = rowOf ⟨32 * t.val + 5, trip_lt t (by decide)⟩) (hc : k0_chk6 v) {Q : (Σ' (v53 : Elt F .i32), k0_chk12 v53) → sProp 𝕄}
    (h : ∀ r : (Σ' (v53 : Elt F .i32), k0_chk12 v53), BitVec.toNat (w := 32) r.1 = rowOf ⟨32 * t.val + 11, trip_lt t (by decide)⟩ →
      issueAt c arg1 arg2 f1 f2 f0 g rowOf (32 * t.val + 11) ⊢ Q r) :
    issueAt c arg1 arg2 f1 f2 f0 g rowOf (32 * t.val + 5)
      ⊢ wp frame (wpE (defs₀ (F := F)) Variants.none (c : Thread nD τ) none) Set.univ
          (k0_part2 i arg1 harg1 arg2 harg2 (outA) (Memref.isWhole_whole _) (outA) (Memref.isWhole_whole _) cc0_scratch0 t x y v hc) Q := by
  rw [k0_part2_eq_skeleton]
  unfold k0_part2_skel
  have ht : t.val < 32 := Nat.lt_of_lt_of_eq t.isLt k0_trips
  refine step_enqueue hrow hg (j := 32 * t.val + 5) (by omega) ((k0_off18_eq t).trans (off_word (by omega) rfl)) (off_word hv rfl) ?_
  refine step_word hT (j := 32 * t.val + 6) (by omega) ((k0_off19_eq t).trans (off_word (by omega) (by omega))) (fun w6 hw6 => ?_)
  refine step_check (row_check hw6 (hrow _)) ?_
  refine step_enqueue hrow hg (j := 32 * t.val + 6) (by omega) ((k0_off21_eq t).trans (off_word (by omega) rfl)) (off_word hw6 rfl) ?_
  refine step_word hT (j := 32 * t.val + 7) (by omega) ((k0_off22_eq t).trans (off_word (by omega) (by omega))) (fun w7 hw7 => ?_)
  refine step_check (row_check hw7 (hrow _)) ?_
  refine step_enqueue hrow hg (j := 32 * t.val + 7) (by omega) ((k0_off24_eq t).trans (off_word (by omega) rfl)) (off_word hw7 rfl) ?_
  refine step_word hT (j := 32 * t.val + 8) (by omega) ((k0_off25_eq t).trans (off_word (by omega) (by omega))) (fun w8 hw8 => ?_)
  refine step_check (row_check hw8 (hrow _)) ?_
  refine step_enqueue hrow hg (j := 32 * t.val + 8) (by omega) ((k0_off27_eq t).trans (off_word (by omega) rfl)) (off_word hw8 rfl) ?_
  refine step_word hT (j := 32 * t.val + 9) (by omega) ((k0_off28_eq t).trans (off_word (by omega) (by omega))) (fun w9 hw9 => ?_)
  refine step_check (row_check hw9 (hrow _)) ?_
  refine step_enqueue hrow hg (j := 32 * t.val + 9) (by omega) ((k0_off30_eq t).trans (off_word (by omega) rfl)) (off_word hw9 rfl) ?_
  refine step_word hT (j := 32 * t.val + 10) (by omega) ((k0_off31_eq t).trans (off_word (by omega) (by omega))) (fun w10 hw10 => ?_)
  refine step_check (row_check hw10 (hrow _)) ?_
  refine step_enqueue hrow hg (j := 32 * t.val + 10) (by omega) ((k0_off33_eq t).trans (off_word (by omega) rfl)) (off_word hw10 rfl) ?_
  refine step_word hT (j := 32 * t.val + 11) (by omega) ((k0_off34_eq t).trans (off_word (by omega) (by omega))) (fun w11 hw11 => ?_)
  refine step_check (row_check hw11 (hrow _)) ?_
  show _ ⊢ wp frame (wpE (defs₀ (F := F)) Variants.none (c : Thread nD τ) none) Set.univ (.ret _) Q
  rw [wp_ret]
  exact (h _ hw11).trans (BI.fupd_intro)

/-- Part 3 of a trip: the transfers 11–16 of the trip are issued, and the word of transfer 17 is read and checked. -/
theorem part3_wp (t : Fin k0_t1_loop.trips) (hT : TableReads c arg1 f1 rowOf) (hrow : ∀ j, rowOf j < 147456) (hg : Landed c arg2 f2 g rowOf)
    (x : BitVec 32) (v : Elt F .i32) (hv : BitVec.toNat (w := 32) v = rowOf ⟨32 * t.val + 11, trip_lt t (by decide)⟩) (hc : k0_chk12 v) {Q : (Σ' (v75 : BitVec 32) (v81 : Elt F .i32), k0_chk18 v81) → sProp 𝕄}
    (h : ∀ r : (Σ' (v75 : BitVec 32) (v81 : Elt F .i32), k0_chk18 v81), BitVec.toNat (w := 32) r.2.1 = rowOf ⟨32 * t.val + 17, trip_lt t (by decide)⟩ →
      issueAt c arg1 arg2 f1 f2 f0 g rowOf (32 * t.val + 17) ⊢ Q r) :
    issueAt c arg1 arg2 f1 f2 f0 g rowOf (32 * t.val + 11)
      ⊢ wp frame (wpE (defs₀ (F := F)) Variants.none (c : Thread nD τ) none) Set.univ
          (k0_part3 i arg1 harg1 arg2 harg2 (outA) (Memref.isWhole_whole _) (outA) (Memref.isWhole_whole _) cc0_scratch0 t x v hc) Q := by
  rw [k0_part3_eq_skeleton]
  unfold k0_part3_skel
  have ht : t.val < 32 := Nat.lt_of_lt_of_eq t.isLt k0_trips
  refine step_enqueue hrow hg (j := 32 * t.val + 11) (by omega) ((k0_off36_eq t).trans (off_word (by omega) rfl)) (off_word hv rfl) ?_
  refine step_word hT (j := 32 * t.val + 12) (by omega) ((k0_off37_eq t).trans (off_word (by omega) (by omega))) (fun w12 hw12 => ?_)
  refine step_check (row_check hw12 (hrow _)) ?_
  refine step_enqueue hrow hg (j := 32 * t.val + 12) (by omega) ((k0_off39_eq t).trans (off_word (by omega) rfl)) (off_word hw12 rfl) ?_
  refine step_word hT (j := 32 * t.val + 13) (by omega) ((k0_off40_eq t).trans (off_word (by omega) (by omega))) (fun w13 hw13 => ?_)
  refine step_check (row_check hw13 (hrow _)) ?_
  refine step_enqueue hrow hg (j := 32 * t.val + 13) (by omega) ((k0_off42_eq t).trans (off_word (by omega) rfl)) (off_word hw13 rfl) ?_
  refine step_word hT (j := 32 * t.val + 14) (by omega) ((k0_off43_eq t).trans (off_word (by omega) (by omega))) (fun w14 hw14 => ?_)
  refine step_check (row_check hw14 (hrow _)) ?_
  refine step_enqueue hrow hg (j := 32 * t.val + 14) (by omega) ((k0_off45_eq t).trans (off_word (by omega) rfl)) (off_word hw14 rfl) ?_
  refine step_word hT (j := 32 * t.val + 15) (by omega) ((k0_off46_eq t).trans (off_word (by omega) (by omega))) (fun w15 hw15 => ?_)
  refine step_check (row_check hw15 (hrow _)) ?_
  refine step_enqueue hrow hg (j := 32 * t.val + 15) (by omega) ((k0_off48_eq t).trans (off_word (by omega) rfl)) (off_word hw15 rfl) ?_
  refine step_word hT (j := 32 * t.val + 16) (by omega) ((k0_off49_eq t).trans (off_word (by omega) (by omega))) (fun w16 hw16 => ?_)
  refine step_check (row_check hw16 (hrow _)) ?_
  refine step_enqueue hrow hg (j := 32 * t.val + 16) (by omega) ((k0_off51_eq t).trans (off_word (by omega) rfl)) (off_word hw16 rfl) ?_
  refine step_word hT (j := 32 * t.val + 17) (by omega) ((k0_off52_eq t).trans (off_word (by omega) (by omega))) (fun w17 hw17 => ?_)
  refine step_check (row_check hw17 (hrow _)) ?_
  show _ ⊢ wp frame (wpE (defs₀ (F := F)) Variants.none (c : Thread nD τ) none) Set.univ (.ret _) Q
  rw [wp_ret]
  exact (h _ hw17).trans (BI.fupd_intro)

/-- Part 4 of a trip: the transfers 17–22 of the trip are issued, and the word of transfer 23 is read and checked. -/
theorem part4_wp (t : Fin k0_t1_loop.trips) (hT : TableReads c arg1 f1 rowOf) (hrow : ∀ j, rowOf j < 147456) (hg : Landed c arg2 f2 g rowOf)
    (x y : BitVec 32) (v : Elt F .i32) (hv : BitVec.toNat (w := 32) v = rowOf ⟨32 * t.val + 17, trip_lt t (by decide)⟩) (hc : k0_chk18 v) {Q : (Σ' (v107 : Elt F .i32), k0_chk24 v107) → sProp 𝕄}
    (h : ∀ r : (Σ' (v107 : Elt F .i32), k0_chk24 v107), BitVec.toNat (w := 32) r.1 = rowOf ⟨32 * t.val + 23, trip_lt t (by decide)⟩ →
      issueAt c arg1 arg2 f1 f2 f0 g rowOf (32 * t.val + 23) ⊢ Q r) :
    issueAt c arg1 arg2 f1 f2 f0 g rowOf (32 * t.val + 17)
      ⊢ wp frame (wpE (defs₀ (F := F)) Variants.none (c : Thread nD τ) none) Set.univ
          (k0_part4 i arg1 harg1 arg2 harg2 (outA) (Memref.isWhole_whole _) (outA) (Memref.isWhole_whole _) cc0_scratch0 t x y v hc) Q := by
  rw [k0_part4_eq_skeleton]
  unfold k0_part4_skel
  have ht : t.val < 32 := Nat.lt_of_lt_of_eq t.isLt k0_trips
  refine step_enqueue hrow hg (j := 32 * t.val + 17) (by omega) ((k0_off54_eq t).trans (off_word (by omega) rfl)) (off_word hv rfl) ?_
  refine step_word hT (j := 32 * t.val + 18) (by omega) ((k0_off55_eq t).trans (off_word (by omega) (by omega))) (fun w18 hw18 => ?_)
  refine step_check (row_check hw18 (hrow _)) ?_
  refine step_enqueue hrow hg (j := 32 * t.val + 18) (by omega) ((k0_off57_eq t).trans (off_word (by omega) rfl)) (off_word hw18 rfl) ?_
  refine step_word hT (j := 32 * t.val + 19) (by omega) ((k0_off58_eq t).trans (off_word (by omega) (by omega))) (fun w19 hw19 => ?_)
  refine step_check (row_check hw19 (hrow _)) ?_
  refine step_enqueue hrow hg (j := 32 * t.val + 19) (by omega) ((k0_off60_eq t).trans (off_word (by omega) rfl)) (off_word hw19 rfl) ?_
  refine step_word hT (j := 32 * t.val + 20) (by omega) ((k0_off61_eq t).trans (off_word (by omega) (by omega))) (fun w20 hw20 => ?_)
  refine step_check (row_check hw20 (hrow _)) ?_
  refine step_enqueue hrow hg (j := 32 * t.val + 20) (by omega) ((k0_off63_eq t).trans (off_word (by omega) rfl)) (off_word hw20 rfl) ?_
  refine step_word hT (j := 32 * t.val + 21) (by omega) ((k0_off64_eq t).trans (off_word (by omega) (by omega))) (fun w21 hw21 => ?_)
  refine step_check (row_check hw21 (hrow _)) ?_
  refine step_enqueue hrow hg (j := 32 * t.val + 21) (by omega) ((k0_off66_eq t).trans (off_word (by omega) rfl)) (off_word hw21 rfl) ?_
  refine step_word hT (j := 32 * t.val + 22) (by omega) ((k0_off67_eq t).trans (off_word (by omega) (by omega))) (fun w22 hw22 => ?_)
  refine step_check (row_check hw22 (hrow _)) ?_
  refine step_enqueue hrow hg (j := 32 * t.val + 22) (by omega) ((k0_off69_eq t).trans (off_word (by omega) rfl)) (off_word hw22 rfl) ?_
  refine step_word hT (j := 32 * t.val + 23) (by omega) ((k0_off70_eq t).trans (off_word (by omega) (by omega))) (fun w23 hw23 => ?_)
  refine step_check (row_check hw23 (hrow _)) ?_
  show _ ⊢ wp frame (wpE (defs₀ (F := F)) Variants.none (c : Thread nD τ) none) Set.univ (.ret _) Q
  rw [wp_ret]
  exact (h _ hw23).trans (BI.fupd_intro)

/-- Part 5 of a trip: the transfers 23–28 of the trip are issued, and the word of transfer 29 is read and checked. -/
theorem part5_wp (t : Fin k0_t1_loop.trips) (hT : TableReads c arg1 f1 rowOf) (hrow : ∀ j, rowOf j < 147456) (hg : Landed c arg2 f2 g rowOf)
    (x : BitVec 32) (v : Elt F .i32) (hv : BitVec.toNat (w := 32) v = rowOf ⟨32 * t.val + 23, trip_lt t (by decide)⟩) (hc : k0_chk24 v) {Q : (Σ' (v129 : BitVec 32) (v135 : Elt F .i32), k0_chk30 v135) → sProp 𝕄}
    (h : ∀ r : (Σ' (v129 : BitVec 32) (v135 : Elt F .i32), k0_chk30 v135), BitVec.toNat (w := 32) r.2.1 = rowOf ⟨32 * t.val + 29, trip_lt t (by decide)⟩ →
      issueAt c arg1 arg2 f1 f2 f0 g rowOf (32 * t.val + 29) ⊢ Q r) :
    issueAt c arg1 arg2 f1 f2 f0 g rowOf (32 * t.val + 23)
      ⊢ wp frame (wpE (defs₀ (F := F)) Variants.none (c : Thread nD τ) none) Set.univ
          (k0_part5 i arg1 harg1 arg2 harg2 (outA) (Memref.isWhole_whole _) (outA) (Memref.isWhole_whole _) cc0_scratch0 t x v hc) Q := by
  rw [k0_part5_eq_skeleton]
  unfold k0_part5_skel
  have ht : t.val < 32 := Nat.lt_of_lt_of_eq t.isLt k0_trips
  refine step_enqueue hrow hg (j := 32 * t.val + 23) (by omega) ((k0_off72_eq t).trans (off_word (by omega) rfl)) (off_word hv rfl) ?_
  refine step_word hT (j := 32 * t.val + 24) (by omega) ((k0_off73_eq t).trans (off_word (by omega) (by omega))) (fun w24 hw24 => ?_)
  refine step_check (row_check hw24 (hrow _)) ?_
  refine step_enqueue hrow hg (j := 32 * t.val + 24) (by omega) ((k0_off75_eq t).trans (off_word (by omega) rfl)) (off_word hw24 rfl) ?_
  refine step_word hT (j := 32 * t.val + 25) (by omega) ((k0_off76_eq t).trans (off_word (by omega) (by omega))) (fun w25 hw25 => ?_)
  refine step_check (row_check hw25 (hrow _)) ?_
  refine step_enqueue hrow hg (j := 32 * t.val + 25) (by omega) ((k0_off78_eq t).trans (off_word (by omega) rfl)) (off_word hw25 rfl) ?_
  refine step_word hT (j := 32 * t.val + 26) (by omega) ((k0_off79_eq t).trans (off_word (by omega) (by omega))) (fun w26 hw26 => ?_)
  refine step_check (row_check hw26 (hrow _)) ?_
  refine step_enqueue hrow hg (j := 32 * t.val + 26) (by omega) ((k0_off81_eq t).trans (off_word (by omega) rfl)) (off_word hw26 rfl) ?_
  refine step_word hT (j := 32 * t.val + 27) (by omega) ((k0_off82_eq t).trans (off_word (by omega) (by omega))) (fun w27 hw27 => ?_)
  refine step_check (row_check hw27 (hrow _)) ?_
  refine step_enqueue hrow hg (j := 32 * t.val + 27) (by omega) ((k0_off84_eq t).trans (off_word (by omega) rfl)) (off_word hw27 rfl) ?_
  refine step_word hT (j := 32 * t.val + 28) (by omega) ((k0_off85_eq t).trans (off_word (by omega) (by omega))) (fun w28 hw28 => ?_)
  refine step_check (row_check hw28 (hrow _)) ?_
  refine step_enqueue hrow hg (j := 32 * t.val + 28) (by omega) ((k0_off87_eq t).trans (off_word (by omega) rfl)) (off_word hw28 rfl) ?_
  refine step_word hT (j := 32 * t.val + 29) (by omega) ((k0_off88_eq t).trans (off_word (by omega) (by omega))) (fun w29 hw29 => ?_)
  refine step_check (row_check hw29 (hrow _)) ?_
  show _ ⊢ wp frame (wpE (defs₀ (F := F)) Variants.none (c : Thread nD τ) none) Set.univ (.ret _) Q
  rw [wp_ret]
  exact (h _ hw29).trans (BI.fupd_intro)

/-- One trip: its 32 transfers issued. -/
theorem trip_wp (t : Fin k0_t1_loop.trips) (hT : TableReads c arg1 f1 rowOf) (hrow : ∀ j, rowOf j < 147456) (hg : Landed c arg2 f2 g rowOf)
    {Q : Unit → sProp 𝕄} (h : issueAt c arg1 arg2 f1 f2 f0 g rowOf (32 * (t.val + 1)) ⊢ Q ⟨⟩) :
    issueAt c arg1 arg2 f1 f2 f0 g rowOf (32 * t.val)
      ⊢ wp frame (wpE (defs₀ (F := F)) Variants.none (c : Thread nD τ) none) Set.univ (k0_t1_body i arg1 harg1 arg2 harg2 (outA) (Memref.isWhole_whole _) (outA) (Memref.isWhole_whole _) cc0_scratch0 t ⟨⟩) Q := by
  have ht : t.val < 32 := Nat.lt_of_lt_of_eq t.isLt k0_trips
  unfold k0_t1_body
  rw [wp_bind]
  refine part1_wp c i arg1 harg1 arg2 harg2 f1 f2 f0 g rowOf t hT hrow hg (fun r5 hw5 => ?_)
  rw [wp_bind]
  refine part2_wp c i arg1 harg1 arg2 harg2 f1 f2 f0 g rowOf t hT hrow hg _ _ _ hw5 _ (fun r11 hw11 => ?_)
  rw [wp_bind]
  refine part3_wp c i arg1 harg1 arg2 harg2 f1 f2 f0 g rowOf t hT hrow hg _ _ hw11 _ (fun r17 hw17 => ?_)
  rw [wp_bind]
  refine part4_wp c i arg1 harg1 arg2 harg2 f1 f2 f0 g rowOf t hT hrow hg _ _ _ hw17 _ (fun r23 hw23 => ?_)
  rw [wp_bind]
  refine part5_wp c i arg1 harg1 arg2 harg2 f1 f2 f0 g rowOf t hT hrow hg _ _ hw23 _ (fun r29 hw29 => ?_)
  refine step_enqueue hrow hg (j := 32 * t.val + 29) (by omega) ((k0_off90_eq t).trans (off_word (by omega) rfl)) (off_word hw29 rfl) ?_
  refine step_word hT (j := 32 * t.val + 30) (by omega) ((k0_off91_eq t).trans (off_word (by omega) (by omega))) (fun w30 hw30 => ?_)
  refine step_check (row_check hw30 (hrow _)) ?_
  refine step_enqueue hrow hg (j := 32 * t.val + 30) (by omega) ((k0_off93_eq t).trans (off_word (by omega) rfl)) (off_word hw30 rfl) ?_
  refine step_word hT (j := 32 * t.val + 31) (by omega) ((k0_off94_eq t).trans (off_word (by omega) (by omega))) (fun w31 hw31 => ?_)
  refine step_check (row_check hw31 (hrow _)) ?_
  refine step_enqueue hrow hg (j := 32 * t.val + 31) (by omega) ((k0_off96_eq t).trans (off_word (by omega) rfl)) (off_word hw31 rfl) ?_
  show _ ⊢ wp frame (wpE (defs₀ (F := F)) Variants.none (c : Thread nD τ) none) Set.univ (.ret _) Q
  rw [wp_ret]
  exact h.trans (BI.fupd_intro)

end Trip

end Cert.Dispatch

end
-- ==== Proof.DispatchBody.lean ====
/-
  The dispatch kernel's body at one grid point.

  The result buffer is cut into the 1,024 destination rows and the rest, the staged block into one read token for each
  transfer; both loops are run; every piece is put together again at the landed contents (`body_wp`).
-/
module

public import proofs.«01_k».proof.Proof.DispatchTrip

@[expose] public section

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline library's beside the transfers' counters. -/
local notation "𝕄" => MT nD τ sig Unit (Elt F) ℕ (Pipeline.UD sig nD τ) ℕ

theorem pair_split {I : Type} (s : Finset I) (Φ Ψ : I → sProp 𝕄) :
    BI.bigSep s (fun i => iprop(Φ i ∗ Ψ i)) = iprop(BI.bigSep s Φ ∗ BI.bigSep s Ψ) := BI.bigSep_sep s Φ Ψ

section Body

variable (c : Dev nD) (i : grid0.Coords)
  (arg1 : Memref sig .tc .smem S4x256 .i32) (harg1 : arg1.IsWhole)
  (arg2 : Memref sig .tc .vmem S256x1024 .f32) (harg2 : arg2.IsWhole)
  (f1 : Buf (Elt F) (arg1.view.loc (c : Thread nD τ))) (f2 : Buf (Elt F) (arg2.view.loc (c : Thread nD τ)))
  (f0 g : S147456x1024.Idx → Elt F .f32) (rowOf : Fin 1024 → ℕ)

/-- The result buffer, whole, at contents `f`. -/
abbrev outAt (f : S147456x1024.Idx → Elt F .f32) : sProp 𝕄 := (c : Thread nD τ).loc main_v0 ↦[Finset.univ]{fullShare} f

open Classical in
/-- The elements of the rows of the point's transfers. -/
def hit : Finset S147456x1024.Idx := Finset.univ.filter fun y => ∃ j, (y 0).val = rowOf j

open Classical in
theorem mem_hit (y : S147456x1024.Idx) : y ∈ hit rowOf ↔ ∃ j, (y 0).val = rowOf j := by
  unfold hit; rw [Finset.mem_filter]; exact ⟨fun h => h.2, fun h => ⟨Finset.mem_univ _, h⟩⟩

theorem biUnion_hit [DecidableEq S147456x1024.Idx] (S : Finset (Fin 1024)) (hS : ∀ j, j ∈ S) :
    S.biUnion (fun j => dstSet (rowOf j)) = hit rowOf := by
  ext y; rw [Finset.mem_biUnion, mem_hit]
  constructor
  · rintro ⟨j, -, h⟩; exact ⟨j, (mem_dstSet _ _).mp h⟩
  · rintro ⟨j, h⟩; exact ⟨j, hS j, (mem_dstSet _ _).mpr h⟩

open Classical in
/-- The result's other elements. -/
def restSet : Finset S147456x1024.Idx := Finset.univ.filter fun y => ∀ j, (y 0).val ≠ rowOf j

open Classical in
theorem mem_restSet {y : S147456x1024.Idx} : y ∈ restSet rowOf ↔ ∀ j, (y 0).val ≠ rowOf j := by
  unfold restSet; rw [Finset.mem_filter]; exact ⟨fun h => h.2, fun h => ⟨Finset.mem_univ _, h⟩⟩

theorem hit_disjoint_rest : Disjoint (hit rowOf) (restSet rowOf) := by
  rw [Finset.disjoint_left]; intro y hy hy'
  obtain ⟨j, h⟩ := (mem_hit _ _).mp hy
  exact (mem_restSet rowOf).mp hy' j h

theorem hit_union_rest [DecidableEq S147456x1024.Idx] : hit rowOf ∪ restSet rowOf = Finset.univ := by
  ext y; rw [Finset.mem_union, mem_hit, mem_restSet]
  refine ⟨fun _ => Finset.mem_univ _, fun _ => ?_⟩
  by_cases h : ∃ j, (y 0).val = rowOf j
  · exact .inl h
  · exact .inr fun j e => h ⟨j, e⟩

/-- The result is the destination rows and the rest. -/
theorem out_split (hinj : Function.Injective rowOf) (f : S147456x1024.Idx → Elt F .f32) :
    outAt c f ⊣⊢ iprop((BI.bigSep Finset.univ (dstAt c rowOf f)) ∗ ((c : Thread nD τ).loc main_v0 ↦[restSet rowOf]{fullShare} f : sProp 𝕄)) := by
  classical
  have h := pointsTo_biUnion (ℓ := (c : Thread nD τ).loc main_v0) (q := fullShare) (f := f) (Ix := Unit) (Name := ℕ) (U := Pipeline.UD sig nD τ) (Lvl := ℕ)
    (Finset.univ : Finset (Fin 1024)) (fun j => dstSet (rowOf j)) (fun t _ t' _ hne => dstSet_disjoint fun e => hne (hinj e))
  have hu := pointsTo_union (ℓ := (c : Thread nD τ).loc main_v0) (q := fullShare) (f := f) (Ix := Unit) (Name := ℕ) (U := Pipeline.UD sig nD τ) (Lvl := ℕ)
    (hit_disjoint_rest rowOf)
  rw [biUnion_hit rowOf Finset.univ Finset.mem_univ] at h
  rw [hit_union_rest] at hu
  have e : (BI.bigSep Finset.univ (dstAt c rowOf f)) = ((c : Thread nD τ).loc main_v0 ↦[hit rowOf]{fullShare} f : sProp 𝕄) := h.symm
  rw [e]
  exact hu

/-- What of its token transfer `j` does not use. -/
def sideAt (j : Fin 1024) : sProp 𝕄 :=
  arg2.view.loc (c : Thread nD τ) ↦[arg2.view.set \ srcSet c arg2 (j.val / 4) (quarter_lt j)]{Transfers.shareTokN fullShare j.val} f2

/-- The staged block is the transfers' reads and what they do not use. -/
theorem block_split :
    (arg2.view.loc (c : Thread nD τ) ↦[arg2.view.set]{fullShare} f2 : sProp 𝕄)
      ⊣⊢ iprop((arg2.view.loc (c : Thread nD τ) ↦[arg2.view.set]{Transfers.shareDrop fullShare 1024} f2)
          ∗ (BI.bigSep Finset.univ (srcAt c arg2 f2)) ∗ (BI.bigSep Finset.univ (sideAt c arg2 f2))) := by
  have hs : ∀ j : Fin 1024, (arg2.view.loc (c : Thread nD τ) ↦[arg2.view.set]{Transfers.shareTok fullShare 1024 j} f2 : sProp 𝕄)
      ⊣⊢ iprop(srcAt c arg2 f2 j ∗ sideAt c arg2 f2 j) := fun j =>
    pointsTo_split_subset (View.set_slice_subset _ _)
  have h := Transfers.pointsTo_toks (ℓ := arg2.view.loc (c : Thread nD τ)) (S := arg2.view.set) (f := f2) (Ix := Unit) (Name := ℕ)
    (U := Pipeline.UD sig nD τ) (Lvl := ℕ) fullShare 1024
  refine ⟨h.1.trans ?_, BIBase.Entails.trans ?_ h.2⟩
  · rw [← pair_split]
    exact sep_mono .rfl (BI.bigSep_mono fun j _ => (hs j).1)
  · rw [← pair_split]
    exact sep_mono .rfl (BI.bigSep_mono fun j _ => (hs j).2)

theorem k0_t2_trips : k0_t2_loop.trips = 256 := by decide

/-- Before drain trip `k`: what the core has waited for, the table, and the batch with `4 k` transfers' credit taken back. -/
def drainAt (k : ℕ) : sProp 𝕄 :=
  iprop((∃ W, owes (c : Thread nD τ) 0 W) ∗ tableAt c arg1 f1 ∗ batch c arg2 f2 g rowOf 1024 (NN * (4 * k)))

/-- One wait of the drain loop. -/
theorem step_wait {α : Type} {Q : α → sProp 𝕄} {n : ℕ} (hn : n < 1024) {H : sProp 𝕄}
    {srcw : Memref sig .tc .vmem S1x1024 .f32} {hsrc : srcw.view.WordExact}
    {hdst : (outM.slice (Rect.unit (s := S147456x1024) ![0, 0] S1x1024.size inb_S147456x1024_S1x1024_0_0) (fun _ => rfl)).view.WordExact}
    {K : PUnit → Prog (TpuEff nD τ sig (Elt F) Λ₀ .tc) α}
    (h : iprop((∃ W, owes (c : Thread nD τ) 0 W) ∗ H ∗ batch c arg2 f2 g rowOf 1024 (NN * (n + 1)))
      ⊢ wp frame (wpE (defs₀ (F := F)) Variants.none (c : Thread nD τ) none) Set.univ (K ⟨⟩) Q) :
    iprop((∃ W, owes (c : Thread nD τ) 0 W) ∗ H ∗ batch c arg2 f2 g rowOf 1024 (NN * n))
      ⊢ wp frame (wpE (defs₀ (F := F)) Variants.none (c : Thread nD τ) none) Set.univ
          (Prog.lift (.waitDma2 cc0_scratch0.sem srcw
            (outM.slice (Rect.unit (s := S147456x1024) ![0, 0] S1x1024.size inb_S147456x1024_S1x1024_0_0) (fun _ => rfl)) hsrc hdst) >>= K) Q := by
  have e : NN * n + 1 * NN = NN * (n + 1) := by rw [Nat.one_mul, Nat.mul_succ]
  have hu : NN * n + 1 * NN ≤ NN * 1024 := e ▸ Nat.mul_le_mul_left _ hn
  iintro ⟨⟨%W, HW⟩, HH, HB⟩
  iapply (Transfers.wp_waitBatchMul (countersEmb (U := Pipeline.UD sig nD τ)) Variants.none (c : Thread nD τ) none (D := ends c arg2 f2 rowOf g)
    () 1 (Nat.one_mul NN).symm hu (W := W)) $$ [HB HW]
  · isplitl [HB]; · iexact HB
    iexact HW
  iintro ⟨HB, HW⟩
  rw [e]
  iapply h
  isplitl [HW]; · iexists _; iexact HW
  isplitl [HH]; · iexact HH
  iexact HB

/-- One drain trip: four transfers' credit taken back. -/
theorem drain_wp (t : Fin k0_t2_loop.trips) :
    drainAt c arg1 arg2 f1 f2 g rowOf t.val
      ⊢ wp frame (wpE (defs₀ (F := F)) Variants.none (c : Thread nD τ) none) Set.univ
          (k0_t2_body i arg1 harg1 arg2 harg2 (outA) (Memref.isWhole_whole _) (outA) (Memref.isWhole_whole _) cc0_scratch0 t ⟨⟩)
          (fun _ => drainAt c arg1 arg2 f1 f2 g rowOf (t.val + 1)) := by
  have ht : t.val < 256 := Nat.lt_of_lt_of_eq t.isLt k0_t2_trips
  unfold drainAt k0_t2_body
  refine step_wait c arg2 f2 g rowOf (n := 4 * t.val) (by omega) ?_
  refine step_wait c arg2 f2 g rowOf (n := 4 * t.val + 1) (by omega) ?_
  refine step_wait c arg2 f2 g rowOf (n := 4 * t.val + 2) (by omega) ?_
  refine step_wait c arg2 f2 g rowOf (n := 4 * t.val + 3) (by omega) ?_
  show _ ⊢ wp frame (wpE (defs₀ (F := F)) Variants.none (c : Thread nD τ) none) Set.univ (.ret _) _
  rw [wp_ret]
  exact BI.fupd_intro

/-- The whole body at a point: the result is left at the landed contents, everything else as it was. -/
theorem body_wp (hT : TableReads c arg1 f1 rowOf) (hrow : ∀ j, rowOf j < 147456) (hinj : Function.Injective rowOf)
    (hg : Landed c arg2 f2 g rowOf) (hrest : ∀ y, (∀ j, (y 0).val ≠ rowOf j) → g y = f0 y) {W : Waits sig Unit} :
    iprop(tableAt c arg1 f1 ∗ (arg2.view.loc (c : Thread nD τ) ↦[arg2.view.set]{fullShare} f2) ∗ outAt c f0
        ∗ semVal ((c : Thread nD τ), SemLoc.dma cc0_scratch0.sem) 0 ∗ owes (c : Thread nD τ) 0 W)
      ⊢ wp frame (wpE (defs₀ (F := F)) Variants.none (c : Thread nD τ) none) Set.univ
          (cc0_moe_dispatch i arg1 harg1 arg2 harg2 (outA) (Memref.isWhole_whole _) (outA) (Memref.isWhole_whole _) cc0_scratch0)
          (fun _ => iprop(tableAt c arg1 f1 ∗ (arg2.view.loc (c : Thread nD τ) ↦[arg2.view.set]{fullShare} f2) ∗ outAt c g
            ∗ semVal ((c : Thread nD τ), SemLoc.dma cc0_scratch0.sem) 0 ∗ ∃ W', owes (c : Thread nD τ) 0 W')) := by
  have e2 : ((c : Thread nD τ).loc main_v0 ↦[restSet rowOf]{fullShare} f0 : sProp 𝕄)
      = ((c : Thread nD τ).loc main_v0 ↦[restSet rowOf]{fullShare} g) :=
    pointsTo_congr fun y hy => (hrest y ((mem_restSet rowOf).mp hy)).symm
  have e1 := out_split c rowOf hinj f0
  have e3 := out_split c rowOf hinj g
  have e4 := block_split c arg2 f2
  have eu : ∀ f, BI.bigSep Finset.univ (ends c arg2 f2 rowOf f)
      = iprop(BI.bigSep Finset.univ (dstAt c rowOf f) ∗ BI.bigSep Finset.univ (srcAt c arg2 f2)) := fun f =>
    pair_split Finset.univ (dstAt c rowOf f) (srcAt c arg2 f2)
  rw [cc0_moe_dispatch_eq_skeleton]
  unfold cc0_moe_dispatch_skel
  iintro ⟨H1, H2, H0, HV, HW⟩
  ihave ⟨HD, HR⟩ := e1.1 $$ H0
  ihave ⟨HS, HT, HX⟩ := e4.1 $$ H2
  imod (Transfers.batch_alloc' (countersEmb (U := Pipeline.UD sig nD τ)) () NN (ends c arg2 f2 rowOf g) (c := (c : Thread nD τ))
    (sm := SemLoc.dma cc0_scratch0.sem) (E := Set.univ)) $$ HV with HB
  iapply (Scf.wp_for_bind (Fr := frame) (wpE := wpE (defs₀ (F := F)) Variants.none (c : Thread nD τ) none) (Es := Set.univ)
    k0_t1_loop.lb k0_t1_loop.ub k0_t1_loop.st k0_t1_ok ⟨⟩ _ (fun k _ => issueAt c arg1 arg2 f1 f2 f0 g rowOf (32 * k))
    (fun t _ => trip_wp c i arg1 harg1 arg2 harg2 f1 f2 f0 g rowOf t hT hrow hg .rfl)) $$ [H1 HD HT HB]
  · unfold issueAt
    rw [Nat.mul_zero, Ring.rangeSet_univ, eu]
    isplitl [H1]; · iexact H1
    isplitl [HD HT]
    · isplitl [HD]; · iexact HD
      iexact HT
    iexact HB
  iintro %_ HI
  rw [show 32 * Scf.trips k0_t1_loop.lb k0_t1_loop.ub k0_t1_loop.st = 1024 from congrArg (32 * ·) k0_trips]
  unfold issueAt
  icases HI with ⟨H1, -, HB⟩
  iapply (Scf.wp_for_bind (Fr := frame) (wpE := wpE (defs₀ (F := F)) Variants.none (c : Thread nD τ) none) (Es := Set.univ)
    k0_t2_loop.lb k0_t2_loop.ub k0_t2_loop.st k0_t2_ok ⟨⟩ _ (fun k _ => drainAt c arg1 arg2 f1 f2 g rowOf k)
    (fun t _ => drain_wp c i arg1 harg1 arg2 harg2 f1 f2 g rowOf t)) $$ [H1 HB HW]
  · unfold drainAt
    isplitl [HW]; · iexists W; iexact HW
    isplitl [H1]; · iexact H1
    iexact HB
  iintro %_ HI
  rw [show Scf.trips k0_t2_loop.lb k0_t2_loop.ub k0_t2_loop.st = 256 from k0_t2_trips]
  unfold drainAt
  icases HI with ⟨HW, H1, HB⟩
  rw [show NN * (4 * 256) = NN * 1024 from rfl]
  imod (Transfers.batch_collect' (countersEmb (U := Pipeline.UD sig nD τ)) (c := (c : Thread nD τ)) (sm := SemLoc.dma cc0_scratch0.sem) (ι := ())
    NN_pos (D := ends c arg2 f2 rowOf g)) $$ HB with ⟨HE, HV⟩
  ihave ⟨HD, HT⟩ := (BIBase.Entails.of_eq (eu g)) $$ HE
  rw [show (Pure.pure PUnit.unit : Prog (TpuEff nD τ sig (Elt F) Λ₀ .tc) PUnit) = .ret PUnit.unit from rfl, wp_ret]
  imodintro
  isplitl [H1]; · iexact H1
  isplitl [HS HT HX]
  · iapply e4.2
    isplitl [HS]; · iexact HS
    isplitl [HT]; · iexact HT
    iexact HX
  isplitl [HD HR]
  · iapply e3.2
    isplitl [HD]; · iexact HD
    iapply (BIBase.Entails.of_eq e2)
    iexact HR
  isplitl [HV]; · iexact HV
  iexact HW

end Body

end Cert.Dispatch

end
-- ==== Proof.DispatchFill.lean ====
/-
  What the result holds after some of the tokens are written.

  `filled dest h1 z p`: every row that one of the first `256 · p` tokens names holds that token's row of `h1`, every other
  row what `z` held. The point that writes the next 256 tokens takes `filled p` to `filled (p + 1)`.
-/
module

public import proofs.«01_k».proof.Proof.Gen.KernelIdeal

@[expose] public section

noncomputable section

namespace Cert.Dispatch

open Cert.KernelIdeal
open Idealize.ShloMosaic

variable {F : FTy → Type} [FloatOps F]

/-- The rows named lie in the result, and no row is named twice. -/
def Distinct (dest : S4x32768.Idx → BitVec 32) : Prop :=
  (∀ x, (dest x).toNat < 147456) ∧ ∀ x x', (dest x).toNat = (dest x').toNat → x = x'

/-- Row `y` is named by slot `x` among the first `256 · p` tokens; `q` is its element of `h1`. -/
def Source (dest : S4x32768.Idx → BitVec 32) (p : ℕ) (y : S147456x1024.Idx) (q : S32768x1024.Idx) : Prop :=
  (q 1).val = (y 1).val ∧ ∃ x : S4x32768.Idx, (x 1).val = (q 0).val ∧ (x 1).val < 256 * p ∧ (dest x).toNat = (y 0).val

open Classical in
/-- The result once the first `256 · p` tokens are written. -/
def filled (dest : S4x32768.Idx → BitVec 32) (h1 : S32768x1024.Idx → Elt F .f32) (z : S147456x1024.Idx → Elt F .f32) (p : ℕ) :
    S147456x1024.Idx → Elt F .f32 := fun y => if h : ∃ q, Source dest p y q then h1 h.choose else z y

variable {dest : S4x32768.Idx → BitVec 32} (h1 : S32768x1024.Idx → Elt F .f32) (z : S147456x1024.Idx → Elt F .f32)

/-- The result as it is created: zeros. -/
abbrev fresh : S147456x1024.Idx → Elt F .f32 :=
  broadcastInDim S147456x1024 ![] Facts₀.bcast_S_S147456x1024 (constant (F := F) S_ .f32 0x00000000#32)

/-- An element of `h1` by its token and its column. -/
def tokAt (n : Fin 32768) (j : Fin 1024) : S32768x1024.Idx := fun a => match a with
  | ⟨0, _⟩ => n
  | ⟨1, _⟩ => j

/-- A slot by its number and its token. -/
def slotAt (k : Fin 4) (n : Fin 32768) : S4x32768.Idx := fun a => match a with
  | ⟨0, _⟩ => k
  | ⟨1, _⟩ => n

theorem slot_ext {x x' : S4x32768.Idx} (h0 : (x 0).val = (x' 0).val) (h1 : (x 1).val = (x' 1).val) : x = x' := by
  funext a; match a with
  | ⟨0, _⟩ => exact Fin.ext h0
  | ⟨1, _⟩ => exact Fin.ext h1

theorem tok_ext {x x' : S32768x1024.Idx} (h0 : (x 0).val = (x' 0).val) (h1 : (x 1).val = (x' 1).val) : x = x' := by
  funext a; match a with
  | ⟨0, _⟩ => exact Fin.ext h0
  | ⟨1, _⟩ => exact Fin.ext h1

theorem source_unique (hd : Distinct dest) {p p' : ℕ} {y : S147456x1024.Idx} {q q' : S32768x1024.Idx}
    (h : Source dest p y q) (h' : Source dest p' y q') : q = q' := by
  obtain ⟨e1, x, e0, -, ed⟩ := h
  obtain ⟨e1', x', e0', -, ed'⟩ := h'
  have hx := hd.2 x x' (ed.trans ed'.symm)
  subst hx
  exact tok_ext (e0.symm.trans e0') (e1.trans e1'.symm)

theorem filled_hit (hd : Distinct dest) {p : ℕ} {y : S147456x1024.Idx} {q : S32768x1024.Idx} (h : Source dest p y q) :
    filled dest h1 z p y = h1 q := by
  unfold filled
  rw [dif_pos ⟨q, h⟩]
  exact congrArg h1 (source_unique hd (Exists.choose_spec (⟨q, h⟩ : ∃ q, Source dest p y q)) h)

theorem filled_miss {p : ℕ} {y : S147456x1024.Idx}
    (h : ∀ x : S4x32768.Idx, (x 1).val < 256 * p → (dest x).toNat ≠ (y 0).val) : filled dest h1 z p y = z y := by
  unfold filled
  rw [dif_neg]
  rintro ⟨q, -, x, -, hx, e⟩
  exact h x hx e

theorem filled_zero : filled dest h1 z 0 = z := by
  funext y; exact filled_miss h1 z fun x hx => absurd hx (by omega)

/-- Away from the rows of the tokens between, both stages agree. -/
theorem filled_step (hd : Distinct dest) {p : ℕ} {y : S147456x1024.Idx}
    (h : ∀ x : S4x32768.Idx, 256 * p ≤ (x 1).val → (x 1).val < 256 * (p + 1) → (dest x).toNat ≠ (y 0).val) :
    filled dest h1 z (p + 1) y = filled dest h1 z p y := by
  by_cases hq : ∃ q, Source dest p y q
  · obtain ⟨q, hq⟩ := hq
    rw [filled_hit h1 z hd hq]
    obtain ⟨e1, x, e0, hx, ed⟩ := hq
    exact filled_hit h1 z hd ⟨e1, x, e0, by omega, ed⟩
  · have hno : ∀ x : S4x32768.Idx, (x 1).val < 256 * p → (dest x).toNat ≠ (y 0).val := fun x hx e =>
      hq ⟨tokAt (x 1) (y 1), rfl, x, rfl, hx, e⟩
    rw [filled_miss h1 z hno]
    refine filled_miss h1 z fun x hx => ?_
    by_cases hp : (x 1).val < 256 * p
    · exact hno x hp
    · exact h x (by omega) hx

end Cert.Dispatch

end
-- ==== Proof.DispatchRun.lean ====
/-
  The dispatch program's run: the result is held across the grid as the program's own array, at point `p` as the first
  `256 · p` tokens left it (`filled`).
-/
module

public import proofs.«01_k».proof.Proof.DispatchBody
public import proofs.«01_k».proof.Proof.DispatchFill
public import proofs.«01_k».proof.Proof.Gen.KernelIdeal.Frame
public import Idealize.ShloMosaic.Lib.Pipeline.FrameValue
public import Idealize.ShloMosaic.Lib.Pipeline.FrameBody
public import Idealize.ShloMosaic.Lib.Pipeline.Value
public import Idealize.ShloMosaic.Lib.StableHlo.Run

@[expose] public section

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The staged blocks -/

/-- The destination rows as the grid finds them. -/
abbrev destV (c : Dev nD) : S4x32768.Idx → BitVec 32 := V m c main_arg0
/-- The tokens as the grid finds them. -/
abbrev tokV (c : Dev nD) : S32768x1024.Idx → Elt F .f32 := V m c main_arg1
/-- The result as the grid finds it. -/
abbrev outV (c : Dev nD) : S147456x1024.Idx → Elt F .f32 := V m c main_v0
/-- The result once the first `p` points are through. -/
abbrev outAfter (c : Dev nD) (p : ℕ) : S147456x1024.Idx → Elt F .f32 := filled (destV m c) (tokV m c) (outV m c) p

theorem point_lt (t : Fin cfg0.N) : t.val < 128 := lt_of_lt_of_eq t.isLt N_0

theorem coord (t : Fin cfg0.N) : ((grid0.coords t) 0).val = t.val :=
  (Pipeline.Grid.coords_val t 0 (S := 1) (B := 128) (by decide) rfl).trans (by have := point_lt t; omega)

theorem index0 (t : Fin cfg0.N) : win0_0.index t 1 = t.val := by
  show (BitVec.ofNat 32 ((grid0.coords t) 0).val).toNat = t.val
  rw [coord, BitVec.toNat_ofNat]; have := point_lt t; omega

theorem index1 (t : Fin cfg0.N) : win0_1.index t 0 = t.val := by
  show (BitVec.ofNat 32 ((grid0.coords t) 0).val).toNat = t.val
  rw [coord, BitVec.toNat_ofNat]; have := point_lt t; omega

theorem iblk0_eq (c : Dev nD) (t : Fin cfg0.N) (y : S4x256.Idx) (x : S4x32768.Idx) (h0 : (x 0).val = (y 0).val)
    (h1 : (x 1).val = 256 * t.val + (y 1).val) : iblk m c 0 t y = destV m c x := by
  show destV m c ((win0_0.rect t).emb y) = destV m c x
  congr 1
  refine slot_ext ?_ ?_
  · rw [Pipeline.Window.rect_emb_val win0_0 t y 0]
    show (0 : ℕ) * 4 + (y 0).val = _
    omega
  · rw [Pipeline.Window.rect_emb_val win0_0 t y 1, index0]
    show t.val * 256 + (y 1).val = _
    omega

theorem iblk1_eq (c : Dev nD) (t : Fin cfg0.N) (y : S256x1024.Idx) (x : S32768x1024.Idx) (h0 : (x 0).val = 256 * t.val + (y 0).val)
    (h1 : (x 1).val = (y 1).val) : iblk m c 1 t y = tokV m c x := by
  show tokV m c ((win0_1.rect t).emb y) = tokV m c x
  congr 1
  refine tok_ext ?_ ?_
  · rw [Pipeline.Window.rect_emb_val win0_1 t y 0, index1]
    show t.val * 256 + (y 0).val = _
    omega
  · rw [Pipeline.Window.rect_emb_val win0_1 t y 1]
    show (0 : ℕ) * 1024 + (y 1).val = _
    omega

/-! ## One point's transfers -/

/-- The slot of the `j`-th transfer of point `t`. -/
def slotOf (t : Fin cfg0.N) (j : Fin 1024) : S4x32768.Idx :=
  slotAt ⟨j.val % 4, Nat.mod_lt _ (by decide)⟩ ⟨256 * t.val + j.val / 4, by have := point_lt t; have := j.isLt; omega⟩

/-- The row it writes. -/
def rowAt (c : Dev nD) (t : Fin cfg0.N) (j : Fin 1024) : ℕ := (destV m c (slotOf t j)).toNat

/-- The transfer that serves a slot of point `t`'s tokens. -/
theorem slotOf_surj (t : Fin cfg0.N) (x : S4x32768.Idx) (h : 256 * t.val ≤ (x 1).val) (h' : (x 1).val < 256 * (t.val + 1)) :
    ∃ j, slotOf t j = x := by
  have hk : (x 0).val < 4 := (x 0).isLt
  refine ⟨⟨4 * ((x 1).val - 256 * t.val) + (x 0).val, by omega⟩, slot_ext ?_ ?_⟩
  · show (4 * ((x 1).val - 256 * t.val) + (x 0).val) % 4 = _
    omega
  · show 256 * t.val + (4 * ((x 1).val - 256 * t.val) + (x 0).val) / 4 = _
    omega

variable {m}

theorem rowAt_injective {c : Dev nD} (hd : Distinct (destV m c)) (t : Fin cfg0.N) : Function.Injective (rowAt m c t) := by
  intro j j' h
  have e := hd.2 _ _ h
  have e0 : j.val % 4 = j'.val % 4 := congrArg (fun x : S4x32768.Idx => (x 0).val) e
  have e1 : 256 * t.val + j.val / 4 = 256 * t.val + j'.val / 4 := congrArg (fun x : S4x32768.Idx => (x 1).val) e
  exact Fin.ext (by omega)

theorem tableReads {c : Dev nD} (t : Fin cfg0.N) {arg1 : Memref sig .tc .smem S4x256 .i32} {f1 : Buf (Elt F) (arg1.view.loc (c : Thread nD τ))}
    (h : arg1.view.read (Elt F) f1 = iblk m c 0 t) : TableReads c arg1 f1 (rowAt m c t) := by
  intro j y h0 h1
  rw [h]
  exact congrArg BitVec.toNat (iblk0_eq m c t y (slotOf t j) h0.symm (by rw [h1]; rfl))

theorem landed {c : Dev nD} (hd : Distinct (destV m c)) (t : Fin cfg0.N) {arg2 : Memref sig .tc .vmem S256x1024 .f32}
    {f2 : Buf (Elt F) (arg2.view.loc (c : Thread nD τ))} (h : arg2.view.read (Elt F) f2 = iblk m c 1 t) :
    Landed c arg2 f2 (outAfter m c (t.val + 1)) (rowAt m c t) := by
  intro j y x hy h0 h1
  have hj := j.isLt
  have ht := point_lt t
  rw [h]
  refine (filled_hit _ _ hd (q := tokAt ⟨256 * t.val + j.val / 4, by omega⟩ (y 1)) ⟨rfl, slotOf t j, rfl, ?_, hy.symm⟩).trans ?_
  · show 256 * t.val + j.val / 4 < _
    omega
  · refine (iblk1_eq m c t x _ ?_ h1.symm).symm
    rw [h0]; rfl

theorem rest {c : Dev nD} (hd : Distinct (destV m c)) (t : Fin cfg0.N) (y : S147456x1024.Idx) (h : ∀ j, (y 0).val ≠ rowAt m c t j) :
    outAfter m c (t.val + 1) y = outAfter m c t.val y :=
  filled_step _ _ hd fun x hx hx' e => by
    obtain ⟨j, rfl⟩ := slotOf_surj t x hx hx'
    exact h j e.symm

variable (m)

/-! ## The proof data -/

/-- The kernel's own semaphore. -/
abbrev osem0 : Fin 1 → SemLoc sig := fun j => (![SemLoc.dma 4] : Fin 1 → SemLoc sig) j
theorem ownSemFacts0 : Pipeline.OwnSemFacts spec0 osem0 := by decide
/-- No array is only read in place. -/
abbrev H0 : Finset (Ref sig .tc) := ∅
theorem H0_sub : H0 ⊆ Pipeline.restRefs sig spec0 := by decide
/-- The result is written in place. -/
abbrev R0 : Finset (Ref sig .tc) := {main_v0}
theorem R0_sub : R0 ⊆ Pipeline.restRefs sig spec0 \ H0 := by decide

/-- The rewritten array's contents at the end. -/
def G (c : Dev nD) (p : ℕ) (b : Ref sig .tc) : Buf (Elt F) ((c : Thread nD τ).loc b) :=
  if h : b = main_v0 then h ▸ outAfter m c p else V m c b

theorem G_out (c : Dev nD) (p : ℕ) : G m c p main_v0 = outAfter m c p := by unfold G; rw [dif_pos rfl]

/-- What every point holds beside its staged blocks. -/
def S (c : Dev nD) (p : ℕ) : sProp 𝕄 :=
  iprop((∃ r, prngReg c r) ∗ semVal ((c : Thread nD τ), SemLoc.dma cc0_scratch0.sem) 0 ∗ outAt c (outAfter m c p))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := S m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem phi_pre (c : Dev nD) (t : Fin cfg0.N) : (dats m 0 c).Φ t.castSucc = S m c t.val := rfl
theorem phi_post (c : Dev nD) (t : Fin cfg0.N) : (dats m 0 c).Φ t.succ = S m c (t.val + 1) := rfl

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; rfl)

theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans
    (by unfold Dat.fetched Dat.blockOf iblk; rw [A_eq]; rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (hd : Distinct (destV m c)) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, phi_pre, phi_post]
  unfold Dat.owesAt Pipeline.owesWithin S
  rw [show (dats m 0 c).owed t.castSucc = 0 from rfl, show (dats m 0 c).owed t.succ = 0 from rfl]
  iintro ⟨⟨Hg, Hq, Ho⟩, ⟨%W, -, HW⟩, ⟨%d0, H0⟩, ⟨%d1, H1⟩⟩
  unfold owns
  icases H0 with ⟨%f1, %e1, H0⟩
  icases H1 with ⟨%f2, %e2, H1⟩
  iapply wp_wand_r
  isplitl [H0 H1 Ho Hq HW]
  · iapply (body_wp c (grid0.coords t) _ _ _ _ f1 f2 (outAfter m c t.val) (outAfter m c (t.val + 1)) (rowAt m c t)
      (tableReads t e1) (fun j => hd.1 _) (rowAt_injective hd t) (landed hd t e2) (rest hd t) (W := W))
    isplitl [H0]; · iexact H0
    isplitl [H1]; · iexact H1
    isplitl [Ho]; · iexact Ho
    isplitl [Hq]; · iexact Hq
    iexact HW
  iintro %_ ⟨H0, H1, Ho, Hq, ⟨%W', HW'⟩⟩
  isplitl [Hg Hq Ho]
  · isplitl [Hg]; · iexact Hg
    isplitl [Hq]; · iexact Hq
    iexact Ho
  isplitl [HW']
  · iexists W'; isplitr; · ipureintro; exact fun _ _ => Or.inl trivial
    iexact HW'
  isplitl [H0]
  · iexists f1; isplitr; · ipureintro; exact e1
    iexact H0
  · iexists f2; isplitr; · ipureintro; exact e2
    iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) (hd : Distinct (destV m c)) :
    BodyObligation (dats (F := F) m 0 c) (defs₀ (F := F)) Variants.none () Set.univ := fun t => by
  rw [bigSep_W0, bigSep_W0, defs₀_row]
  exact triple_restated (sound_body m c hd t) rfl .rfl fun _ => .rfl

/-! ## The run -/

/-- The result as the grid finds it: zeros. -/
theorem outV_eq (c : Dev nD) :
    outV m c = fresh := by
  unfold outV V hostOps0; after_results_simp <;> rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the launch hands the grid, spelt out. -/
theorem launch_eq (c : Dev nD) (p : ℕ) :
    Pipeline.ΦDRG osem0 spec0 H0 R0 (V m) (fun c => G m c p) c
      = iprop(emp ∗ (∃ r, prngReg c r) ∗ semVal ((c : Thread nD τ), SemLoc.dma 4) 0 ∗ emp ∗ outAt (F := F) c (outAfter m c p)) := by
  rw [Pipeline.ΦDRG_eq, Pipeline.routed_singleton, G_out, Pipeline.ownSems0_eq_of_list c osem0 [0] (by decide) (by decide),
    scopedRest0_eq]
  rfl

theorem outAfter_zero (c : Dev nD) : outAfter m c 0 = outV m c := filled_zero _ _

theorem hin (c : Dev nD) : Pipeline.ΦDRG osem0 spec0 H0 R0 (V m) (V m) c ⊢ (dats m 0 c).Φ 0 := by
  have e : Pipeline.routed (τ := τ) R0 c (V m c) = Pipeline.routed R0 c (G m c 0) := by
    rw [Pipeline.routed_singleton, Pipeline.routed_singleton, G_out, outAfter_zero]
  rw [Pipeline.ΦDRG_eq, e, ← Pipeline.ΦDRG_eq (G := fun c => G m c 0), launch_eq, show (dats m 0 c).Φ 0 = S m c 0 from rfl]
  unfold S
  iintro ⟨-, Hg, Hq, -, Ho⟩
  isplitl [Hg]; · iexact Hg
  isplitl [Hq]; · iexact Hq
  iexact Ho

theorem hout (c : Dev nD) :
    (dats m 0 c).Φ (Fin.last cfg0.N) ⊢ Pipeline.ΦDRG osem0 spec0 H0 R0 (V m) (fun c => G m c cfg0.N) c := by
  rw [launch_eq, show (dats m 0 c).Φ (Fin.last cfg0.N) = S m c cfg0.N from rfl]
  unfold S
  iintro ⟨Hg, Hq, Ho⟩
  isplitr; · iempintro
  isplitl [Hg]; · iexact Hg
  isplitl [Hq]; · iexact Hq
  isplitr; · iempintro
  iexact Ho

set_option backward.isDefEq.respectTransparency.types false in
theorem run_main (hd : ∀ c, Distinct (destV m c)) :
    θ_run defs (onTc (τ := τ) (main (F := F))) (s₀ m ρ)
      (fun r => Pipeline.FramePostRG cfgs (dats m) 0 R0 (V m) (fun c => G m c cfg0.N) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c (hd c)).loose) (hshare := fun c => (dats m 0 c).share_full fun _ => rfl)
    (howed := fun _ _ => rfl) (V := V m) (hmain := hmain m Variants.none) (hA := A_eq m) (G := fun c => G m c cfg0.N)
    (hin := hin m) (hout := hout m)

/-- The run at every float instance: the result is the tokens' rows at the rows named, the zeros it was created with
    elsewhere; the arguments are unchanged and every counter is back at zero. -/
theorem run (hd : ∀ c : Dev nD, Distinct (m ((c : Thread nD τ).loc main_arg0))) :
    θ_run defs (onTc (τ := τ) (main (F := F))) ⟨m, fun _ => 0, ρ⟩ (fun r => (∀ c : Dev nD,
      r.2.mem ((c : Thread nD τ).loc main_v0) = filled (m ((c : Thread nD τ).loc main_arg0)) (m ((c : Thread nD τ).loc main_arg1))
          fresh 128
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) := by
  refine (θ_run defs _ _).mono (fun r h => ⟨fun c => ⟨?_, ?_, ?_⟩, h.2⟩)
    (run_main m ρ fun c => by rw [destV, V_main_arg0]; exact hd c)
  · refine (h.1.written c (Finset.mem_singleton_self main_v0)).trans ?_
    rw [G_out, outAfter, destV, tokV, V_main_arg0, V_main_arg1, show cfg0.N = 128 from N_0, outV_eq]
  · exact ((h.1.toR c).1 0).trans (((dats m 0 c).arrAt_in 0 rfl _).trans ((A_eq m c 0).trans (V_main_arg0 m c)))
  · exact ((h.1.toR c).1 1).trans (((dats m 0 c).arrAt_in 1 rfl _).trans ((A_eq m c 1).trans (V_main_arg1 m c)))

end Cert.Dispatch

end
-- ==== Proof.DispatchValue.lean ====
/-
  The reference's four row writes give the contents the kernel's run ends with, and the precondition says what both need of
  the rows: each lies in the result, and no two are equal.
-/
module

public import proofs.«01_k».proof.Proof.DispatchFill
public import proofs.«01_k».proof.Proof.Gen.ReferenceIdeal
public import proofs.«01_k».proof.Proof.Gen.Pre_rows_distinct
public import Idealize.ShloMosaic.Lib.Routing.OpsSet
public import Idealize.ShloMosaic.Lib.Pipeline.Value
public import Idealize.ShloMosaic.Lib.WordCmp

@[expose] public section

noncomputable section

namespace Cert.Dispatch

open Idealize.ShloMosaic

/-! ## The reference -/

section Reference

open Cert.ReferenceIdeal Cert.ReferenceIdeal.Gen

variable {F : FTy → Type} [FloatOps F]

/-- The program's row scatter. -/
abbrev rowScatter : ScatterDims S147456x1024 S32768x1 S32768x1024 := scatter_S147456x1024_S32768x1_S32768x1024_1_0_0_1

/-- Update element `u` lands at `ι` exactly when `u`'s index word, read signed, is `ι`'s row and the columns agree. -/
theorem rowScatter_lands (idx : IVec S32768x1 32) (u : S32768x1024.Idx) (ι : S147456x1024.Idx) (i : S32768x1.Idx) (hi : (i 0).val = (u 0).val) :
    rowScatter.resultIdx? u idx = some ι ↔ (idx i).toInt = ((ι 0).val : Int) ∧ (u 1).val = (ι 1).val := by
  have hi1 : (i 1).val = 0 := by have : (i 1).val < 1 := (i 1).isLt; omega
  have s0 : rowScatter.start u idx 0 = (idx i).toInt := by
    unfold ScatterDims.start
    rw [dif_pos (by decide)]
    refine congrArg (fun j => (idx j).toInt) (funext fun a => ?_)
    match a with
    | ⟨0, _⟩ => exact Fin.ext hi.symm
    | ⟨1, _⟩ => exact Fin.ext hi1.symm
  have s1 : rowScatter.start u idx 1 = 0 := by
    unfold ScatterDims.start
    rw [dif_neg (by decide)]
  have w0 : rowScatter.window u 0 = 0 := by
    unfold ScatterDims.window
    rw [dif_neg (by decide)]
  have w1 : rowScatter.window u 1 = (u 1).val := by
    unfold ScatterDims.window
    rw [dif_pos (by decide)]; rfl
  rw [Routing.resultIdx?_eq_some]
  constructor
  · intro h
    have h0 := h 0
    have h1 := h 1
    rw [s0, w0] at h0
    rw [s1, w1] at h1
    exact ⟨by simpa using h0, by omega⟩
  · rintro ⟨h0, h1⟩ a
    match a with
    | ⟨0, _⟩ => show rowScatter.start u idx 0 + (rowScatter.window u 0 : Int) = _; rw [s0, w0, h0]; simp
    | ⟨1, _⟩ => show rowScatter.start u idx 1 + (rowScatter.window u 1 : Int) = _; rw [s1, w1, h1]; simp

/-- The index words of slot `k`, as the program reads them. -/
def rowsOf (dest : S4x32768.Idx → BitVec 32) (off : Fin 2 → ℕ) (hs : S4x32768.Slices off S1x32768) : IVec S32768x1 32 :=
  broadcastInDim S32768x1 ![0] bcast_S32768_S32768x1_0
    (select (cmpi .slt (shapeCast S32768 (extractStridedSlice S1x32768 off dest hs) shapeCasts_S1x32768_S32768)
        (broadcastInDim S32768 ![] bcast_S_S32768 (constantI S_ 32 0#32)))
      (addi (shapeCast S32768 (extractStridedSlice S1x32768 off dest hs) shapeCasts_S1x32768_S32768)
        (broadcastInDim S32768 ![] bcast_S_S32768 (constantI S_ 32 147456#32)))
      (shapeCast S32768 (extractStridedSlice S1x32768 off dest hs) shapeCasts_S1x32768_S32768))

theorem sliced (dest : S4x32768.Idx → BitVec 32) (k : ℕ) (hs : S4x32768.Slices ![k, 0] S1x32768) (n : Fin 32768) (x : S4x32768.Idx)
    (h0 : (x 0).val = k) (h1 : (x 1).val = n.val) :
    shapeCast S32768 (extractStridedSlice S1x32768 ![k, 0] dest hs) shapeCasts_S1x32768_S32768 (ValueIdx.ix1 n) = dest x := by
  refine (shapeCast_apply _ _ (ValueIdx.ix1 n) (ValueIdx.ix2 (0 : Fin 1) n) ?_).trans ?_
  · rw [Shape.rowMajor_val_two, Shape.rowMajor_val_one]
    show 0 * 32768 + n.val = n.val
    omega
  · refine extractStridedSlice_apply _ _ _ _ x fun a => ?_
    match a with
    | ⟨0, _⟩ => exact h0.trans (by show k = k + 0; omega)
    | ⟨1, _⟩ => exact h1.trans (by show n.val = 0 + n.val; omega)

theorem slt_zero {w : BitVec 32} (h : w.toNat < 147456) : IntOp.cmpi .slt w 0#32 = 0#1 := by
  rw [WordCmp.cmpi_slt_zero, decide_eq_false (by omega)]; rfl

theorem rowsOf_at {dest : S4x32768.Idx → BitVec 32} (hr : ∀ x, (dest x).toNat < 147456) (k : ℕ) (hs : S4x32768.Slices ![k, 0] S1x32768)
    (i : S32768x1.Idx) (x : S4x32768.Idx) (h0 : (x 0).val = k) (h1 : (x 1).val = (i 0).val) : rowsOf dest ![k, 0] hs i = dest x := by
  unfold rowsOf
  refine (broadcastInDim_apply _ _ _ i (ValueIdx.ix1 (i 0)) fun a => ?_).trans ?_
  · match a with
    | ⟨0, _⟩ => rfl
  · show Scalar.select (IntOp.cmpi .slt (shapeCast S32768 _ _ (ValueIdx.ix1 (i 0))) 0#32) _ (shapeCast S32768 _ _ (ValueIdx.ix1 (i 0))) = _
    rw [sliced dest k hs (i 0) x h0 h1, slt_zero (hr x)]
    rfl

theorem toInt_row {w : BitVec 32} (h : w.toNat < 147456) : w.toInt = (w.toNat : Int) :=
  BitVec.toInt_eq_toNat_of_lt (by omega)

variable (h1 : S32768x1024.Idx → Elt F .f32) {dest : S4x32768.Idx → BitVec 32}

/-- One slot's rows written into `f`. -/
abbrev put (dest : S4x32768.Idx → BitVec 32) (off : Fin 2 → ℕ) (hs : S4x32768.Slices off S1x32768) (f : S147456x1024.Idx → Elt F .f32) :
    S147456x1024.Idx → Elt F .f32 := Host.scatter rowScatter (fun _ b => b) f (rowsOf dest off hs) h1

theorem put_hit (hd : Distinct dest) {k : ℕ} {hs : S4x32768.Slices ![k, 0] S1x32768} (f : S147456x1024.Idx → Elt F .f32)
    {y : S147456x1024.Idx} (q : S32768x1024.Idx) (x : S4x32768.Idx) (hq : (q 1).val = (y 1).val) (h0 : (x 0).val = k)
    (hx : (x 1).val = (q 0).val) (hy : (dest x).toNat = (y 0).val) : put h1 dest ![k, 0] hs f y = h1 q := by
  have lands : ∀ u : S32768x1024.Idx, rowScatter.resultIdx? u (rowsOf dest ![k, 0] hs) = some y ↔
      (dest (slotAt (x 0) (u 0))).toNat = (y 0).val ∧ (u 1).val = (y 1).val := fun u => by
    rw [rowScatter_lands _ u y (ValueIdx.ix2 (u 0) (0 : Fin 1)) rfl, rowsOf_at hd.1 k hs _ (slotAt (x 0) (u 0)) h0 rfl, toInt_row (hd.1 _),
      Int.ofNat_inj]
  have hxq : slotAt (x 0) (q 0) = x := slot_ext rfl hx.symm
  refine Routing.scatter_set_hit rowScatter f _ h1 y (h1 q) (fun u hu => ?_) q ((lands q).mpr ⟨by rw [hxq]; exact hy, hq⟩)
  obtain ⟨hu0, hu1⟩ := (lands u).mp hu
  have e := hd.2 _ _ (hu0.trans hy.symm)
  refine congrArg h1 (tok_ext ?_ (hu1.trans hq.symm))
  exact (congrArg (fun x : S4x32768.Idx => (x 1).val) e).trans hx

theorem put_miss (hr : ∀ x, (dest x).toNat < 147456) {k : ℕ} (hk : k < 4) {hs : S4x32768.Slices ![k, 0] S1x32768} (f : S147456x1024.Idx → Elt F .f32)
    {y : S147456x1024.Idx} (h : ∀ x : S4x32768.Idx, (x 0).val = k → (dest x).toNat ≠ (y 0).val) : put h1 dest ![k, 0] hs f y = f y := by
  refine Routing.scatter_set_miss rowScatter f _ h1 y fun u hu => ?_
  rw [rowScatter_lands _ u y (ValueIdx.ix2 (u 0) (0 : Fin 1)) rfl, rowsOf_at hr k hs _ (slotAt ⟨k, hk⟩ (u 0)) rfl rfl, toInt_row (hr _),
    Int.ofNat_inj] at hu
  exact h _ rfl hu.1

/-- The four slots' rows written one after the other: every row named holds its token's row, the others what they held. -/
theorem put_all (hd : Distinct dest) (hs0 : S4x32768.Slices ![0, 0] S1x32768) (hs1 : S4x32768.Slices ![1, 0] S1x32768)
    (hs2 : S4x32768.Slices ![2, 0] S1x32768) (hs3 : S4x32768.Slices ![3, 0] S1x32768) (z : S147456x1024.Idx → Elt F .f32) :
    put h1 dest ![3, 0] hs3 (put h1 dest ![2, 0] hs2 (put h1 dest ![1, 0] hs1 (put h1 dest ![0, 0] hs0 z))) = filled dest h1 z 128 := by
  funext y
  by_cases hq : ∃ q, Source dest 128 y q
  · obtain ⟨q, hq⟩ := hq
    rw [filled_hit h1 z hd hq]
    obtain ⟨e1, x, e0, -, ed⟩ := hq
    have other : ∀ k, k ≠ (x 0).val → ∀ x' : S4x32768.Idx, (x' 0).val = k → (dest x').toNat ≠ (y 0).val := fun k hk x' hx' e => by
      have := hd.2 _ _ (e.trans ed.symm)
      subst this
      exact hk hx'.symm
    have hlt : (x 0).val < 4 := (x 0).isLt
    obtain hk | hk | hk | hk : (x 0).val = 0 ∨ (x 0).val = 1 ∨ (x 0).val = 2 ∨ (x 0).val = 3 := by omega
    · rw [put_miss h1 hd.1 (by decide) _ (other 3 (by omega)), put_miss h1 hd.1 (by decide) _ (other 2 (by omega)),
        put_miss h1 hd.1 (by decide) _ (other 1 (by omega)), put_hit h1 hd _ q x e1 hk e0 ed]
    · rw [put_miss h1 hd.1 (by decide) _ (other 3 (by omega)), put_miss h1 hd.1 (by decide) _ (other 2 (by omega)),
        put_hit h1 hd _ q x e1 hk e0 ed]
    · rw [put_miss h1 hd.1 (by decide) _ (other 3 (by omega)), put_hit h1 hd _ q x e1 hk e0 ed]
    · rw [put_hit h1 hd _ q x e1 hk e0 ed]
  · have hno : ∀ x : S4x32768.Idx, (dest x).toNat ≠ (y 0).val := fun x e =>
      hq ⟨tokAt (x 1) (y 1), rfl, x, rfl, by have : (x 1).val < 32768 := (x 1).isLt; omega, e⟩
    rw [filled_miss h1 z fun x _ => hno x, put_miss h1 hd.1 (by decide) _ fun x _ => hno x, put_miss h1 hd.1 (by decide) _ fun x _ => hno x,
      put_miss h1 hd.1 (by decide) _ fun x _ => hno x, put_miss h1 hd.1 (by decide) _ fun x _ => hno x]

end Reference

/-! ## The precondition -/

section Pre

open Cert.Pre_rows_distinct Cert.Pre_rows_distinct.Gen

variable {F : FTy → Type} [FloatOps F]

/-- A slot's place among all the slots. -/
def place (x : S4x32768.Idx) : Fin 131072 :=
  ⟨(x 0).val * 32768 + (x 1).val, by have h0 : (x 0).val < 4 := (x 0).isLt; have h1 : (x 1).val < 32768 := (x 1).isLt; omega⟩

theorem flat_at (dest : S4x32768.Idx → BitVec 32) (x : S4x32768.Idx) :
    shapeCast S131072 dest shapeCasts_S4x32768_S131072 (ValueIdx.ix1 (place x)) = dest x :=
  shapeCast_apply _ _ (ValueIdx.ix1 (place x)) x (by rw [Shape.rowMajor_val_two, Shape.rowMajor_val_one]; rfl)

theorem bit_and {a b : BitVec 1} (h : IntOp.andi a b = 1#1) : a = 1#1 ∧ b = 1#1 := by
  revert h; revert a b; decide

/-- The wrap of a negative row, word by word. -/
def wrap (w : BitVec 32) : BitVec 32 := Scalar.select (IntOp.cmpi .slt w 0#32) (IntOp.addi w 147456#32) w

/-- A row's look-up reads its own index word alone. -/
theorem look_eq (tab : IVec S147456 32) (v : IVec S131072 32) (p p' : Fin 131072) (h : v (ValueIdx.ix1 p) = v (ValueIdx.ix1 p')) :
    Host.gather gather_S147456_S131072x1_S131072_n_0_n_n_0_1_1 tab (broadcastInDim S131072x1 ![0] bcast_S131072_S131072x1_0 v) (ValueIdx.ix1 p)
      = Host.gather gather_S147456_S131072x1_S131072_n_0_n_n_0_1_1 tab (broadcastInDim S131072x1 ![0] bcast_S131072_S131072x1_0 v) (ValueIdx.ix1 p') := by
  have at_ : ∀ p : Fin 131072, broadcastInDim S131072x1 ![0] bcast_S131072_S131072x1_0 v (StableHlo.Predicate.ixP p) = v (ValueIdx.ix1 p) := fun p =>
    broadcastInDim_apply _ _ v _ (ValueIdx.ix1 p) fun a => by
      match a with
      | ⟨0, _⟩ => rfl
  rw [← Routing.ofFin_eq_ix1, ← Routing.ofFin_eq_ix1, StableHlo.Predicate.gather_take _ rfl rfl rfl rfl tab _ p (by decide),
    StableHlo.Predicate.gather_take _ rfl rfl rfl rfl tab _ p' (by decide)]
  simp only [at_, h]

theorem eq_of_cmpi {a b : BitVec 32} (h : IntOp.cmpi .eq a b = 1#1) : a = b := by
  have h' : BitVec.ofBool (a == b) = 1#1 := h
  cases e : a == b
  · rw [e] at h'; exact absurd h' (by decide)
  · exact eq_of_beq e

theorem row_lt {w : BitVec 32} (ha : IntOp.cmpi .sge w 0#32 = 1#1) (hb : IntOp.cmpi .slt w 147456#32 = 1#1) : w.toNat < 147456 := by
  have ha' : BitVec.ofBool (decide ((0#32).toInt ≤ w.toInt)) = 1#1 := ha
  have hb' : BitVec.ofBool (decide (w.toInt < (147456#32).toInt)) = 1#1 := hb
  have h0 : (0#32).toInt ≤ w.toInt := by
    by_contra hc; rw [decide_eq_false hc] at ha'; exact absurd ha' (by decide)
  have h1 : w.toInt < (147456#32).toInt := by
    by_contra hc; rw [decide_eq_false hc] at hb'; exact absurd hb' (by decide)
  rw [show (0#32).toInt = 0 from by decide] at h0
  rw [show (147456#32).toInt = 147456 from by decide] at h1
  rw [BitVec.toInt_eq_toNat_cond] at h0 h1
  have := w.isLt
  split at h0 <;> omega

/-- The wrapped rows of all the slots. -/
def wrapped (dest : S4x32768.Idx → BitVec 32) : IVec S131072 32 :=
  select (cmpi .slt (shapeCast S131072 dest shapeCasts_S4x32768_S131072) (broadcastInDim S131072 ![] bcast_S_S131072 (constantI S_ 32 0#32)))
    (addi (shapeCast S131072 dest shapeCasts_S4x32768_S131072) (broadcastInDim S131072 ![] bcast_S_S131072 (constantI S_ 32 147456#32)))
    (shapeCast S131072 dest shapeCasts_S4x32768_S131072)

theorem wrapped_at (dest : S4x32768.Idx → BitVec 32) (x : S4x32768.Idx) : wrapped dest (ValueIdx.ix1 (place x)) = wrap (dest x) := by
  rw [← flat_at dest x]; rfl

/-- The places written at the rows, and read back there. -/
def table (dest : S4x32768.Idx → BitVec 32) : IVec S147456 32 :=
  Host.scatter scatter_S147456_S131072x1_S131072_n_0_0_1 (fun _ b => b) (broadcastInDim S147456 ![] bcast_S_S147456 (constantI S_ 32 0#32))
    (broadcastInDim S131072x1 ![0] bcast_S131072_S131072x1_0 (wrapped dest)) (iotaInDim S131072 32 0)

theorem pre_places (dest : S4x32768.Idx → BitVec 32) (h1 : S32768x1024.Idx → Elt F .f32) : (Cert.Pre_rows_distinct.fn (F := F) dest h1).2
    = cmpi .eq (Host.gather gather_S147456_S131072x1_S131072_n_0_n_n_0_1_1 (table dest)
        (broadcastInDim S131072x1 ![0] bcast_S131072_S131072x1_0 (wrapped dest))) (iotaInDim S131072 32 0) := by
  unfold Cert.Pre_rows_distinct.fn fn_part1 table wrapped
  dsimp only

theorem distinct_of_pre (dest : S4x32768.Idx → BitVec 32) (h1 : S32768x1024.Idx → Elt F .f32)
    (h : (Cert.Pre_rows_distinct.fn (F := F) dest h1).1 = (fun _ => 1#1) ∧ (Cert.Pre_rows_distinct.fn (F := F) dest h1).2 = fun _ => 1#1) :
    Distinct dest := by
  obtain ⟨hr, hu⟩ := h
  constructor
  · intro x
    have ⟨ha, hb⟩ := bit_and (a := IntOp.cmpi .sge (dest x) 0#32) (b := IntOp.cmpi .slt (dest x) 147456#32) (congrFun hr x)
    exact row_lt ha hb
  · intro x x' e
    have ew : dest x = dest x' := BitVec.eq_of_toNat_eq e
    rw [pre_places] at hu
    have read : ∀ x, Host.gather gather_S147456_S131072x1_S131072_n_0_n_n_0_1_1 (table dest)
        (broadcastInDim S131072x1 ![0] bcast_S131072_S131072x1_0 (wrapped dest)) (ValueIdx.ix1 (place x)) = BitVec.ofNat 32 (place x).val :=
      fun x => eq_of_cmpi (congrFun hu (ValueIdx.ix1 (place x)))
    have hw : wrapped dest (ValueIdx.ix1 (place x)) = wrapped dest (ValueIdx.ix1 (place x')) := by rw [wrapped_at, wrapped_at, ew]
    have hp := (read x).symm.trans ((look_eq (table dest) (wrapped dest) (place x) (place x') hw).trans (read x'))
    have hn : (place x).val = (place x').val := by
      have := congrArg BitVec.toNat hp
      rw [BitVec.toNat_ofNat, BitVec.toNat_ofNat] at this
      have := (place x).isLt
      have := (place x').isLt
      omega
    have hn' : (x 0).val * 32768 + (x 1).val = (x' 0).val * 32768 + (x' 1).val := hn
    have h1 : (x 1).val < 32768 := (x 1).isLt
    have h1' : (x' 1).val < 32768 := (x' 1).isLt
    exact slot_ext (by omega) (by omega)

end Pre

end Cert.Dispatch

end
-- ==== Proof.Dispatch.lean ====
/-
  The dispatch program's claims: its frames, and its result equal to the reference's, at both float instances.
-/
module

public import proofs.«01_k».proof.Defs
public import proofs.«01_k».proof.Proof.DispatchRun
public import proofs.«01_k».proof.Proof.DispatchValue
public import proofs.«01_k».proof.Proof.Gen.Kernel
public import proofs.«01_k».proof.Proof.Gen.Reference
public import proofs.«01_k».proof.Proof.Gen.Reference.Run
public import proofs.«01_k».proof.Proof.Gen.ReferenceIdeal.Run
public import Idealize.ShloMosaic.Lib.Quiescent

@[expose] public section

noncomputable section

namespace Cert.Dispatch

open Idealize.ShloMosaic Idealize.SL.Sem Idealize.ShloMosaic.TcCoe

variable {F : FTy → Type} [FloatOps F]

/-- The reference's run at every float instance, its result in the kernel's form. -/
theorem ref_run (m : (ℓ : Loc Cert.ReferenceIdeal.nD Cert.ReferenceIdeal.τ Cert.ReferenceIdeal.sig) → Buf (Elt F) ℓ)
    (ρ : Dev Cert.ReferenceIdeal.nD → PrngReg) (hd : ∀ c : Dev Cert.ReferenceIdeal.nD, Distinct (m ((c.tc : Thread _ _).loc Cert.ReferenceIdeal.main_arg0))) :
    θ_run Cert.ReferenceIdeal.defs (onTc (τ := Cert.ReferenceIdeal.τ) (Cert.ReferenceIdeal.main (F := F))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v36)
          = filled (m ((c.tc : Thread _ _).loc Cert.ReferenceIdeal.main_arg0)) (m ((c.tc : Thread _ _).loc Cert.ReferenceIdeal.main_arg1))
              (fresh (F := F)) 128
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1) :=
  (θ_run Cert.ReferenceIdeal.defs _ _).mono (fun r h c => ⟨(h c).1.trans (put_all _ (hd c) _ _ _ _ _), (h c).2⟩)
    (Cert.ReferenceIdeal.Value.run m ρ)

/-- The reference's run as printed, at the bit-exact instance, its result in the kernel's form. -/
theorem ref_run_bits (m : (ℓ : Loc Cert.Reference.nD Cert.Reference.τ Cert.Reference.sig) → Buf (Elt Bits) ℓ)
    (ρ : Dev Cert.Reference.nD → PrngReg) (hd : ∀ c : Dev Cert.Reference.nD, Distinct (m ((c.tc : Thread _ _).loc Cert.Reference.main_arg0))) :
    θ_run Cert.Reference.defs (onTc (τ := Cert.Reference.τ) (Cert.Reference.main (F := Bits))) ⟨m, fun _ => 0, ρ⟩ fun r =>
      ∀ c : Dev Cert.Reference.nD,
        r.2.mem ((c.tc : Thread Cert.Reference.nD Cert.Reference.τ).loc Cert.Reference.main_v36)
          = filled (F := Bits) (m ((c.tc : Thread _ _).loc Cert.Reference.main_arg0)) (m ((c.tc : Thread _ _).loc Cert.Reference.main_arg1))
              (fresh (F := Bits)) 128
        ∧ r.2.mem ((c.tc : Thread _ _).loc Cert.Reference.main_arg0) = m ((c.tc : Thread _ _).loc Cert.Reference.main_arg0)
        ∧ r.2.mem ((c.tc : Thread _ _).loc Cert.Reference.main_arg1) = m ((c.tc : Thread _ _).loc Cert.Reference.main_arg1) :=
  (θ_run Cert.Reference.defs _ _).mono (fun r h c => ⟨(h c).1.trans (put_all (F := Bits) _ (hd c) _ _ _ _ _), (h c).2⟩)
    (Cert.Reference.Value.run m ρ)

/-! ## The two printings are one text -/

theorem text_defs₀ : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits)
    (Λ := Cert.KernelIdeal.Λ₀)) (funext fun l => funext fun a => ?_)
  match l, a with
  | 0, (t, s) => exact Eq.refl (Cert.KernelIdeal.cc0_moe_dispatch (F := Bits) (Cert.KernelIdeal.grid0.coords t) _ _ _ _ _ _ _ _ _)

theorem text_defs : Cert.Kernel.defs (F := Bits) = Cert.KernelIdeal.defs (F := Bits) :=
  congrArg (Pipeline.defs (Cert.KernelIdeal.pcfgs (F := Bits))) text_defs₀

theorem text_main : Cert.Kernel.main (F := Bits) = Cert.KernelIdeal.main (F := Bits) := rfl

/-- The run of the program as printed, at the bit-exact instance. -/
theorem kernel_run (m : (ℓ : Loc Cert.Kernel.nD Cert.Kernel.τ Cert.Kernel.sig) → Buf (Elt Bits) ℓ) (ρ : Dev Cert.Kernel.nD → PrngReg)
    (hd : ∀ c : Dev Cert.Kernel.nD, Distinct (m ((c.tc : Thread Cert.Kernel.nD Cert.Kernel.τ).loc Cert.Kernel.main_arg0))) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_v0)
          = filled (F := Bits) (m ((c.tc : Thread Cert.Kernel.nD Cert.Kernel.τ).loc Cert.Kernel.main_arg0)) (m ((c.tc : Thread Cert.Kernel.nD Cert.Kernel.τ).loc Cert.Kernel.main_arg1))
              (fresh (F := Bits)) 128
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [text_defs, text_main]
  exact run (F := Bits) m ρ hd

/-! ## The claims -/

theorem frame_kernel : Cert.quiescent_Kernel := fun m ρ hpre =>
  (θ_run (Cert.Kernel.defs (F := Bits)) _ _).mono (fun _ h => ⟨fun c => (h.1 c).2, h.2⟩) (kernel_run m ρ fun c => distinct_of_pre _ _ (hpre c))

theorem frame_kernelIdeal : Cert.quiescent_KernelIdeal := fun m ρ hpre =>
  (θ_run Cert.KernelIdeal.defs _ _).mono (fun _ h => ⟨fun c => (h.1 c).2, h.2⟩) (run (F := Ideal) m ρ fun c => distinct_of_pre _ _ (hpre c))

theorem frame_referenceIdeal : Cert.quiescent_ReferenceIdeal := fun m ρ hpre =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ hpre =>
  (θ_run Cert.Reference.defs _ _).mono (fun r h => ⟨fun c => (h c).2, sem_eq_zero_of_no_sems (by decide) r.2⟩)
    (Cert.Reference.Value.run (F := Bits) m ρ)

theorem frame_referenceIdeal_pre : Cert.quiescent_ReferenceIdeal_pre_rows_distinct := fun m ρ hpre => frame_referenceIdeal m ρ trivial

theorem frame_reference_pre : Cert.quiescent_Reference_pre_rows_distinct := fun m ρ hpre => frame_reference m ρ trivial

theorem algebraic : Cert.algebraic_KernelIdeal_ReferenceIdeal := fun m ρ m' ρ' hpre hag =>
  ⟨_, (θ_run Cert.KernelIdeal.defs _ _).mono (fun _ h => h.1) (run (F := Ideal) m ρ fun c => distinct_of_pre _ _ (hpre c)),
    (θ_run Cert.ReferenceIdeal.defs _ _).mono (fun r h c => ⟨(h c).1.trans (by rw [(hag c).1, (hag c).2]), (h c).2⟩)
      (ref_run (F := Ideal) m' ρ' fun c => by rw [(hag c).1]; exact distinct_of_pre _ _ (hpre c))⟩

theorem bitexact : Cert.bitexact_Kernel_Reference := fun m ρ m' ρ' hpre hag =>
  ⟨_, (θ_run (Cert.Kernel.defs (F := Bits)) _ _).mono (fun _ h => h.1) (kernel_run m ρ fun c => distinct_of_pre _ _ (hpre c)),
    (θ_run (Cert.Reference.defs (F := Bits)) _ _).mono (fun r h c => ⟨(h c).1.trans (by rw [(hag c).1, (hag c).2]), (h c).2⟩)
      (ref_run_bits m' ρ' fun c => by rw [(hag c).1]; exact distinct_of_pre _ _ (hpre c))⟩

end Cert.Dispatch

end
-- ==== Proof.ExpertsBody.lean ====
/-
  The experts kernel's body at one grid point.

  The body reads the point's words of the two tables, refills the two scratch buffers where the block is the first of its
  expert, and leaves in the result's buffer either the experts' rows computed from the scratch buffers or zeros.
-/
module

public import proofs.«01_k».proof.Proof.Gen.Kernel2Ideal.Skeleton
public import proofs.«01_k».proof.Proof.Gen.Kernel2Ideal.Launch
public import Idealize.ShloMosaic.Lib.Pipeline.FrameValue
public import Idealize.ShloMosaic.Lib.VecWindow
public import Idealize.ShloMosaic.Lib.Tactic

@[expose] public section

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline library's alone. -/
local notation "𝕄" => MT nD τ sig Unit (Elt F) ℕ (UR sig nD τ) ℕ

/-! ## One memory operation, over the contents a buffer reads -/

section Steps

/-- A load of a whole buffer continues at what the buffer reads. -/
theorem step_load (c : Dev nD) {α : Type} {S : Shape} {e : EltTy} {Q : α → sProp 𝕄} {cs : CoreSpace} {m : Memref sig .tc cs S e} {off : Fin S.rank → ℕ} {inb : ∀ a, off a + S.size a ≤ S.size a}
    {hl : m.view.LoadsAt (Rect.unit off S.size inb).toLoadRect} {X : S.Idx → Elt F e} {q : PosShare TreeShare}
    {K : (S.Idx → Elt F e) → Prog (TpuEff nD τ sig (Elt F) Λ₀ .tc) α} :
    owns (c : Thread nD τ) m q X ⊢ iprop(((owns (c : Thread nD τ) m q X) -∗
        wp frame (wpE (defs₀ (F := F)) Variants.none (c : Thread nD τ) none) Set.univ (K X) Q)
      -∗ wp frame (wpE (defs₀ (F := F)) Variants.none (c : Thread nD τ) none) Set.univ
          (Prog.lift (.load m (Rect.unit off S.size inb).toLoadRect hl) >>= K) Q) := by
  unfold owns
  iintro ⟨%f, %hf, Hm⟩ HH
  iapply (wp_load Variants.none (c : Thread nD τ) none Set.univ (m := m) (r := (Rect.unit off S.size inb).toLoadRect)
    (hl := hl) (View.setOn_subset_set m.view _)) $$ Hm
  iintro Hm
  rw [View.readAt_full, hf]
  iapply HH
  iexists f; isplitr; · ipureintro; exact hf
  iexact Hm

/-- A store over a whole buffer continues with the buffer reading what was stored. -/
theorem step_store (c : Dev nD) {α : Type} {S : Shape} {e : EltTy} {Q : α → sProp 𝕄} {cs : CoreSpace} {m : Memref sig .tc cs S e} {off : Fin S.rank → ℕ} {inb : ∀ a, off a + S.size a ≤ S.size a}
    {w : S.Idx → Elt F e} {X : S.Idx → Elt F e}
    {hx : (m.access (Rect.unit off S.size inb)).Stores Finset.univ}
    {hm : (Finset.univ : Finset (Rect.unit off S.size inb).shape.Idx) = Finset.univ ∨ ∀ a, (Rect.unit off S.size inb).stride a = 1}
    {K : PUnit → Prog (TpuEff nD τ sig (Elt F) Λ₀ .tc) α} :
    owns (c : Thread nD τ) m fullShare X ⊢ iprop(((owns (c : Thread nD τ) m fullShare w) -∗
        wp frame (wpE (defs₀ (F := F)) Variants.none (c : Thread nD τ) none) Set.univ (K ⟨⟩) Q)
      -∗ wp frame (wpE (defs₀ (F := F)) Variants.none (c : Thread nD τ) none) Set.univ
          (Prog.lift (.store m (Rect.unit off S.size inb) w Finset.univ hx hm) >>= K) Q) := by
  unfold owns
  iintro ⟨%f, -, Hm⟩ HH
  have hw : m.view.read (Elt F) ((m.access (Rect.unit off S.size inb)).write (Elt F) f w Finset.univ) = w :=
    View.read_writes_full m.view f inb w []
  iapply (wp_store Variants.none (c : Thread nD τ) none Set.univ (m := m) (r := Rect.unit off S.size inb)
    (hx := hx) (hm := hm)
    ((View.setOn_subset_set _ _).trans (m.view.set_slice_subset _))) $$ Hm
  iintro Hm
  iapply HH
  iexists _; isplitr
  · ipureintro; exact hw
  iexact Hm

/-- A word of a table read at its one index. -/
theorem step_word (c : Dev nD) {α : Type} {S : Shape} {e : EltTy} {Q : α → sProp 𝕄} {m : Memref sig .tc .smem S e} {r : Rect S} {h1 : r.shape.numel = 1} {hp : e.packing = 1}
    {X : S.Idx → Elt F e} {q : PosShare TreeShare}
    {K : Elt F e → Prog (TpuEff nD τ sig (Elt F) Λ₀ .tc) α} :
    owns (c : Thread nD τ) m q X ⊢ iprop(((owns (c : Thread nD τ) m q X) -∗
        wp frame (wpE (defs₀ (F := F)) Variants.none (c : Thread nD τ) none) Set.univ (K (X (r.emb (Shape.Idx.first (h1.symm ▸ Nat.one_pos))))) Q)
      -∗ wp frame (wpE (defs₀ (F := F)) Variants.none (c : Thread nD τ) none) Set.univ
          (smemLoad m r h1 hp >>= K) Q) := by
  unfold owns
  iintro ⟨%f, %hf, Hm⟩ HH
  iapply (wp_smemLoadElt Variants.none (c : Thread nD τ) none Set.univ (m := m) (r := r) (hw := View.loads_smem_one hp h1)
    (m.view.set_slice_subset r)) $$ Hm
  iintro Hm
  subst hf
  iapply HH
  iexists f; isplitr; · ipureintro; rfl
  iexact Hm

end Steps

/-! ## The body's conditions -/

/-- The last condition fails exactly where the one before it holds. -/
theorem cond3_iff (i : grid0.Coords) (n : BitVec 32) : k0_cond3 i n = 1#1 ↔ ¬ k0_cond2 i n = 1#1 := by
  unfold k0_cond2 k0_cond3
  generalize BitVec.ofNat 32 (i 0).val = a
  dsimp only [Scalar.cmpi, Scalar.extui]
  have e2 : IntOp.cmpi .slt a n = BitVec.ofBool (decide (a.toInt < n.toInt)) := rfl
  have e3 : IntOp.cmpi .sge a n = BitVec.ofBool (decide (n.toInt ≤ a.toInt)) := rfl
  rw [e2, e3]
  by_cases h : a.toInt < n.toInt
  · have h' : ¬ n.toInt ≤ a.toInt := by omega
    simp only [h, h', decide_true, decide_false]
    decide
  · have h' : n.toInt ≤ a.toInt := by omega
    simp only [h, h', decide_true, decide_false]
    decide

/-! ## The body -/

/-- The first scratch buffer after a point whose word of the first table is `w`. -/
def refill1 (w : BitVec 32) (wgu : Vec F S1x1024x2048 .f32) (s : FVec F S1024x2048 .bf16) : FVec F S1024x2048 .bf16 :=
  if w = 1#32 then k0_pay1 wgu else s
/-- The second scratch buffer after such a point. -/
def refill2 (w : BitVec 32) (wd : Vec F S1x1024x1024 .f32) (s : FVec F S1024x1024 .bf16) : FVec F S1024x1024 .bf16 :=
  if w = 1#32 then k0_pay2 wd else s
/-- The result's block of a point: the experts' rows while the point is among the used blocks, else zeros. -/
def block (i : grid0.Coords) (n : BitVec 32) (x : Vec F S512x1024 .f32) (a : FVec F S1024x2048 .bf16) (bgu : Vec F S1x1x2048 .f32)
    (b : FVec F S1024x1024 .bf16) (bd : Vec F S1x1x1024 .f32) : FVec F S512x1024 .f32 :=
  if k0_cond2 i n = 1#1 then k0_pay3 x a bgu b bd else k0_pay4

theorem first_iff (w : BitVec 32) : Scalar.cmpi .ne (Scalar.extui (Scalar.cmpi .eq w 1#32) : BitVec 32) 0#32 = 1#1 ↔ w = 1#32 := by
  dsimp only [Scalar.cmpi, Scalar.extui]
  have e : IntOp.cmpi .eq w 1#32 = BitVec.ofBool (w == 1#32) := rfl
  rw [e]
  by_cases h : w = 1#32
  · subst h; decide
  · have h' : (w == 1#32) = false := by simpa using h
    rw [h']; simp only [h, iff_false]; decide

theorem pure_ret : (Pure.pure PUnit.unit : Prog (TpuEff nD τ sig (Elt F) Λ₀ .tc) PUnit) = .ret PUnit.unit := rfl

set_option maxHeartbeats 1000000 in
/-- The whole body at a point whose word of the first table is `w`, over a used count of `n`. -/
theorem body_wp (c : Dev nD) (i : grid0.Coords)
    (arg1 : Memref sig .tc .smem S288 .i32) (harg1 : arg1.IsWhole) (arg2 : Memref sig .tc .smem S1 .i32) (harg2 : arg2.IsWhole)
    (arg3 : Memref sig .tc .smem S288 .i32) (harg3 : arg3.IsWhole) (arg4 : Memref sig .tc .vmem S512x1024 .f32) (harg4 : arg4.IsWhole)
    (arg5 : Memref sig .tc .vmem S1x1024x2048 .f32) (harg5 : arg5.IsWhole) (arg6 : Memref sig .tc .vmem S1x1x2048 .f32) (harg6 : arg6.IsWhole)
    (arg7 : Memref sig .tc .vmem S1x1024x1024 .f32) (harg7 : arg7.IsWhole) (arg8 : Memref sig .tc .vmem S1x1x1024 .f32) (harg8 : arg8.IsWhole)
    (arg9 : Memref sig .tc .vmem S512x1024 .f32) (harg9 : arg9.IsWhole) (arg10 : Memref sig .tc .vmem S1024x2048 .bf16) (harg10 : arg10.IsWhole)
    (arg11 : Memref sig .tc .vmem S1024x1024 .bf16) (harg11 : arg11.IsWhole)
    (q : PosShare TreeShare) (N : S1.Idx → BitVec 32) (Fr : S288.Idx → BitVec 32) (n w : BitVec 32)
    (hn : ∀ y, N y = n) (hw : ∀ y : S288.Idx, (y 0).val = (i 0).val → Fr y = w)
    (x : Vec F S512x1024 .f32) (wgu : Vec F S1x1024x2048 .f32) (bgu : Vec F S1x1x2048 .f32) (wd : Vec F S1x1024x1024 .f32)
    (bd : Vec F S1x1x1024 .f32) (o : Vec F S512x1024 .f32) (s0 : FVec F S1024x2048 .bf16) (s1 : FVec F S1024x1024 .bf16) :
    iprop(owns (Val := Elt F) (c : Thread nD τ) arg2 q N ∗ owns (Val := Elt F) (c : Thread nD τ) arg3 q Fr ∗ owns (c : Thread nD τ) arg4 fullShare x
        ∗ owns (c : Thread nD τ) arg5 fullShare wgu ∗ owns (c : Thread nD τ) arg6 fullShare bgu ∗ owns (c : Thread nD τ) arg7 fullShare wd
        ∗ owns (c : Thread nD τ) arg8 fullShare bd ∗ owns (c : Thread nD τ) arg9 fullShare o
        ∗ owns (c : Thread nD τ) arg10 fullShare s0 ∗ owns (c : Thread nD τ) arg11 fullShare s1)
      ⊢ wp frame (wpE (defs₀ (F := F)) Variants.none (c : Thread nD τ) none) Set.univ
          (cc0_moe_experts (F := F) i arg1 harg1 arg2 harg2 arg3 harg3 arg4 harg4 arg5 harg5 arg6 harg6 arg7 harg7 arg8 harg8 arg9 harg9
            arg10 harg10 arg11 harg11)
          (fun _ => (iprop(owns (Val := Elt F) (c : Thread nD τ) arg2 q N ∗ owns (Val := Elt F) (c : Thread nD τ) arg3 q Fr ∗ owns (c : Thread nD τ) arg4 fullShare x
            ∗ owns (c : Thread nD τ) arg5 fullShare wgu ∗ owns (c : Thread nD τ) arg6 fullShare bgu ∗ owns (c : Thread nD τ) arg7 fullShare wd
            ∗ owns (c : Thread nD τ) arg8 fullShare bd
            ∗ owns (c : Thread nD τ) arg9 fullShare (block i n x (refill1 w wgu s0) bgu (refill2 w wd s1) bd)
            ∗ owns (c : Thread nD τ) arg10 fullShare (refill1 w wgu s0) ∗ owns (c : Thread nD τ) arg11 fullShare (refill2 w wd s1)) : sProp 𝕄)) := by
  rw [cc0_moe_experts_eq_skeleton]
  unfold cc0_moe_experts_skel
  iintro ⟨H2, H3, H4, H5, H6, H7, H8, H9, H10, H11⟩
  iapply (step_word c) $$ H3
  iintro H3
  rw [hw _ (by
    show k0_off1 i 0 + 1 * 0 = _
    rw [k0_off1_eq]; rfl)]
  by_cases h1 : w = 1#32
  case' pos =>
    rw [if_pos ((first_iff w).2 h1)]
    rw [show refill1 w wgu s0 = k0_pay1 wgu from if_pos h1, show refill2 w wd s1 = k0_pay2 wd from if_pos h1]
    iapply (step_load c) $$ H5
    iintro H5
    iapply (step_load c) $$ H10
    iintro H10
    iapply (step_store c) $$ H10
    iintro H10
    iapply (step_load c) $$ H7
    iintro H7
    iapply (step_load c) $$ H11
    iintro H11
    iapply (step_store c) $$ H11
    iintro H11
  case' neg =>
    rw [if_neg (mt (first_iff w).1 h1)]
    rw [show refill1 w wgu s0 = s0 from if_neg h1, show refill2 w wd s1 = s1 from if_neg h1]
  all_goals
    iapply (step_word c) $$ H2
    iintro H2
    rw [hn]
    by_cases h2 : k0_cond2 i n = 1#1
    · rw [dif_pos h2]
      iapply (step_load c) $$ H4
      iintro H4
      iapply (step_load c) $$ H10
      iintro H10
      iapply (step_load c) $$ H6
      iintro H6
      iapply (step_load c) $$ H11
      iintro H11
      iapply (step_load c) $$ H8
      iintro H8
      iapply (step_load c) $$ H9
      iintro H9
      iapply (step_store c) $$ H9
      iintro H9
      iapply (step_word c) $$ H2
      iintro H2
      rw [hn, dif_neg (fun h => (cond3_iff i n).1 h h2)]
      dsimp only
      rw [pure_ret, wp_ret]
      imodintro
      unfold block
      rw [if_pos h2]
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [dif_neg h2]
      iapply (step_word c) $$ H2
      iintro H2
      rw [hn, dif_pos ((cond3_iff i n).2 h2)]
      iapply (step_load c) $$ H9
      iintro H9
      iapply (step_store c) $$ H9
      iintro H9
      dsimp only
      rw [pure_ret, wp_ret]
      imodintro
      unfold block
      rw [if_neg h2]
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

end Cert.Experts

end
-- ==== Proof.ExpertsTables.lean ====
/-
  What the experts program's host operations leave: the three tables its grid reads, and the two reshaped biases.
-/
module

public import proofs.«01_k».proof.Proof.Gen.Kernel2Ideal.Launch
public import Idealize.ShloMosaic.Lib.StableHlo.Run
public import Idealize.ShloMosaic.Lib.StableHlo.Predicate
public import Idealize.ShloMosaic.Lib.Pipeline.Value

@[expose] public section

noncomputable section

namespace Cert.Experts

open Cert.Kernel2Ideal Cert.Kernel2Ideal.Gen
open Idealize.ShloMosaic Idealize.ShloMosaic.TcCoe
open Idealize.SL

variable {F : FTy → Type} [FloatOps F]

/-! ## The tables as functions of the counts -/

/-- The index of a rank-1 table at a place. -/
abbrev at32 (k : Fin 32) : S32.Idx := fun a => match a with | ⟨0, _⟩ => k

/-- The index of a table of the blocks at a block. -/
abbrev at288 (k : Fin 288) : S288.Idx := fun a => match a with | ⟨0, _⟩ => k

/-- The only index of one word. -/
abbrev at1 : S1.Idx := fun a => match a with | ⟨0, _⟩ => (0 : Fin 1)

/-- The same of the blocks but the first. -/
abbrev at287 (k : Fin 287) : S287.Idx := fun a => match a with | ⟨0, _⟩ => k

/-- The sign of a word. -/
def signW (x : BitVec 32) : BitVec 32 := if x = 0 then 0 else if x.msb then -1 else 1

/-- A word over 512, rounded down. -/
def over512 (x : BitVec 32) : BitVec 32 :=
  if IntOp.andi (IntOp.cmpi .ne (signW x) (signW 512#32)) (IntOp.cmpi .ne (IntOp.remsi .host x 512#32) 0#32) = 1#1
  then IntOp.subi (IntOp.divsi .host x 512#32) 1#32 else IntOp.divsi .host x 512#32

/-- An expert's rows, rounded up to whole blocks. -/
def padded (cnt : S32.Idx → BitVec 32) : S32.Idx → BitVec 32 :=
  fun k => IntOp.muli (over512 (IntOp.subi (IntOp.addi (cnt k) 512#32) 1#32)) 512#32

/-- Where each expert's segment ends: the running sums of the rounded counts. -/
def padEnd (cnt : S32.Idx → BitVec 32) : S32.Idx → BitVec 32 :=
  Host.reduceWindow IntOp.addi ![32] ![1] ![31] ![0] (padded cnt) (fun _ : S_.Idx => 0#32) reduceWindows_S32_S32_w32s1p31_0 h_S_

/-- Whether an expert's segment ends at or before a block's first row. -/
def endedBy (cnt : S32.Idx → BitVec 32) : S288x32.Idx → BitVec 1 :=
  fun p => IntOp.cmpi .sle (padEnd cnt (at32 (p 1))) (IntOp.muli (BitVec.ofNat 32 (p 0).val) 512#32)

/-- Each block's expert: how many segments end at or before the block, the last expert past them all. -/
def blkE (cnt : S32.Idx → BitVec 32) : S288.Idx → BitVec 32 :=
  fun y => IntOp.minsi (Host.reduce IntOp.addi (extui 32 (endedBy cnt) natLt_1_32) (constantI S_ 32 0#32) reducesTo_S288x32_S288_d1 h_S_ y) 31#32

/-- Each block's first row. -/
def blockRow : S288.Idx → BitVec 32 := fun y => IntOp.muli (BitVec.ofNat 32 (y 0).val) 512#32

/-- The same in the host operations' own terms. -/
def blkOps (cnt : S32.Idx → BitVec 32) : S288.Idx → BitVec 32 :=
  fun y => IntOp.minsi (Host.reduce IntOp.addi (extui 32 (cmpi .sle (broadcastInDim S288x32 ![0, 1] bcast_S1x32_S288x32_0_1
    (broadcastInDim S1x32 ![1] bcast_S32_S1x32_1 (padEnd cnt))) (broadcastInDim S288x32 ![0, 1] bcast_S288x1_S288x32_0_1
    (broadcastInDim S288x1 ![0] bcast_S288_S288x1_0 blockRow))) natLt_1_32)
    (constantI S_ 32 0#32) reducesTo_S288x32_S288_d1 h_S_ y) 31#32

theorem ended_spread (pe : S32.Idx → BitVec 32) (r : S288.Idx → BitVec 32) :
    cmpi .sle (broadcastInDim S288x32 ![0, 1] bcast_S1x32_S288x32_0_1 (broadcastInDim S1x32 ![1] bcast_S32_S1x32_1 pe))
      (broadcastInDim S288x32 ![0, 1] bcast_S288x1_S288x32_0_1 (broadcastInDim S288x1 ![0] bcast_S288_S288x1_0 r))
    = fun p => IntOp.cmpi .sle (pe (at32 (p 1))) (r (at288 (p 0))) := by
  funext p
  have e1 : broadcastInDim S288x32 ![0, 1] bcast_S1x32_S288x32_0_1 (broadcastInDim S1x32 ![1] bcast_S32_S1x32_1 pe) p
      = pe (at32 (p 1)) :=
    (broadcastInDim_apply _ _ _ p (StableHlo.Predicate.ij (n := 1) (m := 32) 0 (p 1)) (fun a => by match a with | ⟨0, _⟩ => rfl | ⟨1, _⟩ => rfl)).trans
      (broadcastInDim_apply _ _ _ _ (at32 (p 1)) (fun a => by match a with | ⟨0, _⟩ => rfl))
  have e2 : broadcastInDim S288x32 ![0, 1] bcast_S288x1_S288x32_0_1 (broadcastInDim S288x1 ![0] bcast_S288_S288x1_0 r) p
      = r (at288 (p 0)) :=
    (broadcastInDim_apply _ _ _ p (StableHlo.Predicate.ij (n := 288) (m := 1) (p 0) 0) (fun a => by match a with | ⟨0, _⟩ => rfl | ⟨1, _⟩ => rfl)).trans
      (broadcastInDim_apply _ _ _ _ (at288 (p 0)) (fun a => by match a with | ⟨0, _⟩ => rfl))
  show IntOp.cmpi .sle _ _ = _
  rw [e1, e2]

theorem blkOps_eq (cnt : S32.Idx → BitVec 32) : blkOps cnt = blkE cnt := by
  unfold blkOps blkE
  rw [ended_spread]
  rfl

/-- How many blocks are used. -/
def nUsed (cnt : S32.Idx → BitVec 32) : BitVec 32 := over512 (padEnd cnt (at32 31))

/-- Whether a block is the first of its expert's run. -/
def firstE (cnt : S32.Idx → BitVec 32) : S288.Idx → BitVec 32 :=
  fun y => if h : (y 0).val = 0 then 1#32
    else (IntOp.cmpi .ne (blkE cnt y) (blkE cnt (at288 ⟨(y 0).val - 1, by have : (y 0).val < 288 := (y 0).isLt; omega⟩))).setWidth 32

theorem first_joined (cnt : S32.Idx → BitVec 32) :
    concatenate S288 0 [⟨S1, fun _ => 1#32⟩, ⟨S287, extui 32 (cmpi .ne (extractStridedSlice S287 ![1] (blkE cnt) slices_S288_S287_1)
      (extractStridedSlice S287 ![0] (blkE cnt) slices_S288_S287_0)) natLt_1_32⟩] concatenates_S1_S287_S288_d0 = firstE cnt := by
  unfold firstE
  generalize blkE cnt = g
  funext y
  have hy : (y 0).val < 288 := (y 0).isLt
  by_cases h : (y 0).val = 0
  · rw [dif_pos h]
    exact concatenate_pair_apply_left 0 _ _ concatenates_S1_S287_S288_d0 y rfl at1
      (fun b => by match b with | ⟨0, _⟩ => exact h.symm)
  · rw [dif_neg h]
    refine (concatenate_pair_apply_right 0 _ _ concatenates_S1_S287_S288_d0 y rfl rfl
      (at287 ⟨(y 0).val - 1, by omega⟩) (fun b hb => by match b with | ⟨0, _⟩ => exact absurd rfl hb)
      (by show (y 0).val - 1 + 1 = (y 0).val; omega)).trans ?_
    refine congrArg (BitVec.setWidth 32) (congrArg₂ (IntOp.cmpi .ne) ?_ ?_)
    · exact extractStridedSlice_apply _ _ _ _ y (fun a => by match a with | ⟨0, _⟩ => show (y 0).val = 1 + ((y 0).val - 1); omega)
    · exact extractStridedSlice_apply _ _ _ _ _ (fun a => by match a with | ⟨0, _⟩ => show (y 0).val - 1 = 0 + ((y 0).val - 1); omega)

variable (m : (ℓ : Loc nD τ sig) → Buf (Elt F) ℓ)

/-- The host operations before the grid, in their stretches. -/
abbrev opss : List (List (HloOp τ sig (Elt F))) := [hostOps0, hostOps0_1, hostOps0_2, hostOps0_3, hostOps0_4, hostOps0_5, hostOps0_6]

/-- A device's buffers as the grid finds them. -/
def V (c : Dev nD) (b : Ref sig .tc) : Buf (Elt F) ((c : Thread nD τ).loc b) :=
  StableHlo.after (opss (F := F)).flatten (fun b => m (c, b)) b

/-- The counts as launched. -/
abbrev cntV (c : Dev nD) : S32.Idx → BitVec 32 := m ((c : Thread nD τ).loc main_arg0)

set_option maxHeartbeats 4000000 in
theorem V_v7 (c : Dev nD) : V m c main_v7 = padEnd (cntV m c) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp
  rfl
set_option maxHeartbeats 4000000 in
theorem V_v19_ops (c : Dev nD) : V m c main_v19 = blkOps (cntV m c) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp
  rfl
set_option maxHeartbeats 4000000 in
theorem V_v21 (c : Dev nD) : V m c main_v21 = fun _ => nUsed (cntV m c) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp
  refine (?_ : _ = fun x => over512 (extractStridedSlice S1 ![31] (padEnd (cntV m c)) slices_S32_S1_31 x)).trans ?_
  · rfl
  · funext x
    exact congrArg over512 (extractStridedSlice_apply _ _ _ _ (at32 31) (fun a => by
      match a with
      | ⟨0, _⟩ =>
        have : (x 0).val < 1 := (x 0).isLt
        show 31 = 31 + (x 0).val
        omega))
set_option maxHeartbeats 4000000 in
theorem V_v27 (c : Dev nD) : V m c main_v27 = firstE (cntV m c) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp
  refine (congrArg₂ (fun (u : S1.Idx → BitVec 32) (v : S287.Idx → BitVec 32) =>
    concatenate S288 0 [⟨S1, u⟩, ⟨S287, v⟩] concatenates_S1_S287_S288_d0) (?_ : _ = fun _ => 1#32)
    (?_ : _ = extui 32 (cmpi .ne (extractStridedSlice S287 ![1] (blkOps (cntV m c)) slices_S288_S287_1)
      (extractStridedSlice S287 ![0] (blkOps (cntV m c)) slices_S288_S287_0)) natLt_1_32)).trans ?_
  · after_results_simp
    rfl
  · after_results_simp
    rfl
  · rw [blkOps_eq]
    exact first_joined _

theorem V_v19 (c : Dev nD) : V m c main_v19 = blkE (cntV m c) := (V_v19_ops m c).trans (blkOps_eq _)

set_option maxHeartbeats 4000000 in
theorem V_arg1 (c : Dev nD) : V m c main_arg1 = m ((c : Thread nD τ).loc main_arg1) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp

set_option maxHeartbeats 4000000 in
theorem V_arg2 (c : Dev nD) : V m c main_arg2 = m ((c : Thread nD τ).loc main_arg2) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp

set_option maxHeartbeats 4000000 in
theorem V_arg4 (c : Dev nD) : V m c main_arg4 = m ((c : Thread nD τ).loc main_arg4) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp

set_option maxHeartbeats 4000000 in
theorem V_v28 (c : Dev nD) : V m c main_v28 = shapeCast S32x1x2048 (m ((c : Thread nD τ).loc main_arg3)) shapeCasts_S32x2048_S32x1x2048 := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp
  rfl

set_option maxHeartbeats 4000000 in
theorem V_v29 (c : Dev nD) : V m c main_v29 = shapeCast S32x1x1024 (m ((c : Thread nD τ).loc main_arg5)) shapeCasts_S32x1024_S32x1x1024 := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp
  rfl

end Cert.Experts

end
-- ==== Proof.ExpertsNat.lean ====
/-
  The experts program's tables as numbers: an expert is counted off the segments' ends, the ends are multiples of 512, and so
  a row's expert and whether it is used at all are its block's.
-/
module

public import proofs.«01_k».proof.Proof.ExpertsTables

@[expose] public section

noncomputable section

namespace Cert.Experts

open Cert.Kernel2Ideal Cert.Kernel2Ideal.Gen
open Idealize.ShloMosaic Idealize.ShloMosaic.TcCoe

/-- The expert of a row: how many of the ends are at or before it, at most the last. -/
def expert (pe : S32.Idx → BitVec 32) (r : BitVec 32) : ℕ :=
  min (Finset.univ.filter fun q : Fin 32 => IntOp.cmpi .sle (pe (at32 q)) r = 1#1).card 31

theorem expert_lt (pe : S32.Idx → BitVec 32) (r : BitVec 32) : expert pe r < 32 :=
  lt_of_le_of_lt (min_le_right _ _) (by decide)

/-- A small count, at most 31. -/
theorem toNat_min31 (x : BitVec 32) (h : x.toNat ≤ 32) : (IntOp.minsi x 31#32).toNat = min x.toNat 31 := by
  have e : x.toInt = x.toNat := StableHlo.Predicate.toInt_eq_toNat_of_lt (by omega)
  unfold IntOp.minsi
  have h31 : (31#32).toInt = 31 := by decide
  have h31' : (31#32).toNat = 31 := by decide
  by_cases hx : x.slt 31#32
  · rw [if_pos hx]
    have := BitVec.slt_iff_toInt_lt.1 hx
    omega
  · rw [if_neg hx]
    have := mt BitVec.slt_iff_toInt_lt.2 hx
    omega

theorem blkE_toNat (cnt : S32.Idx → BitVec 32) (y : S288.Idx) : (blkE cnt y).toNat = expert (padEnd cnt) (blockRow y) := by
  unfold blkE
  have e := StableHlo.Predicate.toNat_reduce_count_cols (n := 288) (m := 32) (by decide) (endedBy cnt) natLt_1_32
    reducesTo_S288x32_S288_d1 h_S_ y
  have hc : (Finset.univ.filter fun q : Fin 32 => endedBy cnt (StableHlo.Predicate.ij (y 0) q) = 1#1).card ≤ 32 :=
    (Finset.card_le_univ _).trans (le_of_eq (Fintype.card_fin 32))
  rw [toNat_min31 _ (by rw [e]; exact hc), e]
  rfl

theorem blkE_lt (cnt : S32.Idx → BitVec 32) (y : S288.Idx) : (blkE cnt y).toNat < 32 := by
  rw [blkE_toNat]; exact expert_lt _ _

/-- A block that is not the first of its expert's run has the expert of the block before it. -/
theorem firstE_ne (cnt : S32.Idx → BitVec 32) (k : ℕ) (hk : k + 1 < 288) (h : firstE cnt (at288 ⟨k + 1, hk⟩) ≠ 1#32) :
    blkE cnt (at288 ⟨k + 1, hk⟩) = blkE cnt (at288 ⟨k, by omega⟩) := by
  by_contra hne
  apply h
  unfold firstE
  rw [dif_neg (by show ¬ k + 1 = 0; omega)]
  show BitVec.setWidth 32 (BitVec.ofBool (blkE cnt (at288 ⟨k + 1, hk⟩) != blkE cnt (at288 ⟨k, _⟩))) = 1#32
  rw [bne_iff_ne.2 hne]
  decide

theorem firstE_zero (cnt : S32.Idx → BitVec 32) (y : S288.Idx) (h : (y 0).val = 0) : firstE cnt y = 1#32 := by
  unfold firstE
  rw [dif_pos h]

/-! ## The ends are multiples of 512 -/

theorem whole_padded (cnt : S32.Idx → BitVec 32) (k : S32.Idx) : (padded cnt k).toNat % 512 = 0 := by
  unfold padded IntOp.muli
  rw [BitVec.toNat_mul]
  rw [show (512#32).toNat = 512 from by decide]
  omega

theorem whole_fold {α : Type} (g : α → BitVec 32) (hg : ∀ a, (g a).toNat % 512 = 0) (l : List α) :
    ∀ b : BitVec 32, b.toNat % 512 = 0 → (l.foldl (fun r a => IntOp.addi r (g a)) b).toNat % 512 = 0 := by
  induction l with
  | nil => exact fun b h => h
  | cons a l ih =>
    intro b h
    refine ih _ ?_
    unfold IntOp.addi
    rw [BitVec.toNat_add]
    have := hg a
    omega

theorem whole_padEnd (cnt : S32.Idx → BitVec 32) (k : S32.Idx) : (padEnd cnt k).toNat % 512 = 0 := by
  unfold padEnd Host.reduceWindow
  refine whole_fold _ (fun n => ?_) _ _ (by decide)
  split
  · exact whole_padded _ _
  · decide

theorem whole_toInt (x : BitVec 32) (h : x.toNat % 512 = 0) : x.toInt % 512 = 0 := by
  rw [BitVec.toInt_eq_toNat_cond]
  split <;> omega

/-- A multiple of 512 over 512. -/
theorem over512_toInt (x : BitVec 32) (h : x.toNat % 512 = 0) : (over512 x).toInt * 512 = x.toInt := by
  have h5 : (512#32).toInt = 512 := by decide
  have hd := whole_toInt x h
  have hc : ¬ IntOp.SDivCorner x 512#32 := by
    unfold IntOp.SDivCorner
    rintro (h | ⟨-, h⟩)
    · exact absurd h (by decide)
    · exact absurd h (by decide)
  have hr : IntOp.remsi .host x 512#32 = 0#32 := by
    unfold IntOp.remsi
    rw [if_neg hc]
    apply BitVec.eq_of_toInt_eq
    rw [BitVec.toInt_srem, h5]
    show x.toInt.tmod 512 = 0
    exact Int.tmod_eq_zero_of_dvd (Int.dvd_of_emod_eq_zero hd)
  have hq : (IntOp.divsi .host x 512#32).toInt * 512 = x.toInt := by
    unfold IntOp.divsi
    rw [if_neg hc, BitVec.toInt_sdiv_of_ne_or_ne _ _ (Or.inr (by decide)), h5]
    exact Int.tdiv_mul_cancel (Int.dvd_of_emod_eq_zero hd)
  unfold over512
  rw [hr]
  have e0 : IntOp.cmpi .ne (0#32) 0#32 = 0#1 := by decide
  rw [e0]
  have e1 : ∀ b : BitVec 1, IntOp.andi b 0#1 ≠ 1#1 := by decide
  rw [if_neg (e1 _)]
  exact hq

/-! ## A row and its block -/

theorem sle_iff (a b : BitVec 32) : IntOp.cmpi .sle a b = 1#1 ↔ a.toInt ≤ b.toInt := by
  show BitVec.ofBool (decide (a.toInt ≤ b.toInt)) = 1#1 ↔ _
  rw [StableHlo.Predicate.ofBool_eq_one_iff, decide_eq_true_iff]

theorem slt_iff (a b : BitVec 32) : IntOp.cmpi .slt a b = 1#1 ↔ a.toInt < b.toInt := by
  show BitVec.ofBool (decide (a.toInt < b.toInt)) = 1#1 ↔ _
  rw [StableHlo.Predicate.ofBool_eq_one_iff, decide_eq_true_iff]

theorem blockRow_toInt (y : S288.Idx) : (blockRow y).toInt = 512 * (y 0).val := by
  have hy : (y 0).val < 288 := (y 0).isLt
  have e : blockRow y = BitVec.ofNat 32 (512 * (y 0).val) := by
    apply BitVec.eq_of_toNat_eq
    unfold blockRow IntOp.muli
    simp only [BitVec.toNat_mul, BitVec.toNat_ofNat]
    omega
  rw [e, StableHlo.Predicate.toInt_ofNat_small _ (by omega)]
  push_cast
  rfl

/-- A row's expert is its block's. -/
theorem expert_row (cnt : S32.Idx → BitVec 32) (y : S288.Idx) (n : ℕ) (hn : n < 147456) (hy : n / 512 = (y 0).val) :
    expert (padEnd cnt) (BitVec.ofNat 32 n) = expert (padEnd cnt) (blockRow y) := by
  unfold expert
  congr 2
  refine Finset.filter_congr fun q _ => ?_
  rw [sle_iff, sle_iff, blockRow_toInt, StableHlo.Predicate.toInt_ofNat_small _ (by omega)]
  have := whole_toInt _ (whole_padEnd cnt (at32 q))
  omega

/-- A row is used exactly if its block is. -/
theorem used_row (cnt : S32.Idx → BitVec 32) (i : grid0.Coords) (n : ℕ) (hn : n < 147456) (hi : n / 512 = (i 0).val) :
    IntOp.cmpi .slt (BitVec.ofNat 32 n) (padEnd cnt (at32 31)) = 1#1 ↔ k0_cond2 i (nUsed cnt) = 1#1 := by
  have hh : (i 0).val < 288 := (i 0).isLt
  have e : k0_cond2 i (nUsed cnt) = 1#1 ↔ (BitVec.ofNat 32 (i 0).val).toInt < (nUsed cnt).toInt := by
    unfold k0_cond2
    generalize BitVec.ofNat 32 (i 0).val = a
    generalize nUsed cnt = b
    dsimp only [Scalar.cmpi, Scalar.extui]
    rw [← slt_iff]
    generalize IntOp.cmpi .slt a b = t
    revert t
    decide
  rw [e, slt_iff, StableHlo.Predicate.toInt_ofNat_small _ (by omega), StableHlo.Predicate.toInt_ofNat_small _ (by omega)]
  have := over512_toInt _ (whole_padEnd cnt (at32 31))
  unfold nUsed
  omega

end Cert.Experts

end
-- ==== Proof.ExpertsPoint.lean ====
/-
  The experts program's blocks: the tables the grid reads admit the grid, and what each window holds at each point.
-/
module

public import proofs.«01_k».proof.Proof.ExpertsBody
public import proofs.«01_k».proof.Proof.ExpertsNat
public import Idealize.ShloMosaic.Lib.Pipeline.FrameValue
public import Idealize.ShloMosaic.Lib.Pipeline.FrameBody
public import Idealize.ShloMosaic.Lib.Pipeline.Value

@[expose] public section

noncomputable section

namespace Cert.Experts

open Cert.Kernel2Ideal Cert.Kernel2Ideal.Gen
open Idealize.ShloMosaic Idealize.ShloMosaic.TcCoe

variable {F : FTy → Type} [FloatOps F]
variable (m : (ℓ : Loc nD τ sig) → Buf (Elt F) ℓ)

/-- The tables the grid reads. -/
def tab : pre0.Contents (Elt F) := fun k => V m 0 (pre0.ref k)

theorem tab_0 : tab m ⟨0, by decide⟩ = blkE (cntV m 0) := V_v19 m 0
theorem tab_1 : tab m ⟨1, by decide⟩ = fun _ => nUsed (cntV m 0) := V_v21 m 0
theorem tab_2 : tab m ⟨2, by decide⟩ = firstE (cntV m 0) := V_v27 m 0

/-- The block's expert at a grid coordinate. -/
def expAt (i : grid0.Coords) : ℕ := (blkE (cntV m 0) (at288 ⟨(i 0).val, (i 0).isLt⟩)).toNat

theorem expAt_lt (i : grid0.Coords) : expAt m i < 32 := blkE_lt _ _

/-- The first table's word for a grid coordinate. -/
theorem word_0 (i : grid0.Coords) (x : S288.Idx) (h : (x 0).val = (i 0).val) (g : S288.Idx → BitVec 32) (hg : g = blkE (cntV m 0)) :
    (g x).toNat = expAt m i := by
  subst hg
  unfold expAt
  refine congrArg (fun z => (blkE (cntV m 0) z).toNat) (funext fun a => ?_)
  match a with
  | ⟨0, _⟩ => exact Fin.ext h

theorem off1_val (i : grid0.Coords) : k0_off1 i 0 + 1 * 0 = (i 0).val := by rw [k0_off1_eq]; rfl

set_option maxRecDepth 4000 in
theorem map_1 (i : grid0.Coords) : cc0_transform_1 k0_off1_inb numel1_S1 (tab m) i = ![expAt m i, 0, 0] := by
  unfold cc0_transform_1
  dsimp only
  exact congrArg (fun z : ℕ => (![z, 0, 0] : Fin 3 → ℕ)) (word_0 m i _ (off1_val i) (tab m (0 : Fin 3)) (tab_0 m))

set_option maxRecDepth 4000 in
theorem map_2 (i : grid0.Coords) : cc0_transform_2 k0_off1_inb numel1_S1 (tab m) i = ![expAt m i, 0, 0] := by
  unfold cc0_transform_2
  dsimp only
  exact congrArg (fun z : ℕ => (![z, 0, 0] : Fin 3 → ℕ)) (word_0 m i _ (off1_val i) (tab m (0 : Fin 3)) (tab_0 m))

set_option maxRecDepth 4000 in
theorem map_3 (i : grid0.Coords) : cc0_transform_3 k0_off1_inb numel1_S1 (tab m) i = ![expAt m i, 0, 0] := by
  unfold cc0_transform_3
  dsimp only
  exact congrArg (fun z : ℕ => (![z, 0, 0] : Fin 3 → ℕ)) (word_0 m i _ (off1_val i) (tab m (0 : Fin 3)) (tab_0 m))

set_option maxRecDepth 4000 in
theorem map_4 (i : grid0.Coords) : cc0_transform_4 k0_off1_inb numel1_S1 (tab m) i = ![expAt m i, 0, 0] := by
  unfold cc0_transform_4
  dsimp only
  exact congrArg (fun z : ℕ => (![z, 0, 0] : Fin 3 → ℕ)) (word_0 m i _ (off1_val i) (tab m (0 : Fin 3)) (tab_0 m))

theorem tab_ok : ok0 (tab m) := by
  unfold ok0
  refine ⟨fun i => ⟨fun a => ?_, .inl rfl⟩, fun i => ⟨fun a => ?_, .inl rfl⟩, fun i => ⟨fun a => ?_, .inl rfl⟩,
    fun i => ⟨fun a => ?_, .inl rfl⟩⟩
  all_goals
    have h := expAt_lt m i
  · rw [map_1]
    match a with
    | ⟨0, _⟩ => show (expAt m i + 1) * 1 ≤ 32; omega
    | ⟨1, _⟩ => show (0 + 1) * 1024 ≤ 1024; omega
    | ⟨2, _⟩ => show (0 + 1) * 2048 ≤ 2048; omega
  · rw [map_2]
    match a with
    | ⟨0, _⟩ => show (expAt m i + 1) * 1 ≤ 32; omega
    | ⟨1, _⟩ => show (0 + 1) * 1 ≤ 1; omega
    | ⟨2, _⟩ => show (0 + 1) * 2048 ≤ 2048; omega
  · rw [map_3]
    match a with
    | ⟨0, _⟩ => show (expAt m i + 1) * 1 ≤ 32; omega
    | ⟨1, _⟩ => show (0 + 1) * 1024 ≤ 1024; omega
    | ⟨2, _⟩ => show (0 + 1) * 1024 ≤ 1024; omega
  · rw [map_4]
    match a with
    | ⟨0, _⟩ => show (expAt m i + 1) * 1 ≤ 32; omega
    | ⟨1, _⟩ => show (0 + 1) * 1 ≤ 1; omega
    | ⟨2, _⟩ => show (0 + 1) * 1024 ≤ 1024; omega

/-- The tables as the grid admits them. -/
def adm (_ : Fin 1) : (pcfg0 (F := F)).Adm := ⟨tab m, tab_ok m⟩

/-- The grid at these tables. -/
abbrev C : Pipeline.Cfg sig Λ₀ := cfg0 (adm m 0)

theorem N_C : (C m).N = 288 := N_0

theorem point_lt (t : Fin (C m).N) : t.val < 288 := lt_of_lt_of_eq t.isLt (N_C m)

theorem coord (t : Fin (C m).N) : ((grid0.coords t) 0).val = t.val :=
  (Pipeline.Grid.coords_val (G := grid0) t 0 (S := 1) (B := 288) (by decide) rfl).trans (by have := point_lt m t; omega)

/-- The expert of a point's block. -/
def expT (t : Fin (C m).N) : Fin 32 := ⟨expAt m (grid0.coords t), expAt_lt m _⟩

theorem expT_val (t : Fin (C m).N) : expAt m (grid0.coords t) = (expT m t).val := by unfold expT; dsimp only

/-- Window `w`'s block at point `t`, off its array as the grid finds it. -/
def iblk (c : Dev nD) (w : Fin (C m).W) (t : Fin (C m).N) : (((C m).win w).xblock ((C m).grid.coords t)).Idx → Elt F ((C m).win w).elt :=
  (((C m).win w).blk t).view.read (Elt F) (V m c (Pipeline.arrRef spec0 w))

/-! The block a point stages of each stacked array. -/

theorem row_1 (a : (pcfg0 (F := F)).Adm) (t : Fin (cfg0 a).N) :
    ((cfg0 a).win 1).index t = cc0_transform_1 k0_off1_inb numel1_S1 a.1 (grid0.coords t) := rfl

theorem index_1 (t : Fin (C m).N) : ((C m).win 1).index t = ![expAt m (grid0.coords t), 0, 0] :=
  (row_1 (adm m 0) t).trans (map_1 m (grid0.coords t))

theorem row_2 (a : (pcfg0 (F := F)).Adm) (t : Fin (cfg0 a).N) :
    ((cfg0 a).win 2).index t = cc0_transform_2 k0_off1_inb numel1_S1 a.1 (grid0.coords t) := rfl

theorem index_2 (t : Fin (C m).N) : ((C m).win 2).index t = ![expAt m (grid0.coords t), 0, 0] :=
  (row_2 (adm m 0) t).trans (map_2 m (grid0.coords t))

theorem row_3 (a : (pcfg0 (F := F)).Adm) (t : Fin (cfg0 a).N) :
    ((cfg0 a).win 3).index t = cc0_transform_3 k0_off1_inb numel1_S1 a.1 (grid0.coords t) := rfl

theorem index_3 (t : Fin (C m).N) : ((C m).win 3).index t = ![expAt m (grid0.coords t), 0, 0] :=
  (row_3 (adm m 0) t).trans (map_3 m (grid0.coords t))

theorem row_4 (a : (pcfg0 (F := F)).Adm) (t : Fin (cfg0 a).N) :
    ((cfg0 a).win 4).index t = cc0_transform_4 k0_off1_inb numel1_S1 a.1 (grid0.coords t) := rfl

theorem index_4 (t : Fin (C m).N) : ((C m).win 4).index t = ![expAt m (grid0.coords t), 0, 0] :=
  (row_4 (adm m 0) t).trans (map_4 m (grid0.coords t))

/-- Where an element of a one-expert block sits in its array, axis by axis. -/
theorem block_axes {n1 n2 : ℕ} (e : ℕ) (y : (⟨3, ![1, n1, n2]⟩ : Shape).Idx) (a : Fin 3) (he : e < 32) :
    (![e, 0, 0] : Fin 3 → ℕ) a * (![1, n1, n2] : Fin 3 → ℕ) a + (y a).val
      = match a with | ⟨0, _⟩ => e | ⟨1, _⟩ => (y 1).val | ⟨2, _⟩ => (y 2).val := by
  match a with
  | ⟨0, _⟩ =>
    have : (y 0).val < 1 := (y 0).isLt
    show e * 1 + (y 0).val = e
    omega
  | ⟨1, _⟩ => show 0 * n1 + (y 1).val = (y 1).val; omega
  | ⟨2, _⟩ => show 0 * n2 + (y 2).val = (y 2).val; omega

/-- Three coordinates of a stacked array. -/
abbrev ix3 {n0 n1 n2 : ℕ} (a : Fin n0) (b : Fin n1) (d : Fin n2) : (⟨3, ![n0, n1, n2]⟩ : Shape).Idx :=
  fun | ⟨0, _⟩ => a | ⟨1, _⟩ => b | ⟨2, _⟩ => d

/-- Two coordinates of an array. -/
abbrev ix2 {n0 n1 : ℕ} (a : Fin n0) (b : Fin n1) : (⟨2, ![n0, n1]⟩ : Shape).Idx :=
  fun | ⟨0, _⟩ => a | ⟨1, _⟩ => b

theorem iblk_0 (c : Dev nD) (t : Fin (C m).N) (y : S512x1024.Idx) (r : Fin 147456) (hr : r.val = 512 * t.val + (y 0).val) :
    iblk m c 0 t y = m ((c : Thread nD τ).loc main_arg1) (ix2 (n1 := 1024) r (y 1)) := by
  show V m c main_arg1 ((((C m).win 0).rect t).emb y) = _
  refine (congrArg (V m c main_arg1) (funext fun a => Fin.ext ?_)).trans (congrFun (V_arg1 m c) _)
  rw [Pipeline.Window.rect_emb_val ((C m).win 0) t y a]
  match a with
  | ⟨0, _⟩ =>
    show (BitVec.ofNat 32 ((grid0.coords t) 0).val).toNat * 512 + (y 0).val = r.val
    rw [coord, BitVec.toNat_ofNat]
    have := point_lt m t
    omega
  | ⟨1, _⟩ =>
    show 0 * 1024 + (y 1).val = (y 1).val
    omega

theorem iblk_1 (c : Dev nD) (t : Fin (C m).N) (y : S1x1024x2048.Idx) :
    iblk m c 1 t y = V m c main_arg2 (ix3 (n1 := 1024) (n2 := 2048) (expT m t) (y 1) (y 2)) := by
  show V m c main_arg2 ((((C m).win 1).rect t).emb y) = _
  refine congrArg (V m c main_arg2) (funext fun a => Fin.ext ?_)
  rw [Pipeline.Window.rect_emb_val ((C m).win 1) t y a]
  rw [index_1 m t]
  refine (block_axes (n1 := 1024) (n2 := 2048) (expAt m (grid0.coords t)) y a (expAt_lt m _)).trans ?_
  match a with
  | ⟨0, _⟩ => exact expT_val m t
  | ⟨1, _⟩ => exact rfl
  | ⟨2, _⟩ => exact rfl

theorem iblk_2 (c : Dev nD) (t : Fin (C m).N) (y : S1x1x2048.Idx) :
    iblk m c 2 t y = V m c main_v28 (ix3 (n1 := 1) (n2 := 2048) (expT m t) (y 1) (y 2)) := by
  show V m c main_v28 ((((C m).win 2).rect t).emb y) = _
  refine congrArg (V m c main_v28) (funext fun a => Fin.ext ?_)
  rw [Pipeline.Window.rect_emb_val ((C m).win 2) t y a]
  rw [index_2 m t]
  refine (block_axes (n1 := 1) (n2 := 2048) (expAt m (grid0.coords t)) y a (expAt_lt m _)).trans ?_
  match a with
  | ⟨0, _⟩ => exact expT_val m t
  | ⟨1, _⟩ => exact rfl
  | ⟨2, _⟩ => exact rfl

theorem iblk_3 (c : Dev nD) (t : Fin (C m).N) (y : S1x1024x1024.Idx) :
    iblk m c 3 t y = V m c main_arg4 (ix3 (n1 := 1024) (n2 := 1024) (expT m t) (y 1) (y 2)) := by
  show V m c main_arg4 ((((C m).win 3).rect t).emb y) = _
  refine congrArg (V m c main_arg4) (funext fun a => Fin.ext ?_)
  rw [Pipeline.Window.rect_emb_val ((C m).win 3) t y a]
  rw [index_3 m t]
  refine (block_axes (n1 := 1024) (n2 := 1024) (expAt m (grid0.coords t)) y a (expAt_lt m _)).trans ?_
  match a with
  | ⟨0, _⟩ => exact expT_val m t
  | ⟨1, _⟩ => exact rfl
  | ⟨2, _⟩ => exact rfl

theorem iblk_4 (c : Dev nD) (t : Fin (C m).N) (y : S1x1x1024.Idx) :
    iblk m c 4 t y = V m c main_v29 (ix3 (n1 := 1) (n2 := 1024) (expT m t) (y 1) (y 2)) := by
  show V m c main_v29 ((((C m).win 4).rect t).emb y) = _
  refine congrArg (V m c main_v29) (funext fun a => Fin.ext ?_)
  rw [Pipeline.Window.rect_emb_val ((C m).win 4) t y a]
  rw [index_4 m t]
  refine (block_axes (n1 := 1) (n2 := 1024) (expAt m (grid0.coords t)) y a (expAt_lt m _)).trans ?_
  match a with
  | ⟨0, _⟩ => exact expT_val m t
  | ⟨1, _⟩ => exact rfl
  | ⟨2, _⟩ => exact rfl

/-- A block that is not the first of its run has the weights of the point before. -/
theorem iblk_same (c : Dev nD) (t t' : Fin (C m).N) (h : expT m t = expT m t') : iblk m c 1 t = iblk m c 1 t' ∧ iblk m c 3 t = iblk m c 3 t' :=
  ⟨funext fun y => by rw [iblk_1 m c t y, iblk_1 m c t' y, h], funext fun y => by rw [iblk_3 m c t y, iblk_3 m c t' y, h]⟩

end Cert.Experts

end
-- ==== Proof.ExpertsOps.lean ====
/-
  Products and row look-ups read at one element, at any extents: the kernel's row-times-matrix product, the reference's
  product of each row with a matrix of its own, and the look-up of a row or a matrix by index.
-/
module

public import proofs.«01_k».proof.Proof.ExpertsPoint
public import Idealize.ShloMosaic.Lib.Pointwise.Contract
public import Idealize.ShloMosaic.PureOps.Ideal.Laws

@[expose] public section

noncomputable section

namespace Cert.Experts

open Idealize.ShloMosaic

/-! ## Products -/

/-- Rows times one matrix. -/
abbrev rowsDims (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

theorem rows_sum {M K N : ℕ} (wf : DotDims.WF ⟨2, ![M, K]⟩ ⟨2, ![K, N]⟩ ⟨2, ![M, N]⟩ [1] [0] [0] [1] [] [])
    (L : (⟨2, ![M, K]⟩ : Shape).Idx → EReal) (R : (⟨2, ![K, N]⟩ : Shape).Idx → EReal) (r : Fin M) (q : Fin N) :
    (∑ k : (rowsDims M K N wf).contr.Idx, L ((rowsDims M K N wf).lhsIdx (ix2 r q) k) * R ((rowsDims M K N wf).rhsIdx (ix2 r q) k))
      = ∑ k : Fin K, L (ix2 r k) * R (ix2 k q) := by
  rw [(rowsDims M K N wf).sum_contr₁ (a := 1) rfl (K := K) rfl]
  refine Finset.sum_congr rfl fun k _ => ?_
  congr 1
  · refine congrArg L (funext fun a => ?_)
    match a with
    | ⟨0, _⟩ => rfl
    | ⟨1, _⟩ => rfl
  · refine congrArg R (funext fun a => ?_)
    match a with
    | ⟨0, _⟩ => rfl
    | ⟨1, _⟩ => rfl

/-- Each row times a matrix of its own. -/
abbrev ownDims (B K N : ℕ) (wf : DotDims.WF ⟨2, ![B, K]⟩ ⟨3, ![B, K, N]⟩ ⟨2, ![B, N]⟩ [1] [1] [] [2] [0] [0]) :
    DotDims ⟨2, ![B, K]⟩ ⟨3, ![B, K, N]⟩ ⟨2, ![B, N]⟩ where
  lhsContracting := [1]
  rhsContracting := [1]
  lhsNonContracting := []
  rhsNonContracting := [2]
  lhsBatch := [0]
  rhsBatch := [0]
  wf := wf

theorem own_sum {B K N : ℕ} (wf : DotDims.WF ⟨2, ![B, K]⟩ ⟨3, ![B, K, N]⟩ ⟨2, ![B, N]⟩ [1] [1] [] [2] [0] [0])
    (L : (⟨2, ![B, K]⟩ : Shape).Idx → EReal) (R : (⟨3, ![B, K, N]⟩ : Shape).Idx → EReal) (r : Fin B) (q : Fin N) :
    (∑ k : (ownDims B K N wf).contr.Idx, L ((ownDims B K N wf).lhsIdx (ix2 r q) k) * R ((ownDims B K N wf).rhsIdx (ix2 r q) k))
      = ∑ k : Fin K, L (ix2 r k) * R (ix3 r k q) := by
  rw [(ownDims B K N wf).sum_contr₁ (a := 1) rfl (K := K) rfl]
  refine Finset.sum_congr rfl fun k _ => ?_
  congr 1
  · refine congrArg L (funext fun a => ?_)
    match a with
    | ⟨0, _⟩ => rfl
    | ⟨1, _⟩ => rfl
  · refine congrArg R (funext fun a => ?_)
    match a with
    | ⟨0, _⟩ => rfl
    | ⟨1, _⟩ => rfl
    | ⟨2, _⟩ => rfl

/-! ## Look-ups -/

section
variable {α : Type}

/-- A row of a table by index. -/
abbrev takeRow (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

theorem takeRow_apply {N C B : ℕ} (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (r : Fin B) (q : Fin C) (e : Fin N)
    (he : (idx (ix2 r (0 : Fin 1))).toInt = e.val) : Host.gather (takeRow N C B wf) x idx (ix2 r q) = x (ix2 e q) := by
  unfold Host.gather
  refine congrArg x (funext fun a => Fin.ext ?_)
  show (takeRow N C B wf).start (ix2 r q) idx a + (takeRow N C B wf).batchCoord (ix2 r q) a + (takeRow N C B wf).offCoord (ix2 r q) a = _
  rw [GatherDims.batchCoord_eq_zero _ _ _ (fun h => by simp at h), Nat.add_zero]
  match a with
  | ⟨0, hlt⟩ =>
    rw [GatherDims.offCoord_eq_zero _ _ _ (fun h => ((GatherDims.mem_sKept _ _).mp h).1 (List.mem_singleton.mpr rfl)), Nat.add_zero]
    unfold GatherDims.start
    rw [dif_pos (show (⟨0, hlt⟩ : Fin 2) ∈ (takeRow N C B wf).startIndexMap from List.mem_singleton.mpr rfl)]
    have hsi : (takeRow N C B wf).siIdx (ix2 r q) ⟨List.idxOf (⟨0, hlt⟩ : Fin 2) (takeRow N C B wf).startIndexMap,
        List.idxOf_lt_length_iff.2 (List.mem_singleton.mpr rfl)⟩ = ix2 r (0 : Fin 1) := by
      funext b
      match b with
      | ⟨0, _⟩ => rfl
      | ⟨1, _⟩ => rfl
    rw [hsi, he]
    show min ((e.val : ℤ).toNat) (N - 1) = e.val
    have := e.isLt
    omega
  | ⟨1, hlt⟩ =>
    unfold GatherDims.start
    rw [dif_neg (show ¬ (⟨1, hlt⟩ : Fin 2) ∈ (takeRow N C B wf).startIndexMap from fun h => absurd (congrArg Fin.val (List.mem_singleton.mp h)) (by simp)), Nat.zero_add]
    rfl

/-- A matrix of a stack by index. -/
abbrev takeMat (N P Q B : ℕ) (wf : GatherDims.WF ⟨3, ![N, P, Q]⟩ ⟨2, ![B, 1]⟩ ⟨3, ![B, P, Q]⟩ [1, 2] [0] [] [0] [] 1 ![1, P, Q]) :
    GatherDims ⟨3, ![N, P, Q]⟩ ⟨2, ![B, 1]⟩ ⟨3, ![B, P, Q]⟩ where
  offsetDims := [1, 2]
  collapsedSliceDims := [0]
  operandBatchingDims := []
  startIndicesBatchingDims := []
  startIndexMap := [0]
  indexVectorDim := 1
  sliceSizes := ![1, P, Q]
  wf := wf

theorem takeMat_apply {N P Q B : ℕ}
    (wf : GatherDims.WF ⟨3, ![N, P, Q]⟩ ⟨2, ![B, 1]⟩ ⟨3, ![B, P, Q]⟩ [1, 2] [0] [] [0] [] 1 ![1, P, Q])
    (x : (⟨3, ![N, P, Q]⟩ : Shape).Idx → α) (idx : IVec ⟨2, ![B, 1]⟩ 32) (r : Fin B) (p : Fin P) (q : Fin Q) (e : Fin N)
    (he : (idx (ix2 r (0 : Fin 1))).toInt = e.val) : Host.gather (takeMat N P Q B wf) x idx (ix3 r p q) = x (ix3 e p q) := by
  unfold Host.gather
  refine congrArg x (funext fun a => Fin.ext ?_)
  show (takeMat N P Q B wf).start (ix3 r p q) idx a + (takeMat N P Q B wf).batchCoord (ix3 r p q) a
    + (takeMat N P Q B wf).offCoord (ix3 r p q) a = _
  rw [GatherDims.batchCoord_eq_zero _ _ _ (fun h => by simp at h), Nat.add_zero]
  match a with
  | ⟨0, hlt⟩ =>
    rw [GatherDims.offCoord_eq_zero _ _ _ (fun h => ((GatherDims.mem_sKept _ _).mp h).1 (List.mem_singleton.mpr rfl)), Nat.add_zero]
    unfold GatherDims.start
    rw [dif_pos (show (⟨0, hlt⟩ : Fin 3) ∈ (takeMat N P Q B wf).startIndexMap from List.mem_singleton.mpr rfl)]
    have hsi : (takeMat N P Q B wf).siIdx (ix3 r p q) ⟨List.idxOf (⟨0, hlt⟩ : Fin 3) (takeMat N P Q B wf).startIndexMap,
        List.idxOf_lt_length_iff.2 (List.mem_singleton.mpr rfl)⟩ = ix2 r (0 : Fin 1) := by
      funext b
      match b with
      | ⟨0, _⟩ => rfl
      | ⟨1, _⟩ => rfl
    rw [hsi, he]
    show min ((e.val : ℤ).toNat) (N - 1) = e.val
    have := e.isLt
    omega
  | ⟨1, hlt⟩ =>
    unfold GatherDims.start
    rw [dif_neg (show ¬ (⟨1, hlt⟩ : Fin 3) ∈ (takeMat N P Q B wf).startIndexMap from fun h => absurd (congrArg Fin.val (List.mem_singleton.mp h)) (by simp)), Nat.zero_add]
    rfl
  | ⟨2, hlt⟩ =>
    unfold GatherDims.start
    rw [dif_neg (show ¬ (⟨2, hlt⟩ : Fin 3) ∈ (takeMat N P Q B wf).startIndexMap from fun h => absurd (congrArg Fin.val (List.mem_singleton.mp h)) (by simp)), Nat.zero_add]
    rfl

end

end Cert.Experts

end
-- ==== Proof.ExpertsSpec.lean ====
/-
  One element of the experts' result: a row through its expert's two layers, in exact arithmetic.
-/
module

public import proofs.«01_k».proof.Proof.ExpertsOps
public import Idealize.ShloMosaic.Lib.IdealHost
public import Idealize.ShloMosaic.Lib.Pointwise

@[expose] public section

noncomputable section

namespace Cert.Experts

open Idealize.ShloMosaic

/-- The activation: the gate half held below 7 and passed through its sigmoid, times the other half held within 7, plus one. -/
def gated (g u : Ideal .f32) : Ideal .f32 :=
  FloatOps.mulf (FloatOps.mulf (FloatOps.minimumf g (FloatOps.ofBits .f32 0x40E00000#32))
      (FloatOps.logistic (FloatOps.mulf (FloatOps.ofBits .f32 0x3FD9DB23#32) (FloatOps.minimumf g (FloatOps.ofBits .f32 0x40E00000#32)))))
    (FloatOps.addf (FloatOps.minimumf (FloatOps.ofBits .f32 0x40E00000#32) (FloatOps.maximumf (FloatOps.ofBits .f32 0xC0E00000#32) u))
      (FloatOps.ofBits .f32 0x3F800000#32))

/-- The sigmoid is one over one plus the exponential of the negated argument. -/
theorem sigmoid (z : Ideal .f32) :
    FloatOps.hostDivf (FloatOps.ofBits .f32 0x3F800000#32)
      (FloatOps.addf (FloatOps.ofBits .f32 0x3F800000#32) (FloatOps.hostUnary .exp (FloatOps.hostNegf z))) = (FloatOps.logistic z : Ideal .f32) := by
  show Ideal.div (Ideal.ofBits .f32 0x3F800000#32) (Ideal.ofBits .f32 0x3F800000#32 + Ideal.exp (-z)) = Ideal.logistic z
  rw [Ideal.ofBits_one_f32]
  rfl

/-- A column of the first half. -/
abbrev lo (k : Fin 1024) : Fin 2048 := ⟨k.val, by omega⟩
/-- The same column of the second half. -/
abbrev hi (k : Fin 1024) : Fin 2048 := ⟨1024 + k.val, by omega⟩

/-- The first layer at one column: the row times the expert's matrix, plus its bias. -/
def mid (x : (⟨2, ![147456, 1024]⟩ : Shape).Idx → EReal) (w : (⟨3, ![32, 1024, 2048]⟩ : Shape).Idx → EReal)
    (b : (⟨2, ![32, 2048]⟩ : Shape).Idx → EReal) (r : Fin 147456) (e : Fin 32) (j : Fin 2048) : EReal :=
  (∑ k : Fin 1024, x (ix2 r k) * w (ix3 e k j)) + b (ix2 e j)

/-- The second layer at one column, of the activated first. -/
def value (x : (⟨2, ![147456, 1024]⟩ : Shape).Idx → EReal) (w : (⟨3, ![32, 1024, 2048]⟩ : Shape).Idx → EReal)
    (b : (⟨2, ![32, 2048]⟩ : Shape).Idx → EReal) (wd : (⟨3, ![32, 1024, 1024]⟩ : Shape).Idx → EReal)
    (bd : (⟨2, ![32, 1024]⟩ : Shape).Idx → EReal) (r : Fin 147456) (e : Fin 32) (q : Fin 1024) : EReal :=
  (∑ k : Fin 1024, gated (mid x w b r e (lo k)) (mid x w b r e (hi k)) * wd (ix3 e k q)) + bd (ix2 e q)

end Cert.Experts

end
-- ==== Proof.ExpertsRun.lean ====
/-
  The experts program's run. Between grid points the scratch buffers hold the weights of the block before, rounded; a block
  that is the first of its run fills them anew, any other finds its own expert's weights there already.
-/
module

public import proofs.«01_k».proof.Proof.ExpertsPoint
public import Idealize.ShloMosaic.Lib.StableHlo.Run

@[expose] public section

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The user algebra. -/
local notation "𝕄" => MT nD τ sig Unit (Elt F) ℕ (UR sig nD τ) ℕ

variable (m : (ℓ : Loc nD τ sig) → Buf (Elt F) ℓ) (ρ : Dev nD → PrngReg)

/-! ## What the scratch buffers hold -/

/-- The first scratch buffer after point `t`: its expert's first matrix, rounded. -/
def held1 (c : Dev nD) (t : Fin (C m).N) : FVec F S1024x2048 .bf16 := k0_pay1 (iblk m c 1 t)
/-- The second. -/
def held2 (c : Dev nD) (t : Fin (C m).N) : FVec F S1024x1024 .bf16 := k0_pay2 (iblk m c 3 t)
/-- The result's block at point `t`. -/
def blockAt (c : Dev nD) (t : Fin (C m).N) : FVec F S512x1024 .f32 :=
  block (grid0.coords t) (nUsed (cntV m 0)) (iblk m c 0 t) (held1 m c t) (iblk m c 2 t) (held2 m c t) (iblk m c 4 t)

/-- What is known of the scratch buffers before point `k`: past the first point, the weights of the point before. -/
def Held (c : Dev nD) (k : ℕ) (s0 : FVec F S1024x2048 .bf16) (s1 : FVec F S1024x1024 .bf16) : Prop :=
  k ≠ 0 → ∃ t : Fin (C m).N, t.val + 1 = k ∧ s0 = held1 m c t ∧ s1 = held2 m c t

/-- The word of the first-block table at a point. -/
def wordAt (t : Fin (C m).N) : BitVec 32 := firstE (cntV m 0) (at288 ⟨t.val, point_lt m t⟩)

theorem expT_same (t t' : Fin (C m).N) (e : t'.val + 1 = t.val) (h : wordAt m t ≠ 1#32) : expT m t = expT m t' := by
  have ht := point_lt m t
  have key : blkE (cntV m 0) (at288 ⟨t'.val + 1, by omega⟩) = blkE (cntV m 0) (at288 ⟨t'.val, by omega⟩) := by
    refine firstE_ne (cntV m 0) t'.val (by omega) ?_
    unfold wordAt at h
    simp only [← e] at h
    exact h
  apply Fin.ext
  rw [← expT_val, ← expT_val]
  unfold expAt
  have e1 : at288 ⟨((grid0.coords t) 0).val, ((grid0.coords t) 0).isLt⟩ = at288 ⟨t'.val + 1, by omega⟩ :=
    congrArg at288 (Fin.ext ((coord m t).trans e.symm))
  have e2 : at288 ⟨((grid0.coords t') 0).val, ((grid0.coords t') 0).isLt⟩ = at288 ⟨t'.val, by omega⟩ :=
    congrArg at288 (Fin.ext (coord m t'))
  exact congrArg BitVec.toNat ((congrArg (blkE (cntV m 0)) e1).trans (key.trans (congrArg (blkE (cntV m 0)) e2).symm))

/-- After the refill the scratch buffers hold the point's own weights. -/
theorem refill_held (c : Dev nD) (t : Fin (C m).N) (s0 : FVec F S1024x2048 .bf16) (s1 : FVec F S1024x1024 .bf16)
    (h : Held m c t.val s0 s1) :
    refill1 (wordAt m t) (iblk m c 1 t) s0 = held1 m c t ∧ refill2 (wordAt m t) (iblk m c 3 t) s1 = held2 m c t := by
  unfold refill1 refill2
  by_cases hw : wordAt m t = 1#32
  · rw [if_pos hw, if_pos hw]; exact ⟨rfl, rfl⟩
  · rw [if_neg hw, if_neg hw]
    have h0 : t.val ≠ 0 := fun h0 => hw (firstE_zero _ _ h0)
    obtain ⟨t', e, rfl, rfl⟩ := h h0
    obtain ⟨e1, e3⟩ := iblk_same m c t' t (expT_same m t t' e hw).symm
    exact ⟨congrArg k0_pay1 e1, congrArg k0_pay2 e3⟩

/-! ## The proof data -/

/-- What every point holds beside its staged blocks. -/
def S (c : Dev nD) (k : ℕ) : sProp 𝕄 :=
  iprop((∃ r, prngReg c r) ∗ Pipeline.ΦT pre0 (tab m) c
    ∗ ∃ s0 s1, ⌜Held m c k s0 s1⌝ ∗ owns (c : Thread nD τ) (Memref.whole cc0_scratch0) fullShare s0
        ∗ owns (c : Thread nD τ) (Memref.whole cc0_scratch1) fullShare s1)

def dats (_ : Fin 1) (c : Dev nD) : Dat τ (Elt F) Unit ℕ (UR sig nD τ) ℕ (C m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockAt m c t
  Φ t := S m c t.val
  q _ := fullShare
  owed _ := 0

theorem A_eq (c : Dev nD) (w : Fin (C m).W) : (dats m 0 c).A w = V m c (Pipeline.arrRef spec0 w) := by dsimp only [dats]
theorem after0_0 (c : Dev nD) (t : Fin (C m).N) : (dats m 0 c).after 0 t = iblk m c 0 t := by dsimp only [dats]; rfl
theorem after0_1 (c : Dev nD) (t : Fin (C m).N) : (dats m 0 c).after 1 t = iblk m c 1 t := by dsimp only [dats]; rfl
theorem after0_2 (c : Dev nD) (t : Fin (C m).N) : (dats m 0 c).after 2 t = iblk m c 2 t := by dsimp only [dats]; rfl
theorem after0_3 (c : Dev nD) (t : Fin (C m).N) : (dats m 0 c).after 3 t = iblk m c 3 t := by dsimp only [dats]; rfl
theorem after0_4 (c : Dev nD) (t : Fin (C m).N) : (dats m 0 c).after 4 t = iblk m c 4 t := by dsimp only [dats]; rfl
theorem after0_5 (c : Dev nD) (t : Fin (C m).N) : (dats m 0 c).after 5 t = blockAt m c t := by dsimp only [dats]; rfl
theorem phi_pre (c : Dev nD) (t : Fin (C m).N) : (dats m 0 c).Φ t.castSucc = S m c t.val := rfl
theorem phi_post (c : Dev nD) (t : Fin (C m).N) : (dats m 0 c).Φ t.succ = S m c (t.val + 1) := rfl

theorem before0_0 (c : Dev nD) (t : Fin (C m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; rfl)
theorem before0_1 (c : Dev nD) (t : Fin (C m).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans
    (by unfold Dat.fetched Dat.blockOf iblk; rw [A_eq]; rfl)
theorem before0_2 (c : Dev nD) (t : Fin (C m).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]) t d).trans
    (by unfold Dat.fetched Dat.blockOf iblk; rw [A_eq]; rfl)
theorem before0_3 (c : Dev nD) (t : Fin (C m).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]) t d).trans
    (by unfold Dat.fetched Dat.blockOf iblk; rw [A_eq]; rfl)
theorem before0_4 (c : Dev nD) (t : Fin (C m).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]) t d).trans
    (by unfold Dat.fetched Dat.blockOf iblk; rw [A_eq]; rfl)

/-! ## One point -/

/-- The tables' halves, table by table. -/
theorem tabs_eq (c : Dev nD) : (Pipeline.ΦT pre0 (tab m) c : sProp 𝕄)
    = iprop(owns (Val := Elt F) (c : Thread nD τ) (Memref.whole main_v19) fullShare.right (tab m (0 : Fin 3))
        ∗ owns (Val := Elt F) (c : Thread nD τ) (Memref.whole main_v21) fullShare.right (tab m (1 : Fin 3))
        ∗ owns (Val := Elt F) (c : Thread nD τ) (Memref.whole main_v27) fullShare.right (tab m (2 : Fin 3))) := by
  have e0 := owns_whole (Ix := Unit) (Val := Elt F) (Name := ℕ) (U := UR sig nD τ) (Lvl := ℕ) (c : Thread nD τ) main_v19 fullShare.right (tab m (0 : Fin 3))
  have e1 := owns_whole (Ix := Unit) (Val := Elt F) (Name := ℕ) (U := UR sig nD τ) (Lvl := ℕ) (c : Thread nD τ) main_v21 fullShare.right (tab m (1 : Fin 3))
  have e2 := owns_whole (Ix := Unit) (Val := Elt F) (Name := ℕ) (U := UR sig nD τ) (Lvl := ℕ) (c : Thread nD τ) main_v27 fullShare.right (tab m (2 : Fin 3))
  refine Eq.trans ?_ (congr (congrArg BI.sep e0) (congr (congrArg BI.sep e1) e2)).symm
  unfold Pipeline.ΦT Pipeline.prefHeld
  exact bigSep_univ_eq_bigSepL [(0 : Fin 3), (1 : Fin 3), (2 : Fin 3)] (by decide) (by decide) _

/-- Window `w`'s staging buffer at point `t`. -/
abbrev st (w : Fin (C m).W) (t : Fin (C m).N) := ((C m).win w).stage ((C m).slots t w)

/-- The body's text at point `t`. -/
abbrev bodyAt (t : Fin (C m).N) : Prog (TpuEff nD τ sig (Elt F) Λ₀ .tc) PUnit :=
  cc0_moe_experts (F := F) (grid0.coords t) (Memref.whole main_v19) (Memref.isWhole_whole _) (Memref.whole main_v21) (Memref.isWhole_whole _)
    (Memref.whole main_v27) (Memref.isWhole_whole _) (st m 0 t) (hstage0_0 (((C m).slots t 0).cast nbuf0_0)) (st m 1 t) (hstage0_1 (((C m).slots t 1).cast nbuf0_1))
    (st m 2 t) (hstage0_2 (((C m).slots t 2).cast nbuf0_2)) (st m 3 t) (hstage0_3 (((C m).slots t 3).cast nbuf0_3))
    (st m 4 t) (hstage0_4 (((C m).slots t 4).cast nbuf0_4)) (st m 5 t) (hstage0_5 (((C m).slots t 5).cast nbuf0_5))
    (Memref.whole cc0_scratch0) (Memref.isWhole_whole _) (Memref.whole cc0_scratch1) (Memref.isWhole_whole _)

def bodyPre (c : Dev nD) (t : Fin (C m).N) : sProp 𝕄 :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d)))
def bodyPost (c : Dev nD) (t : Fin (C m).N) : sProp 𝕄 :=
  iprop((dats m 0 c).Φ t.succ ∗ (dats m 0 c).owesAt () t.succ
    ∗ owns (c : Thread nD τ) (st m 0 t) fullShare ((dats m 0 c).after 0 t)
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t))

/-- The used count's word. -/
theorem used_word (y : S1.Idx) : (tab m (1 : Fin 3)) y = nUsed (cntV m 0) := congrFun (tab_1 m) y

/-- The first-block table's word at the point. -/
theorem first_word (t : Fin (C m).N) (y : S288.Idx) (h : (y 0).val = ((grid0.coords t) 0).val) : (tab m (2 : Fin 3)) y = wordAt m t := by
  refine (congrFun (tab_2 m) y).trans ?_
  unfold wordAt
  refine congrArg (firstE (cntV m 0)) (funext fun a => ?_)
  match a with
  | ⟨0, _⟩ => exact Fin.ext (h.trans (coord m t))

theorem sound_body (c : Dev nD) (t : Fin (C m).N) :
    bodyPre m c t ⊢ wp frame (wpE (defs₀ (F := F)) Variants.none c none) Set.univ (bodyAt m t) (fun _ => bodyPost m c t) := by
  unfold bodyPre bodyPost
  simp only [before0_0, before0_1, before0_2, before0_3, before0_4]
  rw [after0_0, after0_1, after0_2, after0_3, after0_4, after0_5, phi_pre, phi_post]
  unfold Dat.owesAt Pipeline.owesWithin S
  rw [show (dats m 0 c).owed t.castSucc = 0 from rfl, show (dats m 0 c).owed t.succ = 0 from rfl, tabs_eq]
  iintro ⟨⟨Hg, ⟨T0, T1, T2⟩, ⟨%s0, %s1, %hs, S0, S1⟩⟩, ⟨%W, -, HW⟩, ⟨%d0, H0⟩, ⟨%d1, H1⟩, ⟨%d2, H2⟩, ⟨%d3, H3⟩, ⟨%d4, H4⟩, ⟨%d5, H5⟩⟩
  obtain ⟨e0, e1⟩ := refill_held m c t s0 s1 hs
  iapply wp_wand_r
  isplitl [T1 T2 H0 H1 H2 H3 H4 H5 S0 S1]
  · iapply (body_wp c (grid0.coords t) (Memref.whole main_v19) (Memref.isWhole_whole _) _ _ _ _ _ _ _ _ _ _ _ _ _ _ _ _ _ _ _ _
      fullShare.right (tab m (1 : Fin 3)) (tab m (2 : Fin 3)) (nUsed (cntV m 0)) (wordAt m t) (used_word m) (first_word m t)
      (iblk m c 0 t) (iblk m c 1 t) (iblk m c 2 t) (iblk m c 3 t) (iblk m c 4 t) _ s0 s1)
    isplitl [T1]; · iexact T1
    isplitl [T2]; · iexact T2
    isplitl [H0]; · iexact H0
    isplitl [H1]; · iexact H1
    isplitl [H2]; · iexact H2
    isplitl [H3]; · iexact H3
    isplitl [H4]; · iexact H4
    isplitl [H5]; · iexact H5
    isplitl [S0]; · iexact S0
    iexact S1
  rw [e0, e1]
  iintro %_ ⟨T1, T2, H0, H1, H2, H3, H4, H5, S0, S1⟩
  isplitl [Hg T0 T1 T2 S0 S1]
  · isplitl [Hg]; · iexact Hg
    isplitl [T0 T1 T2]
    · isplitl [T0]; · iexact T0
      isplitl [T1]; · iexact T1
      iexact T2
    iexists (held1 m c t)
    iexists (held2 m c t)
    isplitr; · ipureintro; exact fun _ => ⟨t, rfl, rfl, rfl⟩
    isplitl [S0]; · iexact S0
    iexact S1
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem defs₀_row (t : Fin (C m).N) :
    defs₀ (F := F) .tc (C m).body ((C m).bodyArgs t ((C m).slots t)) = bodyAt m t := by
  unfold defs₀; rw [Defs.onTc_tc]; rfl

/-- Every point writes its block: with zeros where it is past the used blocks. -/
theorem idle_5 (a : (pcfg0 (F := F)).Adm) (i : grid0.Coords) : idle0 a.1 5 i = false := by
  have key : ∀ n : BitVec 32, (!(k0_cond2 i n == 1#1) && !(k0_cond3 i n == 1#1)) = false := fun n => by
    have h := cond3_iff i n
    by_cases h2 : k0_cond2 i n = 1#1
    · rw [h2]; rfl
    · rw [h.2 h2]
      cases (k0_cond2 i n == 1#1) <;> rfl
  exact key _

theorem body_obligation (c : Dev nD) :
    BodyObligation (dats (F := F) m 0 c) (defs₀ (F := F)) Variants.none () Set.univ := fun t => by
  rw [bigSep_W0, bigSep_W0, defs₀_row]
  refine triple_restated (sound_body m c t) rfl .rfl fun _ => ?_
  dsimp only
  rw [idle_5 (adm m 0)]
  exact .rfl

/-! ## The run -/

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss
    ⟨hostOps0_sub, hostOps0_1_sub, hostOps0_2_sub, hostOps0_3_sub, hostOps0_4_sub, hostOps0_5_sub, hostOps0_6_sub⟩
    (by simp only [List.Forall]; repeat' constructor) (h := main_chain)

theorem hin (c : Dev nD) : iprop(Pipeline.ΦA spec0 c ∗ Pipeline.ΦT pre0 (adm m 0).1 c) ⊢ (dats m 0 c).Φ 0 := by
  rw [show (dats m 0 c).Φ 0 = S m c 0 from rfl, show (adm m 0).1 = tab m from rfl]
  unfold S Pipeline.ΦA
  rw [scopedRest0_eq]
  simp only [owns_whole]
  iintro ⟨⟨⟨⟨%s0, S0⟩, ⟨%s1, S1⟩⟩, Hg⟩, HT⟩
  isplitl [Hg]; · iexact Hg
  isplitl [HT]; · iexact HT
  iexists s0
  iexists s1
  isplitr; · ipureintro; exact fun h => absurd rfl h
  isplitl [S0]; · iexact S0
  iexact S1

theorem hout (c : Dev nD) : (dats m 0 c).Φ (Fin.last (C m).N) ⊢ Pipeline.ΦA spec0 c := by
  rw [show (dats m 0 c).Φ (Fin.last (C m).N) = S m c (C m).N from rfl]
  unfold S Pipeline.ΦA
  rw [scopedRest0_eq]
  simp only [owns_whole]
  iintro ⟨Hg, -, ⟨%s0, %s1, -, S0, S1⟩⟩
  isplitl [S0 S1]
  · isplitl [S0]
    · iexists s0; iexact S0
    · iexists s1; iexact S1
  · iexact Hg

set_option backward.isDefEq.respectTransparency.types false in
theorem run_main :
    θ_run defs (onTc (τ := τ) (main (F := F))) (s₀ m ρ)
      (fun r => Pipeline.FramePost (Pipeline.pin pcfgs (adm m)) (dats m) 0 (V m) r ∧ r.2.sem = fun _ => 0) :=
  Pipeline.θ_run_frameP_track (Q' := _) pcfgs (adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hpf := fun c k => by rw [Subsingleton.elim c 0]; rfl) (hin := hin m) (hout := hout m)

end Cert.Experts

end
-- ==== Proof.ExpertsValue.lean ====
/-
  What the experts program's run ends with: its result block by block, every argument as launched.
-/
module

public import proofs.«01_k».proof.Proof.ExpertsRun
public import Idealize.ShloMosaic.Lib.Pipeline.Value

@[expose] public section

noncomputable section

namespace Cert.Experts

open Cert.Kernel2Ideal Cert.Kernel2Ideal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The point whose block holds a row. -/
def pointOf (r : Fin 147456) : Fin (C m).N := ⟨r.val / 512, by rw [N_C]; have := r.isLt; omega⟩

/-- A row's place in its block. -/
def placeOf (r : Fin 147456) : Fin 512 := ⟨r.val % 512, Nat.mod_lt _ (by decide)⟩

/-- The result: every row off its block. -/
def rows (c : Dev nD) : S147456x1024.Idx → F .f32 := fun i => blockAt m c (pointOf m (i 0)) (ix2 (n1 := 1024) (placeOf (i 0)) (i 1))

theorem rows_at (c : Dev nD) (t : Fin (C m).N) (y : S512x1024.Idx) (i : S147456x1024.Idx) (h0 : (i 0).val = 512 * t.val + (y 0).val)
    (h1 : (i 1).val = (y 1).val) : rows m c i = blockAt m c t y := by
  have hy : (y 0).val < 512 := (y 0).isLt
  unfold rows
  have et : pointOf m (i 0) = t := Fin.ext (by show (i 0).val / 512 = t.val; omega)
  rw [et]
  refine congrArg (blockAt m c t) (funext fun a => ?_)
  match a with
  | ⟨0, _⟩ => exact Fin.ext (by show (i 0).val % 512 = (y 0).val; omega)
  | ⟨1, _⟩ => exact Fin.ext h1

theorem row_5 (a : (pcfg0 (F := F)).Adm) (t : Fin (cfg0 a).N) :
    ((cfg0 a).win 5).index t = ![(BitVec.ofNat 32 ((grid0.coords t) 0).val).toNat, 0] := rfl

theorem index_5 (t : Fin (C m).N) : ((C m).win 5).index t = ![t.val, 0] := by
  refine (row_5 (adm m 0) t).trans (congrArg (fun z : ℕ => (![z, 0] : Fin 2 → ℕ)) ?_)
  have := point_lt m t
  rw [coord, BitVec.toNat_ofNat]
  omega

theorem flush_all (t : Fin (C m).N) : ((C m).win 5).flush t = true := by
  rw [Pipeline.Window.flush_out _ rfl]
  by_cases h : t.val + 1 = (C m).N
  · exact .inl h
  · refine .inr ⟨lt_of_le_of_ne t.isLt h, fun e => ?_⟩
    rw [index_5, index_5] at e
    have e0 : t.val + 1 = t.val := congrFun e (0 : Fin 2)
    omega

/-- Where an element of the result's block sits. -/
theorem block_5 (t : Fin (C m).N) (y : S512x1024.Idx) (a : Fin 2) :
    (((((C m).win 5).rect t).emb y) a).val = match a with | ⟨0, _⟩ => 512 * t.val + (y 0).val | ⟨1, _⟩ => (y 1).val := by
  rw [Pipeline.Window.rect_emb_val ((C m).win 5) t y a, index_5 m t]
  match a with
  | ⟨0, _⟩ => show t.val * 512 + (y 0).val = 512 * t.val + (y 0).val; omega
  | ⟨1, _⟩ => show 0 * 1024 + (y 1).val = (y 1).val; omega

theorem covered_at (t : Fin (C m).N) (y : S512x1024.Idx) (i : S147456x1024.Idx) (h0 : 512 * t.val + (y 0).val = (i 0).val)
    (h1 : (y 1).val = (i 1).val) : i ∈ (((C m).win 5).blk t).view.set := by
  have e : ((((C m).win 5).rect t).emb y) = i := by
    refine funext fun (a : Fin 2) => Fin.ext ((block_5 m t y a).trans ?_)
    match a with
    | ⟨0, _⟩ => exact h0
    | ⟨1, _⟩ => exact h1
  rw [← e]
  exact View.emb_mem_set (v := (((C m).win 5).blk t).view) y

theorem covered (i : S147456x1024.Idx) : ∃ t : Fin (C m).N, ((C m).win 5).flush t = true ∧ i ∈ (((C m).win 5).blk t).view.set :=
  ⟨pointOf m (i 0), flush_all m _, covered_at m _ (ix2 (n1 := 1024) (placeOf (i 0)) (i 1)) i
    (by show 512 * ((i 0).val / 512) + (i 0).val % 512 = (i 0).val; omega) rfl⟩

theorem final_5 (c : Dev nD) : (dats m 0 c).arrAt 5 (C m).N = rows m c := by
  refine (dats m 0 c).arrAt_eq_of_cover 5 (rows m c) (fun t _ => funext fun y => ?_) (covered m)
  show (dats m 0 c).after 5 t y = rows m c ((((C m).win 5).rect t).emb y)
  rw [after0_5]
  exact (rows_at m c t y _ (block_5 m t y (0 : Fin 2)) (block_5 m t y (1 : Fin 2))).symm

theorem rest_0 : main_arg0 ∈ Pipeline.restRefs sig spec0 := by decide
theorem rest_3 : main_arg3 ∈ Pipeline.restRefs sig spec0 := by decide
theorem rest_5 : main_arg5 ∈ Pipeline.restRefs sig spec0 := by decide

/-! ## The arguments the grid does not stage -/

set_option maxHeartbeats 4000000 in
theorem V_arg0 (c : Dev nD) : V m c main_arg0 = m ((c : Thread nD τ).loc main_arg0) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp

set_option maxHeartbeats 4000000 in
theorem V_arg3 (c : Dev nD) : V m c main_arg3 = m ((c : Thread nD τ).loc main_arg3) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp

set_option maxHeartbeats 4000000 in
theorem V_arg5 (c : Dev nD) : V m c main_arg5 = m ((c : Thread nD τ).loc main_arg5) := by
  unfold V opss hostOps0 hostOps0_1 hostOps0_2 hostOps0_3 hostOps0_4 hostOps0_5 hostOps0_6
  simp only [StableHlo.TRef.binary, StableHlo.TRef.nullary, StableHlo.TRef.ternary, StableHlo.TRef.unary, StableHlo.TRef.toBuf,
    StableHlo.TRef.ofBuf, cast_eq, List.flatten_cons, List.flatten_nil, List.append_nil, List.cons_append, List.nil_append]
  after_results_simp

/-- The run at every float instance: the result is the blocks', the arguments are unchanged and every counter is back at
    zero. -/
theorem run :
    θ_run defs (onTc (τ := τ) (main (F := F))) ⟨m, fun _ => 0, ρ⟩ (fun r => (∀ c : Dev nD,
      r.2.mem ((c : Thread nD τ).loc main_v30) = rows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) := by
  refine (θ_run defs _ _).mono (fun r h => ⟨fun c => ⟨?_, ?_, ?_, ?_, ?_, ?_, ?_⟩, h.2⟩) (run_main m ρ)
  · exact ((h.1 c).1 5).trans (final_5 m c)
  · exact ((h.1 c).2 main_arg0 rest_0).trans (V_arg0 m c)
  · exact ((h.1 c).1 0).trans (((dats m 0 c).arrAt_in 0 rfl _).trans ((A_eq m c 0).trans (V_arg1 m c)))
  · exact ((h.1 c).1 1).trans (((dats m 0 c).arrAt_in 1 rfl _).trans ((A_eq m c 1).trans (V_arg2 m c)))
  · exact ((h.1 c).2 main_arg3 rest_3).trans (V_arg3 m c)
  · exact ((h.1 c).1 3).trans (((dats m 0 c).arrAt_in 3 rfl _).trans ((A_eq m c 3).trans (V_arg4 m c)))
  · exact ((h.1 c).2 main_arg5 rest_5).trans (V_arg5 m c)

end Cert.Experts

end
-- ==== Proof.ExpertsBlock.lean ====
/-
  One element of a block of the experts' result, in exact arithmetic: the row through its block's expert, or zero in a block
  past the last used one.
-/
module

public import proofs.«01_k».proof.Proof.ExpertsSpec
public import proofs.«01_k».proof.Proof.ExpertsValue

@[expose] public section

noncomputable section

namespace Cert.Experts

open Cert.Kernel2Ideal Cert.Kernel2Ideal.Gen
open Idealize.ShloMosaic Idealize.ShloMosaic.TcCoe

/-! ## The block's operations in stages -/

/-- The first layer of a block. -/
def blkMid (x : FVec Ideal S512x1024 .f32) (a : FVec Ideal S1024x2048 .bf16) (b : FVec Ideal S1x1x2048 .f32) : FVec Ideal S512x2048 .f32 :=
  addf (matmul dot_S512x1024_S1024x2048_S512x2048_1_0_0_1_n_n none (truncf .bf16 x bitsLt_bf16_f32) a (constant S512x2048 .f32 0x00000000#32))
    (broadcastTo S512x2048 (shapeCast S1x2048 b shapeCasts_S1x1x2048_S1x2048) broadcasts_S1x2048_S512x2048)

/-- The activation of a block. -/
def blkAct (g : FVec Ideal S512x2048 .f32) : FVec Ideal S512x1024 .f32 := fun i =>
  gated (extractStridedSlice S512x1024 ![0, 0] g slices_S512x2048_o0_0_S512x1024 i)
    (extractStridedSlice S512x1024 ![0, 1024] g slices_S512x2048_o0_1024_S512x1024 i)

/-- The second layer of a block. -/
def blkDown (h : FVec Ideal S512x1024 .f32) (a : FVec Ideal S1024x1024 .bf16) (b : FVec Ideal S1x1x1024 .f32) : FVec Ideal S512x1024 .f32 :=
  addf (matmul dot_S512x1024_S1024x1024_S512x1024_1_0_0_1_n_n none (truncf .bf16 h bitsLt_bf16_f32) a (constant S512x1024 .f32 0x00000000#32))
    (broadcastTo S512x1024 (shapeCast S1x1024 b shapeCasts_S1x1x1024_S1x1024) broadcasts_S1x1024_S512x1024)

theorem pay3_eq (x : FVec Ideal S512x1024 .f32) (a : FVec Ideal S1024x2048 .bf16) (bgu : FVec Ideal S1x1x2048 .f32)
    (b : FVec Ideal S1024x1024 .bf16) (bd : FVec Ideal S1x1x1024 .f32) :
    k0_pay3 (F := Ideal) x a bgu b bd = blkDown (blkAct (blkMid x a bgu)) b bd := by
  unfold k0_pay3 blkDown
  dsimp only
  congr 1

/-- Two middle coordinates of one are one. -/
theorem unit_apply {N : ℕ} (v : (⟨3, ![1, 1, N]⟩ : Shape).Idx → EReal) (h : (⟨3, ![1, 1, N]⟩ : Shape).ShapeCasts ⟨2, ![1, N]⟩) (j : Fin N) :
    shapeCast ⟨2, ![1, N]⟩ v h (ix2 (0 : Fin 1) j) = v (ix3 (0 : Fin 1) (0 : Fin 1) j) := by
  refine shapeCast_apply _ _ _ _ ?_
  rw [Shape.rowMajor_val_three, Shape.rowMajor_val_two]
  rfl

theorem blkMid_apply (x : FVec Ideal S512x1024 .f32) (a : FVec Ideal S1024x2048 .bf16) (b : FVec Ideal S1x1x2048 .f32) (p : Fin 512) (j : Fin 2048) :
    blkMid x a b (ix2 p j) = (∑ k : Fin 1024, x (ix2 p k) * a (ix2 k j)) + b (ix3 (0 : Fin 1) (0 : Fin 1) j) := by
  refine congrArg₂ (fun a b : EReal => a + b) ?_ ?_
  · simp only [matmul]
    rw [Ideal.matmul_constant_zero_apply]
    exact rows_sum (M := 512) (K := 1024) (N := 2048) dot_S512x1024_S1024x2048_S512x2048_1_0_0_1_n_n.wf _ _ p j
  · refine (broadcastTo_apply _ _ _ (ix2 (0 : Fin 1) j) (fun a => by match a with | ⟨0, _⟩ => rfl | ⟨1, _⟩ => rfl)).trans ?_
    exact unit_apply b _ j

theorem blkDown_apply (h : FVec Ideal S512x1024 .f32) (a : FVec Ideal S1024x1024 .bf16) (b : FVec Ideal S1x1x1024 .f32) (p : Fin 512) (q : Fin 1024) :
    blkDown h a b (ix2 p q) = (∑ k : Fin 1024, h (ix2 p k) * a (ix2 k q)) + b (ix3 (0 : Fin 1) (0 : Fin 1) q) := by
  refine congrArg₂ (fun a b : EReal => a + b) ?_ ?_
  · simp only [matmul]
    rw [Ideal.matmul_constant_zero_apply]
    exact rows_sum (M := 512) (K := 1024) (N := 1024) dot_S512x1024_S1024x1024_S512x1024_1_0_0_1_n_n.wf _ _ p q
  · refine (broadcastTo_apply _ _ _ (ix2 (0 : Fin 1) q) (fun a => by match a with | ⟨0, _⟩ => rfl | ⟨1, _⟩ => rfl)).trans ?_
    exact unit_apply b _ q

theorem blkAct_apply (g : FVec Ideal S512x2048 .f32) (p : Fin 512) (k : Fin 1024) :
    blkAct g (ix2 p k) = gated (g (ix2 p (lo k))) (g (ix2 p (hi k))) := by
  refine congrArg₂ gated ?_ ?_
  · exact extractStridedSlice_apply _ _ _ _ _ (fun a => by
      match a with
      | ⟨0, _⟩ => show p.val = 0 + p.val; omega
      | ⟨1, _⟩ => show k.val = 0 + k.val; omega)
  · exact extractStridedSlice_apply _ _ _ _ _ (fun a => by
      match a with
      | ⟨0, _⟩ => show p.val = 0 + p.val; omega
      | ⟨1, _⟩ => rfl)

/-! ## The staged blocks -/

variable (m : (ℓ : Loc nD τ sig) → Buf (Elt Ideal) ℓ)

/-- The rows, the weights and the biases as launched. -/
abbrev aX (c : Dev nD) : (⟨2, ![147456, 1024]⟩ : Shape).Idx → EReal := m ((c : Thread nD τ).loc main_arg1)
abbrev aW (c : Dev nD) : (⟨3, ![32, 1024, 2048]⟩ : Shape).Idx → EReal := m ((c : Thread nD τ).loc main_arg2)
abbrev aB (c : Dev nD) : (⟨2, ![32, 2048]⟩ : Shape).Idx → EReal := m ((c : Thread nD τ).loc main_arg3)
abbrev aWd (c : Dev nD) : (⟨3, ![32, 1024, 1024]⟩ : Shape).Idx → EReal := m ((c : Thread nD τ).loc main_arg4)
abbrev aBd (c : Dev nD) : (⟨2, ![32, 1024]⟩ : Shape).Idx → EReal := m ((c : Thread nD τ).loc main_arg5)

/-- A unit axis in the middle. -/
theorem middle_apply {N : ℕ} (v : (⟨2, ![32, N]⟩ : Shape).Idx → EReal) (h : (⟨2, ![32, N]⟩ : Shape).ShapeCasts ⟨3, ![32, 1, N]⟩) (e : Fin 32)
    (z : Fin 1) (j : Fin N) : shapeCast ⟨3, ![32, 1, N]⟩ v h (ix3 e z j) = v (ix2 e j) := by
  refine shapeCast_apply _ _ _ _ ?_
  rw [Shape.rowMajor_val_three, Shape.rowMajor_val_two]
  have hz : z.val = 0 := by omega
  show e.val * N + j.val = (e.val * 1 + z.val) * N + j.val
  rw [hz, Nat.mul_one, Nat.add_zero]

/-- A leading unit axis dropped. -/
theorem lead_apply {K N : ℕ} (v : (⟨3, ![1, K, N]⟩ : Shape).Idx → EReal) (h : (⟨3, ![1, K, N]⟩ : Shape).ShapeCasts ⟨2, ![K, N]⟩) (k : Fin K)
    (j : Fin N) : shapeCast ⟨2, ![K, N]⟩ v h (ix2 k j) = v (ix3 (0 : Fin 1) k j) := by
  refine shapeCast_apply _ _ _ _ ?_
  rw [Shape.rowMajor_val_three, Shape.rowMajor_val_two]
  show (0 * K + k.val) * N + j.val = k.val * N + j.val
  rw [Nat.zero_mul, Nat.zero_add]

theorem pay1_apply (v : FVec Ideal S1x1024x2048 .f32) (k : Fin 1024) (j : Fin 2048) :
    k0_pay1 (F := Ideal) v (ix2 k j) = v (ix3 (0 : Fin 1) k j) := by
  unfold k0_pay1
  rw [shapeCast_self]
  exact lead_apply v shapeCasts_S1x1024x2048_S1024x2048 k j

theorem pay2_apply (v : FVec Ideal S1x1024x1024 .f32) (k : Fin 1024) (q : Fin 1024) :
    k0_pay2 (F := Ideal) v (ix2 k q) = v (ix3 (0 : Fin 1) k q) := by
  unfold k0_pay2
  rw [shapeCast_self]
  exact lead_apply v shapeCasts_S1x1024x1024_S1024x1024 k q

theorem held1_apply (c : Dev nD) (t : Fin (C m).N) (k : Fin 1024) (j : Fin 2048) :
    held1 m c t (ix2 k j) = aW m c (ix3 (expT m t) k j) :=
  (pay1_apply (iblk m c 1 t) k j).trans ((iblk_1 m c t _).trans (congrFun (V_arg2 m c) _))

theorem held2_apply (c : Dev nD) (t : Fin (C m).N) (k : Fin 1024) (q : Fin 1024) :
    held2 m c t (ix2 k q) = aWd m c (ix3 (expT m t) k q) :=
  (pay2_apply (iblk m c 3 t) k q).trans ((iblk_3 m c t _).trans (congrFun (V_arg4 m c) _))

theorem bias1_apply (c : Dev nD) (t : Fin (C m).N) (j : Fin 2048) :
    iblk m c 2 t (ix3 (0 : Fin 1) (0 : Fin 1) j) = aB m c (ix2 (expT m t) j) := by
  refine (iblk_2 m c t _).trans ((congrFun (V_v28 m c) _).trans ?_)
  exact middle_apply (aB m c) shapeCasts_S32x2048_S32x1x2048 (expT m t) 0 j

theorem bias2_apply (c : Dev nD) (t : Fin (C m).N) (q : Fin 1024) :
    iblk m c 4 t (ix3 (0 : Fin 1) (0 : Fin 1) q) = aBd m c (ix2 (expT m t) q) := by
  refine (iblk_4 m c t _).trans ((congrFun (V_v29 m c) _).trans ?_)
  exact middle_apply (aBd m c) shapeCasts_S32x1024_S32x1x1024 (expT m t) 0 q

theorem x_apply (c : Dev nD) (t : Fin (C m).N) (p : Fin 512) (r : Fin 147456) (hr : r.val = 512 * t.val + p.val) (k : Fin 1024) :
    iblk m c 0 t (ix2 p k) = aX m c (ix2 r k) := iblk_0 m c t (ix2 p k) r hr

/-- The block's rows through its expert. -/
theorem pay3_apply (c : Dev nD) (t : Fin (C m).N) (p : Fin 512) (r : Fin 147456) (hr : r.val = 512 * t.val + p.val) (q : Fin 1024) :
    k0_pay3 (F := Ideal) (iblk m c 0 t) (held1 m c t) (iblk m c 2 t) (held2 m c t) (iblk m c 4 t) (ix2 p q)
      = value (aX m c) (aW m c) (aB m c) (aWd m c) (aBd m c) r (expT m t) q := by
  have hmid : ∀ j : Fin 2048, blkMid (iblk m c 0 t) (held1 m c t) (iblk m c 2 t) (ix2 p j) = mid (aX m c) (aW m c) (aB m c) r (expT m t) j := by
    intro j
    refine (blkMid_apply _ _ _ p j).trans (congrArg₂ (fun a b : EReal => a + b) (Finset.sum_congr rfl fun k _ => ?_) (bias1_apply m c t j))
    exact congrArg₂ (fun a b : EReal => a * b) (x_apply m c t p r hr k) (held1_apply m c t k j)
  refine (congrFun (pay3_eq _ _ _ _ _) _).trans ((blkDown_apply _ _ _ p q).trans ?_)
  refine congrArg₂ (fun a b : EReal => a + b) (Finset.sum_congr rfl fun k _ => ?_) (bias2_apply m c t q)
  refine congrArg₂ (fun a b : EReal => a * b) ((blkAct_apply _ p k).trans ?_) (held2_apply m c t k q)
  exact congrArg₂ gated (hmid _) (hmid _)

end Cert.Experts

end
-- ==== Proof.ExpertsRef.lean ====
/-
  The experts' reference read at one element: the row's expert by counting, its weights by look-up, the two products and the
  activation; zero past the last segment.
-/
module

public import proofs.«01_k».proof.Proof.ExpertsSpec
public import proofs.«01_k».proof.Proof.ExpertsNat
public import proofs.«01_k».proof.Proof.Gen.Reference2Ideal.Run

@[expose] public section

noncomputable section

namespace Cert.Experts

open Cert.Reference2Ideal Cert.Reference2Ideal.Gen
open Idealize.ShloMosaic Idealize.ShloMosaic.TcCoe

/-! ## The reference in stages -/

section
variable {F : FTy → Type} [FloatOps F]

/-- The counts rounded up to whole blocks, as the reference's operations have them. -/
def refPadded (cnt : S32.Idx → BitVec 32) : S32.Idx → BitVec 32 :=
  let v3 := subi (addi cnt (broadcastInDim S32 ![] bcast_S_S32 (constantI S_ 32 512#32))) (broadcastInDim S32 ![] bcast_S_S32 (constantI S_ 32 1#32))
  muli (select (andi (cmpi .ne (signi v3) (broadcastInDim S32 ![] bcast_S_S32 (signi (id (constantI S_ 32 512#32)))))
      (cmpi .ne (Host.remsi v3 (broadcastInDim S32 ![] bcast_S_S32 (id (constantI S_ 32 512#32)))) (broadcastInDim S32 ![] bcast_S_S32 (constantI S_ 32 0#32))))
    (subi (Host.divsi v3 (broadcastInDim S32 ![] bcast_S_S32 (id (constantI S_ 32 512#32)))) (broadcastInDim S32 ![] bcast_S_S32 (constantI S_ 32 1#32)))
    (Host.divsi v3 (broadcastInDim S32 ![] bcast_S_S32 (id (constantI S_ 32 512#32))))) (broadcastInDim S32 ![] bcast_S_S32 (constantI S_ 32 512#32))

/-- Where each expert's segment ends. -/
def refEnd (cnt : S32.Idx → BitVec 32) : S32.Idx → BitVec 32 :=
  Host.reduceWindow IntOp.addi ![32] ![1] ![31] ![0] (refPadded cnt) (broadcastInDim S_ ![] bcast_S_S_ (constantI S_ 32 0#32))
    reduceWindows_S32_S32_w32s1p31_0 h_S_

theorem refEnd_eq (cnt : S32.Idx → BitVec 32) : refEnd cnt = padEnd cnt := rfl

/-- Each row's expert. -/
def refExpert (pe : S32.Idx → BitVec 32) : S147456.Idx → BitVec 32 :=
  minsi (Host.reduce IntOp.addi (extui 32 (cmpi .sle (broadcastInDim S147456x32 ![0, 1] bcast_S1x32_S147456x32_0_1 (broadcastInDim S1x32 ![1] bcast_S32_S1x32_1 pe))
      (broadcastInDim S147456x32 ![0, 1] bcast_S147456x1_S147456x32_0_1 (broadcastInDim S147456x1 ![0] bcast_S147456_S147456x1_0 (iotaInDim S147456 32 0)))) natLt_1_32)
    (constantI S_ 32 0#32) reducesTo_S147456x32_S147456_d1 h_S_) (broadcastInDim S147456 ![] bcast_S_S147456 (constantI S_ 32 31#32))

/-- The look-ups' index: a negative one would count from the end. -/
def refIdx (e : S147456.Idx → BitVec 32) : S147456x1.Idx → BitVec 32 :=
  broadcastInDim S147456x1 ![0] bcast_S147456_S147456x1_0 (select (cmpi .slt e (broadcastInDim S147456 ![] bcast_S_S147456 (constantI S_ 32 0#32)))
    (addi e (broadcastInDim S147456 ![] bcast_S_S147456 (constantI S_ 32 32#32))) e)

/-- The first layer. -/
def refMid (x : FVec F S147456x1024 .f32) (w : FVec F S32x1024x2048 .f32) (b : FVec F S32x2048 .f32) (idx : S147456x1.Idx → BitVec 32) :
    FVec F S147456x2048 .f32 :=
  addf (Host.dotGeneral dot_S147456x1024_S147456x1024x2048_S147456x2048_1_1_n_2_0_0 none x
      (Host.gather gather_S32x1024x2048_S147456x1_S147456x1024x2048_12_0_n_n_0_1_110242048 w idx))
    (Host.gather gather_S32x2048_S147456x1_S147456x2048_1_0_n_n_0_1_12048 b idx)

/-- The activation. -/
def refAct (g : FVec F S147456x2048 .f32) : FVec F S147456x1024 .f32 :=
  mulf (mulf (minimumf (extractStridedSlice S147456x1024 ![0, 0] g slices_S147456x2048_S147456x1024_0_0) (broadcastInDim S147456x1024 ![] bcast_S_S147456x1024 (constant S_ .f32 0x40E00000#32)))
      (Host.divf (broadcastInDim S147456x1024 ![] bcast_S_S147456x1024 (constant S_ .f32 0x3F800000#32))
        (addf (broadcastInDim S147456x1024 ![] bcast_S_S147456x1024 (constant S_ .f32 0x3F800000#32))
          (Host.exp (Host.negf (mulf (broadcastInDim S147456x1024 ![] bcast_S_S147456x1024 (constant S_ .f32 0x3FD9DB23#32))
            (minimumf (extractStridedSlice S147456x1024 ![0, 0] g slices_S147456x2048_S147456x1024_0_0) (broadcastInDim S147456x1024 ![] bcast_S_S147456x1024 (constant S_ .f32 0x40E00000#32)))))))))
    (addf (minimumf (broadcastInDim S147456x1024 ![] bcast_S_S147456x1024 (id (constant S_ .f32 0x40E00000#32)))
      (maximumf (broadcastInDim S147456x1024 ![] bcast_S_S147456x1024 (id (constant S_ .f32 0xC0E00000#32)))
        (extractStridedSlice S147456x1024 ![0, 1024] g slices_S147456x2048_S147456x1024_0_1024)))
      (broadcastInDim S147456x1024 ![] bcast_S_S147456x1024 (constant S_ .f32 0x3F800000#32)))

/-- The second layer. -/
def refDown (h : FVec F S147456x1024 .f32) (wd : FVec F S32x1024x1024 .f32) (bd : FVec F S32x1024 .f32) (idx : S147456x1.Idx → BitVec 32) :
    FVec F S147456x1024 .f32 :=
  addf (Host.dotGeneral dot_S147456x1024_S147456x1024x1024_S147456x1024_1_1_n_2_0_0 none h
      (Host.gather gather_S32x1024x1024_S147456x1_S147456x1024x1024_12_0_n_n_0_1_110241024 wd idx))
    (Host.gather gather_S32x1024_S147456x1_S147456x1024_1_0_n_n_0_1_11024 bd idx)

/-- Which elements lie in a segment. -/
def refUsed (pe : S32.Idx → BitVec 32) : S147456x1024.Idx → BitVec 1 :=
  broadcastInDim S147456x1024 ![0, 1] bcast_S147456x1_S147456x1024_0_1 (broadcastInDim S147456x1 ![0] bcast_S147456_S147456x1_0
    (cmpi .slt (iotaInDim S147456 32 0) (broadcastInDim S147456 ![] bcast_S_S147456 (shapeCast S_ (extractStridedSlice S1 ![31] pe slices_S32_S1_31) shapeCasts_S1_S_))))

/-- The whole. -/
def refOut (cnt : S32.Idx → BitVec 32) (x : FVec F S147456x1024 .f32) (w : FVec F S32x1024x2048 .f32) (b : FVec F S32x2048 .f32)
    (wd : FVec F S32x1024x1024 .f32) (bd : FVec F S32x1024 .f32) : FVec F S147456x1024 .f32 :=
  select (refUsed (refEnd cnt)) (refDown (refAct (refMid x w b (refIdx (refExpert (refEnd cnt))))) wd bd (refIdx (refExpert (refEnd cnt))))
    (broadcastInDim S147456x1024 ![] bcast_S_S147456x1024 (id (constant S_ .f32 0x00000000#32)))

theorem res_eq (m : (ℓ : Loc nD τ sig) → Buf (Elt F) ℓ) (c : Dev nD) :
    Value.res_main_v72 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_main_v72 refOut refUsed refDown refAct refMid refIdx refExpert refEnd refPadded
  rfl

end

/-! ## The integers -/

/-- A row's index. -/
abbrev atRow (r : Fin 147456) : S147456.Idx := fun | ⟨0, _⟩ => r

theorem row_spread (pe : S32.Idx → BitVec 32) (u : S147456.Idx → BitVec 32) :
    cmpi .sle (broadcastInDim S147456x32 ![0, 1] bcast_S1x32_S147456x32_0_1 (broadcastInDim S1x32 ![1] bcast_S32_S1x32_1 pe))
      (broadcastInDim S147456x32 ![0, 1] bcast_S147456x1_S147456x32_0_1 (broadcastInDim S147456x1 ![0] bcast_S147456_S147456x1_0 u))
    = fun p : S147456x32.Idx => IntOp.cmpi .sle (pe (at32 (p 1))) (u (atRow (p 0))) := by
  funext p
  have e1 : broadcastInDim S147456x32 ![0, 1] bcast_S1x32_S147456x32_0_1 (broadcastInDim S1x32 ![1] bcast_S32_S1x32_1 pe) p
      = pe (at32 (p 1)) :=
    (broadcastInDim_apply _ _ _ p (ix2 (n0 := 1) (n1 := 32) 0 (p 1)) (fun a => by match a with | ⟨0, _⟩ => rfl | ⟨1, _⟩ => rfl)).trans
      (broadcastInDim_apply _ _ _ _ (at32 (p 1)) (fun a => by match a with | ⟨0, _⟩ => rfl))
  have e2 : broadcastInDim S147456x32 ![0, 1] bcast_S147456x1_S147456x32_0_1 (broadcastInDim S147456x1 ![0] bcast_S147456_S147456x1_0 u) p
      = u (atRow (p 0)) :=
    (broadcastInDim_apply _ _ _ p (ix2 (n0 := 147456) (n1 := 1) (p 0) 0) (fun a => by match a with | ⟨0, _⟩ => rfl | ⟨1, _⟩ => rfl)).trans
      (broadcastInDim_apply _ _ _ _ (atRow (p 0)) (fun a => by match a with | ⟨0, _⟩ => rfl))
  show IntOp.cmpi .sle _ _ = _
  rw [e1, e2]

theorem refExpert_toNat (pe : S32.Idx → BitVec 32) (r : Fin 147456) :
    (refExpert pe (atRow r)).toNat = expert pe (BitVec.ofNat 32 r.val) := by
  unfold refExpert
  rw [row_spread]
  have e := StableHlo.Predicate.toNat_reduce_count_cols (n := 147456) (m := 32) (by decide)
    (fun p : S147456x32.Idx => IntOp.cmpi .sle (pe (at32 (p 1))) (iotaInDim S147456 32 0 (atRow (p 0)))) natLt_1_32
    reducesTo_S147456x32_S147456_d1 h_S_ (atRow r)
  refine (toNat_min31 _ ?_).trans ?_
  · rw [e]
    exact (Finset.card_le_univ _).trans (by simp)
  · rw [e]
    rfl

theorem refIdx_toInt (pe : S32.Idx → BitVec 32) (r : Fin 147456) :
    (refIdx (refExpert pe) (ix2 (n0 := 147456) r (0 : Fin 1))).toInt = expert pe (BitVec.ofNat 32 r.val) := by
  have hn := refExpert_toNat pe r
  have hl := expert_lt pe (BitVec.ofNat 32 r.val)
  revert hn
  unfold refIdx
  generalize refExpert pe = g
  intro hn
  have e : (g (atRow r)).toInt = expert pe (BitVec.ofNat 32 r.val) := by
    rw [StableHlo.Predicate.toInt_eq_toNat_of_lt (by omega), hn]
  rw [broadcastInDim_apply _ _ _ _ (atRow r) (fun a => by match a with | ⟨0, _⟩ => rfl)]
  show (if IntOp.cmpi .slt (g (atRow r)) 0#32 = 1#1 then IntOp.addi (g (atRow r)) 32#32 else g (atRow r)).toInt = _
  rw [if_neg (by rw [slt_iff, e]; have : (0#32 : BitVec 32).toInt = 0 := by decide
                 omega), e]

theorem refUsed_apply (pe : S32.Idx → BitVec 32) (r : Fin 147456) (q : Fin 1024) :
    refUsed pe (ix2 r q) = IntOp.cmpi .slt (BitVec.ofNat 32 r.val) (pe (at32 31)) := by
  unfold refUsed
  rw [broadcastInDim_apply _ _ _ _ (ix2 (n0 := 147456) (n1 := 1) r 0) (fun a => by match a with | ⟨0, _⟩ => rfl | ⟨1, _⟩ => rfl),
    broadcastInDim_apply _ _ _ _ (atRow r) (fun a => by match a with | ⟨0, _⟩ => rfl)]
  refine congrArg (IntOp.cmpi .slt (BitVec.ofNat 32 r.val)) ?_
  refine (broadcastInDim_apply _ _ _ _ (fun a => a.elim0) (fun a => a.elim0)).trans ?_
  rw [shapeCast_apply _ _ _ at1 (by rfl)]
  exact extractStridedSlice_apply _ _ _ _ _ (fun a => by match a with | ⟨0, _⟩ => rfl)

/-! ## The floats -/

theorem refMid_apply (x : FVec Ideal S147456x1024 .f32) (w : FVec Ideal S32x1024x2048 .f32) (b : FVec Ideal S32x2048 .f32)
    (idx : S147456x1.Idx → BitVec 32) (r : Fin 147456) (e : Fin 32) (he : (idx (ix2 (n0 := 147456) r (0 : Fin 1))).toInt = e.val) (j : Fin 2048) :
    refMid x w b idx (ix2 r j) = mid x w b r e j := by
  refine congrArg₂ (fun a b : EReal => a + b) ?_ ?_
  · unfold Host.dotGeneral
    rw [Ideal.dotGeneral_apply]
    refine (own_sum (B := 147456) (K := 1024) (N := 2048) dot_S147456x1024_S147456x1024x2048_S147456x2048_1_1_n_2_0_0.wf _ _ r j).trans ?_
    refine Finset.sum_congr rfl fun k _ => congrArg (fun z => x (ix2 r k) * z) ?_
    exact takeMat_apply gather_S32x1024x2048_S147456x1_S147456x1024x2048_12_0_n_n_0_1_110242048.wf w idx r k j e he
  · exact takeRow_apply gather_S32x2048_S147456x1_S147456x2048_1_0_n_n_0_1_12048.wf b idx r j e he

theorem refDown_apply (h : FVec Ideal S147456x1024 .f32) (wd : FVec Ideal S32x1024x1024 .f32) (bd : FVec Ideal S32x1024 .f32)
    (idx : S147456x1.Idx → BitVec 32) (r : Fin 147456) (e : Fin 32) (he : (idx (ix2 (n0 := 147456) r (0 : Fin 1))).toInt = e.val) (q : Fin 1024) :
    refDown h wd bd idx (ix2 r q) = (∑ k : Fin 1024, h (ix2 r k) * wd (ix3 e k q)) + bd (ix2 e q) := by
  refine congrArg₂ (fun a b : EReal => a + b) ?_ ?_
  · unfold Host.dotGeneral
    rw [Ideal.dotGeneral_apply]
    refine (own_sum (B := 147456) (K := 1024) (N := 1024) dot_S147456x1024_S147456x1024x1024_S147456x1024_1_1_n_2_0_0.wf _ _ r q).trans ?_
    refine Finset.sum_congr rfl fun k _ => congrArg (fun z => h (ix2 r k) * z) ?_
    exact takeMat_apply gather_S32x1024x1024_S147456x1_S147456x1024x1024_12_0_n_n_0_1_110241024.wf wd idx r k q e he
  · exact takeRow_apply gather_S32x1024_S147456x1_S147456x1024_1_0_n_n_0_1_11024.wf bd idx r q e he

theorem refAct_apply (g : FVec Ideal S147456x2048 .f32) (r : Fin 147456) (k : Fin 1024) :
    refAct g (ix2 r k) = gated (g (ix2 r (lo k))) (g (ix2 r (hi k))) := by
  have e0 : extractStridedSlice S147456x1024 ![0, 0] g slices_S147456x2048_S147456x1024_0_0 (ix2 r k) = g (ix2 r (lo k)) :=
    extractStridedSlice_apply _ _ _ _ _ (fun a => by
      match a with
      | ⟨0, _⟩ => show r.val = 0 + r.val; omega
      | ⟨1, _⟩ => show k.val = 0 + k.val; omega)
  have e1 : extractStridedSlice S147456x1024 ![0, 1024] g slices_S147456x2048_S147456x1024_0_1024 (ix2 r k) = g (ix2 r (hi k)) :=
    extractStridedSlice_apply _ _ _ _ _ (fun a => by
      match a with
      | ⟨0, _⟩ => show r.val = 0 + r.val; omega
      | ⟨1, _⟩ => rfl)
  rw [← e0, ← e1]
  unfold gated
  rw [← sigmoid]
  rfl

/-- The reference at one element: the row through its expert's layers within the segments, zero past them. -/
theorem refOut_apply (cnt : S32.Idx → BitVec 32) (x : FVec Ideal S147456x1024 .f32) (w : FVec Ideal S32x1024x2048 .f32) (b : FVec Ideal S32x2048 .f32)
    (wd : FVec Ideal S32x1024x1024 .f32) (bd : FVec Ideal S32x1024 .f32) (r : Fin 147456) (q : Fin 1024) (e : Fin 32)
    (he : e.val = expert (padEnd cnt) (BitVec.ofNat 32 r.val)) :
    refOut cnt x w b wd bd (ix2 r q)
      = if IntOp.cmpi .slt (BitVec.ofNat 32 r.val) (padEnd cnt (at32 31)) = 1#1 then value x w b wd bd r e q
        else (FloatOps.ofBits .f32 0x00000000#32 : Ideal .f32) := by
  have hi : (refIdx (refExpert (refEnd cnt)) (ix2 (n0 := 147456) r (0 : Fin 1))).toInt = e.val := by
    rw [refIdx_toInt, refEnd_eq, he]
  unfold refOut
  show (if refUsed (refEnd cnt) (ix2 r q) = 1#1 then _ else _) = _
  rw [refUsed_apply, refEnd_eq, ← refEnd_eq, refDown_apply _ _ _ _ r e hi]
  refine congrArg (fun z : EReal => if IntOp.cmpi .slt (BitVec.ofNat 32 r.val) (refEnd cnt (at32 31)) = 1#1 then z else _) ?_
  unfold value
  refine congrArg (fun z : EReal => z + bd (ix2 e q)) (Finset.sum_congr rfl fun k _ => ?_)
  rw [refAct_apply, refMid_apply _ _ _ _ r e hi, refMid_apply _ _ _ _ r e hi]

end Cert.Experts

end
-- ==== Proof.ExpertsMain.lean ====
/-
  The experts program as printed and its idealized printing have one entry function: no operation was rewritten.
-/
module

public import proofs.«01_k».proof.Defs
public import proofs.«01_k».proof.Proof.Gen.Kernel2
public import proofs.«01_k».proof.Proof.Gen.Kernel2Ideal

@[expose] public section

noncomputable section

namespace Cert.Experts

open Idealize.ShloMosaic Idealize.SL.Sem Idealize.ShloMosaic.TcCoe

set_option maxHeartbeats 4000000 in
theorem text_main : Cert.Kernel2.main (F := Bits) = Cert.Kernel2Ideal.main (F := Bits) := by
  exact Eq.refl (Cert.Kernel2Ideal.main (F := Bits))

end Cert.Experts

end
-- ==== Proof.ExpertsText.lean ====
/-
  The experts program as printed and its idealized printing have the same bodies and pipelines: no operation was rewritten.
-/
module

public import proofs.«01_k».proof.Defs
public import proofs.«01_k».proof.Proof.ExpertsMain
public import proofs.«01_k».proof.Proof.Gen.Kernel2
public import proofs.«01_k».proof.Proof.Gen.Kernel2Ideal

@[expose] public section

noncomputable section

namespace Cert.Experts

open Idealize.ShloMosaic Idealize.SL.Sem Idealize.ShloMosaic.TcCoe

theorem text_defs₀ : Cert.Kernel2.defs₀ (F := Bits) = Cert.Kernel2Ideal.defs₀ (F := Bits) := by
  unfold Cert.Kernel2.defs₀ Cert.Kernel2Ideal.defs₀
  refine congrArg (Defs.onTc (nD := Cert.Kernel2Ideal.nD) (τ := Cert.Kernel2Ideal.τ) (sig := Cert.Kernel2Ideal.sig) (Val := Elt Bits)
    (Λ := Cert.Kernel2Ideal.Λ₀)) (funext fun l => funext fun a => ?_)
  match l, a with
  | 0, (t, s) => exact Eq.refl (Cert.Kernel2Ideal.cc0_moe_experts (F := Bits) (Cert.Kernel2Ideal.grid0.coords t) _ _ _ _ _ _ _ _ _ _ _ _ _ _ _ _ _ _ _ _ _ _)

theorem text_cfg : Cert.Kernel2.pcfgs (F := Bits) = Cert.Kernel2Ideal.pcfgs (F := Bits) := rfl

/-- A run of equal pipelines over equal bodies from an equal entry function. -/
theorem transfer {nD : Nat} {τ : Topo} {sig : RefSig} {Val : EltTy → Type} {P : Type} {Λ : Labels}
    {a b : P → Pipeline.PCfg sig Λ Val} {x y : Defs nD τ sig Val Λ}
    {p : Dev nD → Prog (TpuEff nD τ sig Val (Pipeline.Sig Λ P fun k => (a k).Adm) .tc) PUnit}
    {q : Dev nD → Prog (TpuEff nD τ sig Val (Pipeline.Sig Λ P fun k => (b k).Adm) .tc) PUnit} (h : a = b) (hx : x = y) (hp : HEq p q)
    {s Q} (k : θ_run (Pipeline.defs b y) (onTc (τ := τ) q) s Q) : θ_run (Pipeline.defs a x) (onTc (τ := τ) p) s Q := by
  subst h; subst hx; subst hp; exact k

theorem main_heq : HEq (Cert.Kernel2.main (F := Bits)) (Cert.Kernel2Ideal.main (F := Bits)) := heq_of_eq text_main

/-- A run of the idealized printing at the bit-exact instance is a run of the program as printed. -/
theorem kernel_transfer {s Q} (k : θ_run (Cert.Kernel2Ideal.defs (F := Bits)) (onTc (τ := Cert.Kernel2Ideal.τ) (Cert.Kernel2Ideal.main (F := Bits))) s Q) :
    θ_run (Cert.Kernel2.defs (F := Bits)) (onTc (τ := Cert.Kernel2.τ) (Cert.Kernel2.main (F := Bits))) s Q :=
  transfer (nD := 1) text_cfg text_defs₀ main_heq k

end Cert.Experts

end
-- ==== Proof.Experts.lean ====
/-
  The experts program's claims: its frames, and its result equal to the reference's in exact arithmetic.
-/
module

public import proofs.«01_k».proof.Defs
public import proofs.«01_k».proof.Proof.ExpertsBlock
public import proofs.«01_k».proof.Proof.ExpertsRef
public import proofs.«01_k».proof.Proof.ExpertsText
public import Idealize.ShloMosaic.Lib.Quiescent

@[expose] public section

noncomputable section

namespace Cert.Experts

open Idealize.ShloMosaic Idealize.SL.Sem Idealize.ShloMosaic.TcCoe

/-! ## The two results are one -/

section
open Cert.Kernel2Ideal Cert.Kernel2Ideal.Gen
variable (m : (ℓ : Loc nD τ sig) → Buf (Elt Ideal) ℓ)

theorem pay4_apply (i : S512x1024.Idx) : k0_pay4 (F := Ideal) i = (FloatOps.ofBits .f32 0x00000000#32 : Ideal .f32) := rfl

/-- The expert of a point's block is the expert of each of its rows. -/
theorem expT_row (t : Fin (C m).N) (r : Fin 147456) (ht : r.val / 512 = t.val) :
    (expT m t).val = expert (padEnd (cntV m 0)) (BitVec.ofNat 32 r.val) := by
  refine (expT_val m t).symm.trans ((blkE_toNat _ _).trans (expert_row _ _ r.val r.isLt ?_).symm)
  exact ht.trans (coord m t).symm

theorem rows_eq (c : Dev nD) : rows m c
    = refOut (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  obtain rfl : c = 0 := Subsingleton.elim c 0
  funext i
  obtain ⟨r, hr⟩ : ∃ r : Fin 147456, r = i 0 := ⟨_, rfl⟩
  obtain ⟨q, hq⟩ : ∃ q : Fin 1024, q = i 1 := ⟨_, rfl⟩
  have ei : i = ix2 r q := by
    funext a
    match a with
    | ⟨0, _⟩ => exact hr.symm
    | ⟨1, _⟩ => exact hq.symm
  rw [ei]
  have ht : r.val / 512 = (pointOf m r).val := rfl
  refine Eq.trans ?_ (refOut_apply (cntV m 0) (aX m 0) (aW m 0) (aB m 0) (aWd m 0) (aBd m 0) r q (expT m (pointOf m r)) (expT_row m _ r ht)).symm
  have hu := used_row (cntV m 0) (grid0.coords (pointOf m r)) r.val r.isLt (ht.trans (coord m _).symm)
  show block (grid0.coords (pointOf m r)) (nUsed (cntV m 0)) _ _ _ _ _ (ix2 (placeOf r) q) = _
  unfold block
  by_cases h : k0_cond2 (grid0.coords (pointOf m r)) (nUsed (cntV m 0)) = 1#1
  · rw [if_pos h, if_pos (hu.mpr h)]
    exact pay3_apply m 0 (pointOf m r) (placeOf r) r (by show r.val = 512 * (r.val / 512) + r.val % 512; omega) q
  · rw [if_neg h, if_neg (fun h' => h (hu.mp h'))]
    rfl

end

/-! ## The claims -/

theorem frame_kernel : Cert.quiescent_Kernel2 := fun m ρ _ =>
  kernel_transfer ((θ_run (Cert.Kernel2Ideal.defs (F := Bits)) _ _).mono (fun _ h => ⟨fun c => (h.1 c).2, h.2⟩) (run (F := Bits) m ρ))

theorem frame_kernelIdeal : Cert.quiescent_Kernel2Ideal := fun m ρ _ =>
  (θ_run Cert.Kernel2Ideal.defs _ _).mono (fun _ h => ⟨fun c => (h.1 c).2, h.2⟩) (run (F := Ideal) m ρ)

theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := fun m ρ m' ρ' _ hag =>
  ⟨fun c => rows m c, (θ_run Cert.Kernel2Ideal.defs _ _).mono (fun _ h => h.1) (run (F := Ideal) m ρ),
    (θ_run Cert.Reference2Ideal.defs _ _).mono (fun r h c => ⟨(h c).1.trans (by
        obtain ⟨h0, h1, h2, h3, h4, h5⟩ := hag c
        rw [res_eq, h0, h1, h2, h3, h4, h5]
        exact (rows_eq m c).symm), (h c).2⟩)
      (Cert.Reference2Ideal.Value.run (F := Ideal) m' ρ')⟩

end Cert.Experts

end
-- ==== Proof.ProjectionWeights.lean ====
/-
  The projection's arguments as its grid finds them: each column of the packed weights is a column of the one weight matrix.
-/
module

public import proofs.«01_k».proof.Proof.ExpertsOps
public import proofs.«01_k».proof.Proof.Gen.Kernel3Ideal.Frame

@[expose] public section

noncomputable section

namespace Cert.Projection

open Cert.Kernel3Ideal Cert.Kernel3Ideal.Gen
open Idealize.ShloMosaic Idealize.ShloMosaic.TcCoe
open Idealize.SL Idealize.SL.Sem

/-- Two coordinates of an array. -/
abbrev ix2 {n0 n1 : ℕ} (a : Fin n0) (b : Fin n1) : (⟨2, ![n0, n1]⟩ : Shape).Idx := Cert.Experts.ix2 a b

/-- Three coordinates of an array. -/
abbrev ix3 {n0 n1 n2 : ℕ} (a : Fin n0) (b : Fin n1) (d : Fin n2) : (⟨3, ![n0, n1, n2]⟩ : Shape).Idx := Cert.Experts.ix3 a b d

variable (m : (ℓ : Loc nD τ sig) → Buf (Elt Ideal) ℓ)

/-- The rows, the weight matrix and the norm's gain as launched. -/
abbrev aH (c : Dev nD) : (⟨2, ![32768, 1024]⟩ : Shape).Idx → EReal := m ((c : Thread nD τ).loc main_arg0)
abbrev aW (c : Dev nD) : (⟨2, ![1024, 4564]⟩ : Shape).Idx → EReal := m ((c : Thread nD τ).loc main_arg1)
abbrev aG (c : Dev nD) : (⟨1, ![128]⟩ : Shape).Idx → EReal := m ((c : Thread nD τ).loc main_arg2)

/-! ## The packed weights -/

/-- Columns `off, off + 1, …` of the weight matrix. -/
abbrev cut (w : S1024x4564.Idx → EReal) {N : ℕ} (off : ℕ) (h : (⟨2, ![1024, 4564]⟩ : Shape).Slices ![0, off] ⟨2, ![1024, N]⟩) :
    (⟨2, ![1024, N]⟩ : Shape).Idx → EReal := extractStridedSlice ⟨2, ![1024, N]⟩ ![0, off] w h

theorem cut_apply (w : S1024x4564.Idx → EReal) {N : ℕ} (off : ℕ) (h : (⟨2, ![1024, 4564]⟩ : Shape).Slices ![0, off] ⟨2, ![1024, N]⟩)
    (k : Fin 1024) (j : Fin N) (q : Fin 4564) (hq : q.val = off + j.val) : cut w off h (ix2 k j) = w (ix2 k q) :=
  extractStridedSlice_apply _ _ _ _ _ (fun a => by
    match a with
    | ⟨0, _⟩ => show k.val = 0 + k.val; omega
    | ⟨1, _⟩ => exact hq)

/-- The zero columns between the pieces. -/
abbrev pad64 : S1024x64.Idx → EReal := broadcastInDim S1024x64 ![] bcast_S_S1024x64 (constant (F := Ideal) S_ .f32 0x00000000#32)
abbrev pad108 : S1024x108.Idx → EReal := broadcastInDim S1024x108 ![] bcast_S_S1024x108 (constant (F := Ideal) S_ .f32 0x00000000#32)

/-- The pieces of the query weights. -/
abbrev qPieces (w : S1024x4564.Idx → EReal) : List ((s : Shape) × (s.Idx → EReal)) :=
  [⟨S1024x1024, cut w 2576 slices_S1024x4564_S1024x1024_0_2576⟩, ⟨S1024x64, cut w 3728 slices_S1024x4564_S1024x64_0_3728⟩, ⟨S1024x64, pad64⟩,
    ⟨S1024x64, cut w 3792 slices_S1024x4564_S1024x64_0_3792⟩, ⟨S1024x64, pad64⟩, ⟨S1024x64, cut w 3856 slices_S1024x4564_S1024x64_0_3856⟩,
    ⟨S1024x64, pad64⟩, ⟨S1024x64, cut w 3920 slices_S1024x4564_S1024x64_0_3920⟩, ⟨S1024x64, pad64⟩,
    ⟨S1024x512, cut w 4052 slices_S1024x4564_S1024x512_0_4052⟩, ⟨S1024x64, cut w 3984 slices_S1024x4564_S1024x64_0_3984⟩, ⟨S1024x64, pad64⟩]

/-- The pieces of the remaining weights. -/
abbrev mPieces (w : S1024x4564.Idx → EReal) : List ((s : Shape) × (s.Idx → EReal)) :=
  [⟨S1024x128, cut w 3600 slices_S1024x4564_S1024x128_0_3600⟩, ⟨S1024x16, cut w 2560 slices_S1024x4564_S1024x16_0_2560⟩,
    ⟨S1024x4, cut w 4048 slices_S1024x4564_S1024x4_0_4048⟩, ⟨S1024x108, pad108⟩]

theorem qJoins : Shape.Concatenates [S1024x1024, S1024x64, S1024x64, S1024x64, S1024x64, S1024x64, S1024x64, S1024x64, S1024x64, S1024x512, S1024x64, S1024x64]
    S1024x2176 1 := concatenates_S1024x1024_S1024x64_S1024x64_S1024x64_S1024x64_S1024x64_S1024x64_S1024x64_S1024x64_S1024x512_S1024x64_S1024x64_S1024x2176_d1
theorem mJoins : Shape.Concatenates [S1024x128, S1024x16, S1024x4, S1024x108] S1024x256 1 := concatenates_S1024x128_S1024x16_S1024x4_S1024x108_S1024x256_d1

abbrev wZ (w : S1024x4564.Idx → EReal) : S1024x2560.Idx → EReal := cut w 0 slices_S1024x4564_S1024x2560_0_0
abbrev wQ (w : S1024x4564.Idx → EReal) : S1024x2176.Idx → EReal := concatenate S1024x2176 1 (qPieces w) qJoins
abbrev wM (w : S1024x4564.Idx → EReal) : S1024x256.Idx → EReal := concatenate S1024x256 1 (mPieces w) mJoins

set_option maxHeartbeats 4000000 in
theorem V_v19 (c : Dev nD) : V m c main_v19 = wZ (aW m c) := by
  unfold V V0 hostOps0
  simp only [List.flatten_cons, List.flatten_nil, List.append_nil]
  after_results_simp
  rfl

set_option maxHeartbeats 4000000 in
theorem V_v20 (c : Dev nD) : V m c main_v20 = wQ (aW m c) := by
  unfold V V0 hostOps0
  simp only [List.flatten_cons, List.flatten_nil, List.append_nil]
  after_results_simp
  rfl

set_option maxHeartbeats 4000000 in
theorem V_v21 (c : Dev nD) : V m c main_v21 = wM (aW m c) := by
  unfold V V0 hostOps0
  simp only [List.flatten_cons, List.flatten_nil, List.append_nil]
  after_results_simp
  rfl

set_option maxHeartbeats 4000000 in
theorem V_v22 (c : Dev nD) : V m c main_v22 = shapeCast S1x128 (aG m c) shapeCasts_S128_S1x128 := by
  unfold V V0 hostOps0
  simp only [List.flatten_cons, List.flatten_nil, List.append_nil]
  after_results_simp
  rfl

/-! ## Their columns -/

theorem wZ_apply (w : S1024x4564.Idx → EReal) (k : Fin 1024) (j : Fin 2560) (q : Fin 4564) (hq : q.val = j.val) : wZ w (ix2 k j) = w (ix2 k q) :=
  cut_apply w 0 _ k j q (by omega)

/-- A column of the query weights inside piece `n`. -/
theorem wQ_piece (w : S1024x4564.Idx → EReal) {N : ℕ} (n : ℕ) (hn : n < (qPieces w).length) (off : ℕ)
    (h : (⟨2, ![1024, 4564]⟩ : Shape).Slices ![0, off] ⟨2, ![1024, N]⟩) (hp : (qPieces w)[n] = ⟨⟨2, ![1024, N]⟩, cut w off h⟩) (pre : ℕ)
    (hpre : ((((qPieces w).take n).map (·.1)).map fun s => if h : s.rank = S1024x2176.rank then s.size ((1 : Fin S1024x2176.rank).cast h.symm) else 0).sum = pre)
    (k : Fin 1024) (b : Fin 2176) (j : Fin N) (hb : b.val = pre + j.val) (q : Fin 4564) (hq : q.val = off + j.val) :
    wQ w (ix2 k b) = w (ix2 k q) := by
  refine (concatenate_apply_piece (t := S1024x2176) 1 (qPieces w) qJoins (ix2 k b) n hn ⟨2, ![1024, N]⟩ (cut w off h) hp rfl pre hpre (ix2 k j) ?_ ?_).trans
    (cut_apply w off h k j q hq)
  · intro a ha
    match a with
    | ⟨0, _⟩ => rfl
    | ⟨1, _⟩ => exact absurd rfl ha
  · exact hb.symm

theorem wM_piece (w : S1024x4564.Idx → EReal) {N : ℕ} (n : ℕ) (hn : n < (mPieces w).length) (off : ℕ)
    (h : (⟨2, ![1024, 4564]⟩ : Shape).Slices ![0, off] ⟨2, ![1024, N]⟩) (hp : (mPieces w)[n] = ⟨⟨2, ![1024, N]⟩, cut w off h⟩) (pre : ℕ)
    (hpre : ((((mPieces w).take n).map (·.1)).map fun s => if h : s.rank = S1024x256.rank then s.size ((1 : Fin S1024x256.rank).cast h.symm) else 0).sum = pre)
    (k : Fin 1024) (b : Fin 256) (j : Fin N) (hb : b.val = pre + j.val) (q : Fin 4564) (hq : q.val = off + j.val) :
    wM w (ix2 k b) = w (ix2 k q) := by
  refine (concatenate_apply_piece (t := S1024x256) 1 (mPieces w) mJoins (ix2 k b) n hn ⟨2, ![1024, N]⟩ (cut w off h) hp rfl pre hpre (ix2 k j) ?_ ?_).trans
    (cut_apply w off h k j q hq)
  · intro a ha
    match a with
    | ⟨0, _⟩ => rfl
    | ⟨1, _⟩ => exact absurd rfl ha
  · exact hb.symm

/-- The latent queries. -/
theorem wQ_lat (w : S1024x4564.Idx → EReal) (k : Fin 1024) (b : Fin 2176) (j : Fin 1024) (hb : b.val = 0 + j.val) (q : Fin 4564)
    (hq : q.val = 2576 + j.val) : wQ w (ix2 k b) = w (ix2 k q) :=
  wQ_piece w 0 (show 0 < 12 by decide) 2576 slices_S1024x4564_S1024x1024_0_2576 rfl 0 rfl k b j hb q hq

/-- The indexer queries of head 0. -/
theorem wQ_idx0 (w : S1024x4564.Idx → EReal) (k : Fin 1024) (b : Fin 2176) (j : Fin 64) (hb : b.val = 1024 + j.val) (q : Fin 4564)
    (hq : q.val = 3728 + j.val) : wQ w (ix2 k b) = w (ix2 k q) :=
  wQ_piece w 1 (show 1 < 12 by decide) 3728 slices_S1024x4564_S1024x64_0_3728 rfl 1024 rfl k b j hb q hq

/-- The indexer queries of head 1. -/
theorem wQ_idx1 (w : S1024x4564.Idx → EReal) (k : Fin 1024) (b : Fin 2176) (j : Fin 64) (hb : b.val = 1152 + j.val) (q : Fin 4564)
    (hq : q.val = 3792 + j.val) : wQ w (ix2 k b) = w (ix2 k q) :=
  wQ_piece w 3 (show 3 < 12 by decide) 3792 slices_S1024x4564_S1024x64_0_3792 rfl 1152 rfl k b j hb q hq

/-- The indexer queries of head 2. -/
theorem wQ_idx2 (w : S1024x4564.Idx → EReal) (k : Fin 1024) (b : Fin 2176) (j : Fin 64) (hb : b.val = 1280 + j.val) (q : Fin 4564)
    (hq : q.val = 3856 + j.val) : wQ w (ix2 k b) = w (ix2 k q) :=
  wQ_piece w 5 (show 5 < 12 by decide) 3856 slices_S1024x4564_S1024x64_0_3856 rfl 1280 rfl k b j hb q hq

/-- The indexer queries of head 3. -/
theorem wQ_idx3 (w : S1024x4564.Idx → EReal) (k : Fin 1024) (b : Fin 2176) (j : Fin 64) (hb : b.val = 1408 + j.val) (q : Fin 4564)
    (hq : q.val = 3920 + j.val) : wQ w (ix2 k b) = w (ix2 k q) :=
  wQ_piece w 7 (show 7 < 12 by decide) 3920 slices_S1024x4564_S1024x64_0_3920 rfl 1408 rfl k b j hb q hq

/-- The memory queries. -/
theorem wQ_mem (w : S1024x4564.Idx → EReal) (k : Fin 1024) (b : Fin 2176) (j : Fin 512) (hb : b.val = 1536 + j.val) (q : Fin 4564)
    (hq : q.val = 4052 + j.val) : wQ w (ix2 k b) = w (ix2 k q) :=
  wQ_piece w 9 (show 9 < 12 by decide) 4052 slices_S1024x4564_S1024x512_0_4052 rfl 1536 rfl k b j hb q hq

/-- The indexer key. -/
theorem wQ_key (w : S1024x4564.Idx → EReal) (k : Fin 1024) (b : Fin 2176) (j : Fin 64) (hb : b.val = 2048 + j.val) (q : Fin 4564)
    (hq : q.val = 3984 + j.val) : wQ w (ix2 k b) = w (ix2 k q) :=
  wQ_piece w 10 (show 10 < 12 by decide) 3984 slices_S1024x4564_S1024x64_0_3984 rfl 2048 rfl k b j hb q hq

/-- The compressed key and value. -/
theorem wM_lat (w : S1024x4564.Idx → EReal) (k : Fin 1024) (b : Fin 256) (j : Fin 128) (hb : b.val = 0 + j.val) (q : Fin 4564)
    (hq : q.val = 3600 + j.val) : wM w (ix2 k b) = w (ix2 k q) :=
  wM_piece w 0 (show 0 < 4 by decide) 3600 slices_S1024x4564_S1024x128_0_3600 rfl 0 rfl k b j hb q hq

/-- The step sizes. -/
theorem wM_step (w : S1024x4564.Idx → EReal) (k : Fin 1024) (b : Fin 256) (j : Fin 16) (hb : b.val = 128 + j.val) (q : Fin 4564)
    (hq : q.val = 2560 + j.val) : wM w (ix2 k b) = w (ix2 k q) :=
  wM_piece w 1 (show 1 < 4 by decide) 2560 slices_S1024x4564_S1024x16_0_2560 rfl 128 rfl k b j hb q hq

/-- The indexer head weights. -/
theorem wM_head (w : S1024x4564.Idx → EReal) (k : Fin 1024) (b : Fin 256) (j : Fin 4) (hb : b.val = 144 + j.val) (q : Fin 4564)
    (hq : q.val = 4048 + j.val) : wM w (ix2 k b) = w (ix2 k q) :=
  wM_piece w 2 (show 2 < 4 by decide) 4048 slices_S1024x4564_S1024x4_0_4048 rfl 144 rfl k b j hb q hq

/-- The indexer queries of every head. -/
theorem wQ_idx (w : S1024x4564.Idx → EReal) (k : Fin 1024) (b : Fin 2176) (hd : Fin 4) (j : Fin 64) (hb : b.val = 1024 + 128 * hd.val + j.val)
    (q : Fin 4564) (hq : q.val = 3728 + 64 * hd.val + j.val) : wQ w (ix2 k b) = w (ix2 k q) := by
  match hd, hb, hq with
  | ⟨0, _⟩, hb, hq => exact wQ_idx0 w k b j hb q hq
  | ⟨1, _⟩, hb, hq => exact wQ_idx1 w k b j hb q hq
  | ⟨2, _⟩, hb, hq => exact wQ_idx2 w k b j hb q hq
  | ⟨3, _⟩, hb, hq => exact wQ_idx3 w k b j hb q hq

end Cert.Projection

end
-- ==== Proof.ProjectionBlocks.lean ====
/-
  What the projection's grid leaves in each of its seven results, in exact arithmetic: products of a row with the columns of its
  packed weights, and the normalised compressed key and value.
-/
module

public import proofs.«01_k».proof.Proof.ProjectionWeights
public import Idealize.ShloMosaic.Lib.Pipeline.Value
public import Idealize.ShloMosaic.Lib.Pointwise.Reduce

@[expose] public section

noncomputable section

namespace Cert.Projection

open Cert.Kernel3Ideal Cert.Kernel3Ideal.Gen
open Cert.Experts (rows_sum)
open Idealize.ShloMosaic Idealize.ShloMosaic.TcCoe
open Idealize.SL Idealize.SL.Sem
open Idealize.ShloMosaic.Pipeline (Dat Cfg Window)

/-! ## The mathematics -/

/-- A row times a column. -/
def prod {M N : ℕ} (h : (⟨2, ![M, 1024]⟩ : Shape).Idx → EReal) (w : (⟨2, ![1024, N]⟩ : Shape).Idx → EReal) (r : Fin M) (j : Fin N) : EReal :=
  ∑ k : Fin 1024, h (ix2 r k) * w (ix2 k j)

theorem prod_congr {M M' N N' : ℕ} {h : (⟨2, ![M, 1024]⟩ : Shape).Idx → EReal} {h' : (⟨2, ![M', 1024]⟩ : Shape).Idx → EReal}
    {w : (⟨2, ![1024, N]⟩ : Shape).Idx → EReal} {w' : (⟨2, ![1024, N']⟩ : Shape).Idx → EReal} {r : Fin M} {r' : Fin M'} {j : Fin N} {j' : Fin N'}
    (hh : ∀ k, h (ix2 r k) = h' (ix2 r' k)) (hw : ∀ k, w (ix2 k j) = w' (ix2 k j')) : prod h w r j = prod h' w' r' j' :=
  Finset.sum_congr rfl fun k _ => congrArg₂ (fun a b : EReal => a * b) (hh k) (hw k)

/-- The root-mean-square norm of a row, at one column. -/
def rms (v : Fin 128 → EReal) (g : EReal) (j : Fin 128) : EReal :=
  v j * Ideal.rsqrt (Ideal.div (∑ k : Fin 128, v k * v k) (FloatOps.ofBits .f32 0x43000000#32 : Ideal .f32)
    + (FloatOps.ofBits .f32 0x358637BD#32 : Ideal .f32)) * g

/-! ## A block's operations -/

theorem dotZ_apply (x : FVec Ideal S512x1024 .f32) (w : FVec Ideal S1024x2560 .bf16) (p : Fin 512) (j : Fin 2560) :
    k0_pay4 (F := Ideal) x w (ix2 p j) = prod x w p j := by
  unfold k0_pay4 k0_pay3 prod
  rw [shapeCast_self]
  simp only [matmul]
  rw [Ideal.matmul_constant_zero_apply]
  exact rows_sum (M := 512) (K := 1024) (N := 2560) dot_S512x1024_S1024x2560_S512x2560_1_0_0_1_n_n.wf _ _ p j

theorem dotQ_apply (x : FVec Ideal S512x1024 .f32) (w : FVec Ideal S1024x2176 .bf16) (p : Fin 512) (j : Fin 2176) :
    k0_pay5 (F := Ideal) x w (ix2 p j) = prod x w p j := by
  unfold k0_pay5 k0_pay3 prod
  rw [shapeCast_self]
  simp only [matmul]
  rw [Ideal.matmul_constant_zero_apply]
  exact rows_sum (M := 512) (K := 1024) (N := 2176) dot_S512x1024_S1024x2176_S512x2176_1_0_0_1_n_n.wf _ _ p j

theorem dotM_apply (x : FVec Ideal S512x1024 .f32) (w : FVec Ideal S1024x256 .bf16) (p : Fin 512) (j : Fin 256) :
    k0_pay10 (F := Ideal) x w (ix2 p j) = prod x w p j := by
  unfold k0_pay10 k0_pay3 prod
  rw [shapeCast_self]
  simp only [matmul]
  rw [Ideal.matmul_constant_zero_apply]
  exact rows_sum (M := 512) (K := 1024) (N := 256) dot_S512x1024_S1024x256_S512x256_1_0_0_1_n_n.wf _ _ p j

/-- Columns `off, off + 1, …` of an array. -/
theorem cols_apply {M A B : ℕ} (v : (⟨2, ![M, A]⟩ : Shape).Idx → EReal) (off : ℕ) (h : (⟨2, ![M, A]⟩ : Shape).Slices ![0, off] ⟨2, ![M, B]⟩)
    (p : Fin M) (j : Fin B) (q : Fin A) (hq : q.val = off + j.val) : extractStridedSlice ⟨2, ![M, B]⟩ ![0, off] v h (ix2 p j) = v (ix2 p q) :=
  extractStridedSlice_apply _ _ _ _ _ (fun a => by
    match a with
    | ⟨0, _⟩ => show p.val = 0 + p.val; omega
    | ⟨1, _⟩ => exact hq)

theorem pay6_apply (x : FVec Ideal S512x1024 .f32) (w : FVec Ideal S1024x2176 .bf16) (p : Fin 512) (j : Fin 1024) :
    k0_pay6 (F := Ideal) x w (ix2 p j) = prod x w p (⟨0 + j.val, by omega⟩ : Fin 2176) := by
  unfold k0_pay6
  exact (cols_apply (M := 512) (A := 2176) (B := 1024) (k0_pay5 (F := Ideal) x w) 0 slices_S512x2176_o0_0_S512x1024 p j ⟨0 + j.val, by omega⟩ rfl).trans
    (dotQ_apply x w p _)

theorem pay7_apply (x : FVec Ideal S512x1024 .f32) (w : FVec Ideal S1024x2176 .bf16) (p : Fin 512) (j : Fin 512) :
    k0_pay7 (F := Ideal) x w (ix2 p j) = prod x w p (⟨1024 + j.val, by omega⟩ : Fin 2176) := by
  unfold k0_pay7
  exact (cols_apply (M := 512) (A := 2176) (B := 512) (k0_pay5 (F := Ideal) x w) 1024 slices_S512x2176_o0_1024_S512x512 p j ⟨1024 + j.val, by omega⟩ rfl).trans
    (dotQ_apply x w p _)

theorem pay8_apply (x : FVec Ideal S512x1024 .f32) (w : FVec Ideal S1024x2176 .bf16) (p : Fin 512) (j : Fin 512) :
    k0_pay8 (F := Ideal) x w (ix2 p j) = prod x w p (⟨1536 + j.val, by omega⟩ : Fin 2176) := by
  unfold k0_pay8
  exact (cols_apply (M := 512) (A := 2176) (B := 512) (k0_pay5 (F := Ideal) x w) 1536 slices_S512x2176_o0_1536_S512x512 p j ⟨1536 + j.val, by omega⟩ rfl).trans
    (dotQ_apply x w p _)

theorem pay9_apply (x : FVec Ideal S512x1024 .f32) (w : FVec Ideal S1024x2176 .bf16) (p : Fin 512) (j : Fin 128) :
    k0_pay9 (F := Ideal) x w (ix2 p j) = prod x w p (⟨2048 + j.val, by omega⟩ : Fin 2176) := by
  unfold k0_pay9
  exact (cols_apply (M := 512) (A := 2176) (B := 128) (k0_pay5 (F := Ideal) x w) 2048 slices_S512x2176_o0_2048_S512x128 p j ⟨2048 + j.val, by omega⟩ rfl).trans
    (dotQ_apply x w p _)

theorem pay11_apply (x : FVec Ideal S512x1024 .f32) (w : FVec Ideal S1024x256 .bf16) (p : Fin 512) (j : Fin 128) :
    k0_pay11 (F := Ideal) x w (ix2 p j) = prod x w p (⟨j.val, by omega⟩ : Fin 256) := by
  unfold k0_pay11
  exact (cols_apply (M := 512) (A := 256) (B := 128) (k0_pay10 (F := Ideal) x w) 0 slices_S512x256_o0_0_S512x128 p j ⟨j.val, by omega⟩ (by show j.val = 0 + j.val; omega)).trans
    (dotM_apply x w p _)

theorem pay2_apply (x : FVec Ideal S512x1024 .f32) (w : FVec Ideal S1024x256 .bf16) (p : Fin 512) (j : Fin 128) :
    k0_pay2 (F := Ideal) (k0_pay10 (F := Ideal) x w) (ix2 p j) = prod x w p (⟨128 + j.val, by omega⟩ : Fin 256) := by
  unfold k0_pay2
  exact (cols_apply (M := 512) (A := 256) (B := 128) (k0_pay10 (F := Ideal) x w) 128 slices_S512x256_o0_128_S512x128 p j ⟨128 + j.val, by omega⟩ rfl).trans
    (dotM_apply x w p _)

/-- The mean square of a row of a block. -/
theorem pay12_apply (x : FVec Ideal S512x1024 .f32) (w : FVec Ideal S1024x256 .bf16) (p : Fin 512) :
    k0_pay12 (F := Ideal) x w (ix2 p (0 : Fin 1)) = Ideal.div (∑ k : Fin 128, k0_pay11 (F := Ideal) x w (ix2 p k) * k0_pay11 (F := Ideal) x w (ix2 p k))
      (FloatOps.ofBits .f32 0x43000000#32 : Ideal .f32) := by
  unfold k0_pay12
  refine congrArg (fun a : EReal => Ideal.div a _) ?_
  refine (shapeCast_apply _ _ _ (fun | ⟨0, _⟩ => p : S512.Idx) ?_).trans ?_
  · rw [Shape.rowMajor_val_two, Shape.rowMajor_val_one]
    show p.val = p.val * 1 + 0
    omega
  · refine (Ideal.reduceAdd_r2_a1 (n0 := 512) (n1 := 128) (t := S512) reduces_S512x128_S512 _ _).trans (Finset.sum_congr rfl fun k _ => ?_)
    have e : Idealize.ShloMosaic.ix2 (n0 := 512) (n1 := 128) ⟨p.val, p.isLt⟩ k = ix2 p k := funext fun a => by match a with | ⟨0, _⟩ => rfl | ⟨1, _⟩ => rfl
    exact congrArg (fun i => k0_pay11 (F := Ideal) x w i * k0_pay11 (F := Ideal) x w i) e

/-- The normalised block. -/
theorem pay1_apply (v : FVec Ideal S512x128 .f32) (s : FVec Ideal S512x1 .f32) (e : Ideal .f32) (g : FVec Ideal S1x128 .f32) (p : Fin 512) (j : Fin 128) :
    k0_pay1 (F := Ideal) v s e g (ix2 p j)
      = v (ix2 p j) * Ideal.rsqrt (s (ix2 p (0 : Fin 1)) + e) * g (ix2 (0 : Fin 1) j) := by
  unfold k0_pay1
  rw [shapeCast_self]
  refine congrArg₂ (fun a b : EReal => a * b) (congrArg₂ (fun a b : EReal => a * b) rfl ?_) ?_
  · exact broadcastTo_apply _ _ _ (ix2 p (0 : Fin 1)) (fun a => by match a with | ⟨0, _⟩ => rfl | ⟨1, _⟩ => rfl)
  · exact broadcastTo_apply _ _ _ (ix2 (0 : Fin 1) j) (fun a => by match a with | ⟨0, _⟩ => rfl | ⟨1, _⟩ => rfl)

/-! ## The grid's points -/

variable (m : (ℓ : Loc nD τ sig) → Buf (Elt Ideal) ℓ)

theorem point_lt (t : Fin cfg0.N) : t.val < 64 := lt_of_lt_of_eq t.isLt (by decide)

theorem coord (t : Fin cfg0.N) : ((grid0.coords t) 0).val = t.val :=
  (Pipeline.Grid.coords_val (G := grid0) t 0 (S := 1) (B := 64) (by decide) rfl).trans (by have := point_lt t; omega)

/-- The point whose block holds a row. -/
def pointOf (r : Fin 32768) : Fin cfg0.N := ⟨r.val / 512, lt_of_lt_of_eq (show r.val / 512 < 64 by have := r.isLt; omega) (by decide)⟩

/-- A row's place in its block. -/
def placeOf (r : Fin 32768) : Fin 512 := ⟨r.val % 512, Nat.mod_lt _ (by decide)⟩

theorem iblk_0 (c : Dev nD) (t : Fin cfg0.N) (y : S512x1024.Idx) (r : Fin 32768) (hr : r.val = 512 * t.val + (y 0).val) :
    iblk m c 0 t y = aH m c (ix2 (n1 := 1024) r (y 1)) := by
  show V m c main_arg0 (((cfg0.win 0).rect t).emb y) = _
  refine (congrArg (V m c main_arg0) (funext fun a => Fin.ext ?_)).trans (congrFun (V_main_arg0 m c) _)
  rw [Pipeline.Window.rect_emb_val (cfg0.win 0) t y a]
  match a with
  | ⟨0, _⟩ =>
    show (BitVec.ofNat 32 ((grid0.coords t) 0).val).toNat * 512 + (y 0).val = r.val
    rw [coord, BitVec.toNat_ofNat]
    have := point_lt t
    omega
  | ⟨1, _⟩ =>
    show 0 * 1024 + (y 1).val = (y 1).val
    omega

theorem iblk_1 (c : Dev nD) (t : Fin cfg0.N) (y : S1024x2560.Idx) : iblk m c 1 t y = (wZ (aW m c)) y := by
  show V m c main_v19 (((cfg0.win 1).rect t).emb y) = _
  refine (congrArg (V m c main_v19) (funext fun a => Fin.ext ?_)).trans (congrFun (V_v19 m c) _)
  rw [Pipeline.Window.rect_emb_val (cfg0.win 1) t y a]
  match a with
  | ⟨0, _⟩ => show 0 * 1024 + (y 0).val = (y 0).val; omega
  | ⟨1, _⟩ => show 0 * 2560 + (y 1).val = (y 1).val; omega

theorem iblk_2 (c : Dev nD) (t : Fin cfg0.N) (y : S1024x2176.Idx) : iblk m c 2 t y = (wQ (aW m c)) y := by
  show V m c main_v20 (((cfg0.win 2).rect t).emb y) = _
  refine (congrArg (V m c main_v20) (funext fun a => Fin.ext ?_)).trans (congrFun (V_v20 m c) _)
  rw [Pipeline.Window.rect_emb_val (cfg0.win 2) t y a]
  match a with
  | ⟨0, _⟩ => show 0 * 1024 + (y 0).val = (y 0).val; omega
  | ⟨1, _⟩ => show 0 * 2176 + (y 1).val = (y 1).val; omega

theorem iblk_3 (c : Dev nD) (t : Fin cfg0.N) (y : S1024x256.Idx) : iblk m c 3 t y = (wM (aW m c)) y := by
  show V m c main_v21 (((cfg0.win 3).rect t).emb y) = _
  refine (congrArg (V m c main_v21) (funext fun a => Fin.ext ?_)).trans (congrFun (V_v21 m c) _)
  rw [Pipeline.Window.rect_emb_val (cfg0.win 3) t y a]
  match a with
  | ⟨0, _⟩ => show 0 * 1024 + (y 0).val = (y 0).val; omega
  | ⟨1, _⟩ => show 0 * 256 + (y 1).val = (y 1).val; omega

theorem iblk_4 (c : Dev nD) (t : Fin cfg0.N) (y : S1x128.Idx) : iblk m c 4 t y = (shapeCast S1x128 (aG m c) shapeCasts_S128_S1x128) y := by
  show V m c main_v22 (((cfg0.win 4).rect t).emb y) = _
  refine (congrArg (V m c main_v22) (funext fun a => Fin.ext ?_)).trans (congrFun (V_v22 m c) _)
  rw [Pipeline.Window.rect_emb_val (cfg0.win 4) t y a]
  match a with
  | ⟨0, _⟩ => show 0 * 1 + (y 0).val = (y 0).val; omega
  | ⟨1, _⟩ => show 0 * 128 + (y 1).val = (y 1).val; omega

theorem gain_apply (c : Dev nD) (t : Fin cfg0.N) (j : Fin 128) :
    iblk m c 4 t (ix2 (0 : Fin 1) j) = aG m c (fun | ⟨0, _⟩ => j) := by
  refine (iblk_4 m c t _).trans (shapeCast_apply _ _ _ _ ?_)
  rw [Shape.rowMajor_val_two, Shape.rowMajor_val_one]
  show j.val = 0 * 128 + j.val
  omega

/-! ## The seven results -/

/-- Gates and scan inputs. -/
def outZ (h : (⟨2, ![32768, 1024]⟩ : Shape).Idx → EReal) (w : (⟨2, ![1024, 4564]⟩ : Shape).Idx → EReal) : S32768x2560.Idx → EReal := fun i =>
  prod h (wZ w) (i 0) (i 1)

/-- Latent queries. -/
def outLat (h : (⟨2, ![32768, 1024]⟩ : Shape).Idx → EReal) (w : (⟨2, ![1024, 4564]⟩ : Shape).Idx → EReal) : S32768x1024.Idx → EReal := fun i =>
  prod h (wQ w) (i 0) (⟨0 + (i 1).val, by have : (i 1).val < 1024 := (i 1).isLt; omega⟩ : Fin 2176)

/-- Indexer queries, each head in 128 columns. -/
def outIdx (h : (⟨2, ![32768, 1024]⟩ : Shape).Idx → EReal) (w : (⟨2, ![1024, 4564]⟩ : Shape).Idx → EReal) : S32768x512.Idx → EReal := fun i =>
  prod h (wQ w) (i 0) (⟨1024 + (i 1).val, by have : (i 1).val < 512 := (i 1).isLt; omega⟩ : Fin 2176)

/-- Memory queries. -/
def outMem (h : (⟨2, ![32768, 1024]⟩ : Shape).Idx → EReal) (w : (⟨2, ![1024, 4564]⟩ : Shape).Idx → EReal) : S32768x512.Idx → EReal := fun i =>
  prod h (wQ w) (i 0) (⟨1536 + (i 1).val, by have : (i 1).val < 512 := (i 1).isLt; omega⟩ : Fin 2176)

/-- The indexer key, in 128 columns. -/
def outKey (h : (⟨2, ![32768, 1024]⟩ : Shape).Idx → EReal) (w : (⟨2, ![1024, 4564]⟩ : Shape).Idx → EReal) : S32768x128.Idx → EReal := fun i =>
  prod h (wQ w) (i 0) (⟨2048 + (i 1).val, by have : (i 1).val < 128 := (i 1).isLt; omega⟩ : Fin 2176)

/-- The compressed key and value, normalised. -/
def outC (h : (⟨2, ![32768, 1024]⟩ : Shape).Idx → EReal) (w : (⟨2, ![1024, 4564]⟩ : Shape).Idx → EReal) (g : (⟨1, ![128]⟩ : Shape).Idx → EReal) :
    S32768x128.Idx → EReal := fun i =>
  rms (fun k : Fin 128 => prod h (wM w) (i 0) (⟨k.val, by omega⟩ : Fin 256)) (g (fun | ⟨0, _⟩ => i 1)) (i 1)

/-- Step sizes and head weights. -/
def outStep (h : (⟨2, ![32768, 1024]⟩ : Shape).Idx → EReal) (w : (⟨2, ![1024, 4564]⟩ : Shape).Idx → EReal) : S32768x128.Idx → EReal := fun i =>
  prod h (wM w) (i 0) (⟨128 + (i 1).val, by have : (i 1).val < 128 := (i 1).isLt; omega⟩ : Fin 256)

/-! ### Result 0 -/

theorem blk_5 (c : Dev nD) (t : Fin cfg0.N) (p : Fin 512) (j : Fin 2560) (r : Fin 32768) (hr : r.val = 512 * t.val + p.val) :
    out0_5 (F := Ideal) (iblk m c 0 t) (iblk m c 1 t) (iblk m c 2 t) (iblk m c 3 t) (iblk m c 4 t) (ix2 p j) = outZ (aH m c) (aW m c) (ix2 r j) := by
  unfold out0_5
  rw [View.canon_unit_zero (by decide), View.ld_unit_zero (by decide), View.ld_unit_zero (by decide)]
  refine (dotZ_apply _ _ p j).trans (prod_congr (fun k => iblk_0 m c t (ix2 p k) r hr) (fun k => iblk_1 m c t (ix2 k j)))

theorem block_5 (t : Fin cfg0.N) (y : S512x2560.Idx) (a : Fin 2) :
    ((((cfg0.win 5).rect t).emb y) a).val = match a with | ⟨0, _⟩ => 512 * t.val + (y 0).val | ⟨1, _⟩ => (y 1).val := by
  rw [Pipeline.Window.rect_emb_val (cfg0.win 5) t y a]
  match a with
  | ⟨0, _⟩ =>
    show (BitVec.ofNat 32 ((grid0.coords t) 0).val).toNat * 512 + (y 0).val = 512 * t.val + (y 0).val
    rw [coord, BitVec.toNat_ofNat]
    have := point_lt t
    omega
  | ⟨1, _⟩ => show 0 * 2560 + (y 1).val = (y 1).val; omega

theorem covered_at_5 (t : Fin cfg0.N) (y : S512x2560.Idx) (i : S32768x2560.Idx) (h0 : 512 * t.val + (y 0).val = (i 0).val)
    (h1 : (y 1).val = (i 1).val) : i ∈ ((cfg0.win 5).blk t).view.set := by
  have e : (((cfg0.win 5).rect t).emb y) = i := by
    refine funext fun (a : Fin 2) => Fin.ext ((block_5 t y a).trans ?_)
    match a with
    | ⟨0, _⟩ => exact h0
    | ⟨1, _⟩ => exact h1
  rw [← e]
  exact View.emb_mem_set (v := ((cfg0.win 5).blk t).view) y

theorem covered_5 (i : S32768x2560.Idx) : ∃ t : Fin cfg0.N, (cfg0.win 5).flush t = true ∧ i ∈ ((cfg0.win 5).blk t).view.set :=
  ⟨pointOf (i 0), flush0_5 _, covered_at_5 _ (ix2 (n1 := 2560) (placeOf (i 0)) (i 1)) i
    (by show 512 * ((i 0).val / 512) + (i 0).val % 512 = (i 0).val; omega) rfl⟩

theorem final_5 (c : Dev nD) : (dats m 0 c).arrAt 5 cfg0.N = outZ (aH m c) (aW m c) := by
  refine (dats m 0 c).arrAt_eq_of_cover 5 (outZ (aH m c) (aW m c)) (fun t _ => funext fun y => ?_) covered_5
  show (dats m 0 c).after 5 t y = outZ (aH m c) (aW m c) (((cfg0.win 5).rect t).emb y)
  rw [after0_5]
  have h0 := block_5 t y (0 : Fin 2)
  have h1 := block_5 t y (1 : Fin 2)
  have hp : (y 0).val < 512 := (y 0).isLt
  have ht := point_lt t
  have ey : y = ix2 (n1 := 2560) (y 0) (y 1) := funext fun a => by match a with | ⟨0, _⟩ => rfl | ⟨1, _⟩ => rfl
  refine (congrArg _ ey).trans ((blk_5 m c t (y 0) (y 1) ⟨512 * t.val + (y 0).val, by omega⟩ rfl).trans (congrArg (outZ (aH m c) (aW m c)) ?_))
  refine funext fun (a : Fin 2) => Fin.ext ?_
  match a with
  | ⟨0, _⟩ => exact h0.symm
  | ⟨1, _⟩ => exact h1.symm

/-! ### Result 1 -/

theorem blk_6 (c : Dev nD) (t : Fin cfg0.N) (p : Fin 512) (j : Fin 1024) (r : Fin 32768) (hr : r.val = 512 * t.val + p.val) :
    out0_6 (F := Ideal) (iblk m c 0 t) (iblk m c 1 t) (iblk m c 2 t) (iblk m c 3 t) (iblk m c 4 t) (ix2 p j) = outLat (aH m c) (aW m c) (ix2 r j) := by
  unfold out0_6
  rw [View.canon_unit_zero (by decide), View.ld_unit_zero (by decide), View.ld_unit_zero (by decide)]
  refine (pay6_apply _ _ p j).trans (prod_congr (fun k => iblk_0 m c t (ix2 p k) r hr) (fun k => iblk_2 m c t (ix2 k _)))

theorem block_6 (t : Fin cfg0.N) (y : S512x1024.Idx) (a : Fin 2) :
    ((((cfg0.win 6).rect t).emb y) a).val = match a with | ⟨0, _⟩ => 512 * t.val + (y 0).val | ⟨1, _⟩ => (y 1).val := by
  rw [Pipeline.Window.rect_emb_val (cfg0.win 6) t y a]
  match a with
  | ⟨0, _⟩ =>
    show (BitVec.ofNat 32 ((grid0.coords t) 0).val).toNat * 512 + (y 0).val = 512 * t.val + (y 0).val
    rw [coord, BitVec.toNat_ofNat]
    have := point_lt t
    omega
  | ⟨1, _⟩ => show 0 * 1024 + (y 1).val = (y 1).val; omega

theorem covered_at_6 (t : Fin cfg0.N) (y : S512x1024.Idx) (i : S32768x1024.Idx) (h0 : 512 * t.val + (y 0).val = (i 0).val)
    (h1 : (y 1).val = (i 1).val) : i ∈ ((cfg0.win 6).blk t).view.set := by
  have e : (((cfg0.win 6).rect t).emb y) = i := by
    refine funext fun (a : Fin 2) => Fin.ext ((block_6 t y a).trans ?_)
    match a with
    | ⟨0, _⟩ => exact h0
    | ⟨1, _⟩ => exact h1
  rw [← e]
  exact View.emb_mem_set (v := ((cfg0.win 6).blk t).view) y

theorem covered_6 (i : S32768x1024.Idx) : ∃ t : Fin cfg0.N, (cfg0.win 6).flush t = true ∧ i ∈ ((cfg0.win 6).blk t).view.set :=
  ⟨pointOf (i 0), flush0_6 _, covered_at_6 _ (ix2 (n1 := 1024) (placeOf (i 0)) (i 1)) i
    (by show 512 * ((i 0).val / 512) + (i 0).val % 512 = (i 0).val; omega) rfl⟩

theorem final_6 (c : Dev nD) : (dats m 0 c).arrAt 6 cfg0.N = outLat (aH m c) (aW m c) := by
  refine (dats m 0 c).arrAt_eq_of_cover 6 (outLat (aH m c) (aW m c)) (fun t _ => funext fun y => ?_) covered_6
  show (dats m 0 c).after 6 t y = outLat (aH m c) (aW m c) (((cfg0.win 6).rect t).emb y)
  rw [after0_6]
  have h0 := block_6 t y (0 : Fin 2)
  have h1 := block_6 t y (1 : Fin 2)
  have hp : (y 0).val < 512 := (y 0).isLt
  have ht := point_lt t
  have ey : y = ix2 (n1 := 1024) (y 0) (y 1) := funext fun a => by match a with | ⟨0, _⟩ => rfl | ⟨1, _⟩ => rfl
  refine (congrArg _ ey).trans ((blk_6 m c t (y 0) (y 1) ⟨512 * t.val + (y 0).val, by omega⟩ rfl).trans (congrArg (outLat (aH m c) (aW m c)) ?_))
  refine funext fun (a : Fin 2) => Fin.ext ?_
  match a with
  | ⟨0, _⟩ => exact h0.symm
  | ⟨1, _⟩ => exact h1.symm

/-! ### Result 2 -/

theorem blk_7 (c : Dev nD) (t : Fin cfg0.N) (p : Fin 512) (j : Fin 512) (r : Fin 32768) (hr : r.val = 512 * t.val + p.val) :
    out0_7 (F := Ideal) (iblk m c 0 t) (iblk m c 1 t) (iblk m c 2 t) (iblk m c 3 t) (iblk m c 4 t) (ix2 p j) = outIdx (aH m c) (aW m c) (ix2 r j) := by
  unfold out0_7
  rw [View.canon_unit_zero (by decide), View.ld_unit_zero (by decide), View.ld_unit_zero (by decide)]
  refine (pay7_apply _ _ p j).trans (prod_congr (fun k => iblk_0 m c t (ix2 p k) r hr) (fun k => iblk_2 m c t (ix2 k _)))

theorem block_7 (t : Fin cfg0.N) (y : S512x512.Idx) (a : Fin 2) :
    ((((cfg0.win 7).rect t).emb y) a).val = match a with | ⟨0, _⟩ => 512 * t.val + (y 0).val | ⟨1, _⟩ => (y 1).val := by
  rw [Pipeline.Window.rect_emb_val (cfg0.win 7) t y a]
  match a with
  | ⟨0, _⟩ =>
    show (BitVec.ofNat 32 ((grid0.coords t) 0).val).toNat * 512 + (y 0).val = 512 * t.val + (y 0).val
    rw [coord, BitVec.toNat_ofNat]
    have := point_lt t
    omega
  | ⟨1, _⟩ => show 0 * 512 + (y 1).val = (y 1).val; omega

theorem covered_at_7 (t : Fin cfg0.N) (y : S512x512.Idx) (i : S32768x512.Idx) (h0 : 512 * t.val + (y 0).val = (i 0).val)
    (h1 : (y 1).val = (i 1).val) : i ∈ ((cfg0.win 7).blk t).view.set := by
  have e : (((cfg0.win 7).rect t).emb y) = i := by
    refine funext fun (a : Fin 2) => Fin.ext ((block_7 t y a).trans ?_)
    match a with
    | ⟨0, _⟩ => exact h0
    | ⟨1, _⟩ => exact h1
  rw [← e]
  exact View.emb_mem_set (v := ((cfg0.win 7).blk t).view) y

theorem covered_7 (i : S32768x512.Idx) : ∃ t : Fin cfg0.N, (cfg0.win 7).flush t = true ∧ i ∈ ((cfg0.win 7).blk t).view.set :=
  ⟨pointOf (i 0), flush0_7 _, covered_at_7 _ (ix2 (n1 := 512) (placeOf (i 0)) (i 1)) i
    (by show 512 * ((i 0).val / 512) + (i 0).val % 512 = (i 0).val; omega) rfl⟩

theorem final_7 (c : Dev nD) : (dats m 0 c).arrAt 7 cfg0.N = outIdx (aH m c) (aW m c) := by
  refine (dats m 0 c).arrAt_eq_of_cover 7 (outIdx (aH m c) (aW m c)) (fun t _ => funext fun y => ?_) covered_7
  show (dats m 0 c).after 7 t y = outIdx (aH m c) (aW m c) (((cfg0.win 7).rect t).emb y)
  rw [after0_7]
  have h0 := block_7 t y (0 : Fin 2)
  have h1 := block_7 t y (1 : Fin 2)
  have hp : (y 0).val < 512 := (y 0).isLt
  have ht := point_lt t
  have ey : y = ix2 (n1 := 512) (y 0) (y 1) := funext fun a => by match a with | ⟨0, _⟩ => rfl | ⟨1, _⟩ => rfl
  refine (congrArg _ ey).trans ((blk_7 m c t (y 0) (y 1) ⟨512 * t.val + (y 0).val, by omega⟩ rfl).trans (congrArg (outIdx (aH m c) (aW m c)) ?_))
  refine funext fun (a : Fin 2) => Fin.ext ?_
  match a with
  | ⟨0, _⟩ => exact h0.symm
  | ⟨1, _⟩ => exact h1.symm

/-! ### Result 3 -/

theorem blk_8 (c : Dev nD) (t : Fin cfg0.N) (p : Fin 512) (j : Fin 512) (r : Fin 32768) (hr : r.val = 512 * t.val + p.val) :
    out0_8 (F := Ideal) (iblk m c 0 t) (iblk m c 1 t) (iblk m c 2 t) (iblk m c 3 t) (iblk m c 4 t) (ix2 p j) = outMem (aH m c) (aW m c) (ix2 r j) := by
  unfold out0_8
  rw [View.canon_unit_zero (by decide), View.ld_unit_zero (by decide), View.ld_unit_zero (by decide)]
  refine (pay8_apply _ _ p j).trans (prod_congr (fun k => iblk_0 m c t (ix2 p k) r hr) (fun k => iblk_2 m c t (ix2 k _)))

theorem block_8 (t : Fin cfg0.N) (y : S512x512.Idx) (a : Fin 2) :
    ((((cfg0.win 8).rect t).emb y) a).val = match a with | ⟨0, _⟩ => 512 * t.val + (y 0).val | ⟨1, _⟩ => (y 1).val := by
  rw [Pipeline.Window.rect_emb_val (cfg0.win 8) t y a]
  match a with
  | ⟨0, _⟩ =>
    show (BitVec.ofNat 32 ((grid0.coords t) 0).val).toNat * 512 + (y 0).val = 512 * t.val + (y 0).val
    rw [coord, BitVec.toNat_ofNat]
    have := point_lt t
    omega
  | ⟨1, _⟩ => show 0 * 512 + (y 1).val = (y 1).val; omega

theorem covered_at_8 (t : Fin cfg0.N) (y : S512x512.Idx) (i : S32768x512.Idx) (h0 : 512 * t.val + (y 0).val = (i 0).val)
    (h1 : (y 1).val = (i 1).val) : i ∈ ((cfg0.win 8).blk t).view.set := by
  have e : (((cfg0.win 8).rect t).emb y) = i := by
    refine funext fun (a : Fin 2) => Fin.ext ((block_8 t y a).trans ?_)
    match a with
    | ⟨0, _⟩ => exact h0
    | ⟨1, _⟩ => exact h1
  rw [← e]
  exact View.emb_mem_set (v := ((cfg0.win 8).blk t).view) y

theorem covered_8 (i : S32768x512.Idx) : ∃ t : Fin cfg0.N, (cfg0.win 8).flush t = true ∧ i ∈ ((cfg0.win 8).blk t).view.set :=
  ⟨pointOf (i 0), flush0_8 _, covered_at_8 _ (ix2 (n1 := 512) (placeOf (i 0)) (i 1)) i
    (by show 512 * ((i 0).val / 512) + (i 0).val % 512 = (i 0).val; omega) rfl⟩

theorem final_8 (c : Dev nD) : (dats m 0 c).arrAt 8 cfg0.N = outMem (aH m c) (aW m c) := by
  refine (dats m 0 c).arrAt_eq_of_cover 8 (outMem (aH m c) (aW m c)) (fun t _ => funext fun y => ?_) covered_8
  show (dats m 0 c).after 8 t y = outMem (aH m c) (aW m c) (((cfg0.win 8).rect t).emb y)
  rw [after0_8]
  have h0 := block_8 t y (0 : Fin 2)
  have h1 := block_8 t y (1 : Fin 2)
  have hp : (y 0).val < 512 := (y 0).isLt
  have ht := point_lt t
  have ey : y = ix2 (n1 := 512) (y 0) (y 1) := funext fun a => by match a with | ⟨0, _⟩ => rfl | ⟨1, _⟩ => rfl
  refine (congrArg _ ey).trans ((blk_8 m c t (y 0) (y 1) ⟨512 * t.val + (y 0).val, by omega⟩ rfl).trans (congrArg (outMem (aH m c) (aW m c)) ?_))
  refine funext fun (a : Fin 2) => Fin.ext ?_
  match a with
  | ⟨0, _⟩ => exact h0.symm
  | ⟨1, _⟩ => exact h1.symm

/-! ### Result 4 -/

theorem blk_9 (c : Dev nD) (t : Fin cfg0.N) (p : Fin 512) (j : Fin 128) (r : Fin 32768) (hr : r.val = 512 * t.val + p.val) :
    out0_9 (F := Ideal) (iblk m c 0 t) (iblk m c 1 t) (iblk m c 2 t) (iblk m c 3 t) (iblk m c 4 t) (ix2 p j) = outKey (aH m c) (aW m c) (ix2 r j) := by
  unfold out0_9
  rw [View.canon_unit_zero (by decide), View.ld_unit_zero (by decide), View.ld_unit_zero (by decide)]
  refine (pay9_apply _ _ p j).trans (prod_congr (fun k => iblk_0 m c t (ix2 p k) r hr) (fun k => iblk_2 m c t (ix2 k _)))

theorem block_9 (t : Fin cfg0.N) (y : S512x128.Idx) (a : Fin 2) :
    ((((cfg0.win 9).rect t).emb y) a).val = match a with | ⟨0, _⟩ => 512 * t.val + (y 0).val | ⟨1, _⟩ => (y 1).val := by
  rw [Pipeline.Window.rect_emb_val (cfg0.win 9) t y a]
  match a with
  | ⟨0, _⟩ =>
    show (BitVec.ofNat 32 ((grid0.coords t) 0).val).toNat * 512 + (y 0).val = 512 * t.val + (y 0).val
    rw [coord, BitVec.toNat_ofNat]
    have := point_lt t
    omega
  | ⟨1, _⟩ => show 0 * 128 + (y 1).val = (y 1).val; omega

theorem covered_at_9 (t : Fin cfg0.N) (y : S512x128.Idx) (i : S32768x128.Idx) (h0 : 512 * t.val + (y 0).val = (i 0).val)
    (h1 : (y 1).val = (i 1).val) : i ∈ ((cfg0.win 9).blk t).view.set := by
  have e : (((cfg0.win 9).rect t).emb y) = i := by
    refine funext fun (a : Fin 2) => Fin.ext ((block_9 t y a).trans ?_)
    match a with
    | ⟨0, _⟩ => exact h0
    | ⟨1, _⟩ => exact h1
  rw [← e]
  exact View.emb_mem_set (v := ((cfg0.win 9).blk t).view) y

theorem covered_9 (i : S32768x128.Idx) : ∃ t : Fin cfg0.N, (cfg0.win 9).flush t = true ∧ i ∈ ((cfg0.win 9).blk t).view.set :=
  ⟨pointOf (i 0), flush0_9 _, covered_at_9 _ (ix2 (n1 := 128) (placeOf (i 0)) (i 1)) i
    (by show 512 * ((i 0).val / 512) + (i 0).val % 512 = (i 0).val; omega) rfl⟩

theorem final_9 (c : Dev nD) : (dats m 0 c).arrAt 9 cfg0.N = outKey (aH m c) (aW m c) := by
  refine (dats m 0 c).arrAt_eq_of_cover 9 (outKey (aH m c) (aW m c)) (fun t _ => funext fun y => ?_) covered_9
  show (dats m 0 c).after 9 t y = outKey (aH m c) (aW m c) (((cfg0.win 9).rect t).emb y)
  rw [after0_9]
  have h0 := block_9 t y (0 : Fin 2)
  have h1 := block_9 t y (1 : Fin 2)
  have hp : (y 0).val < 512 := (y 0).isLt
  have ht := point_lt t
  have ey : y = ix2 (n1 := 128) (y 0) (y 1) := funext fun a => by match a with | ⟨0, _⟩ => rfl | ⟨1, _⟩ => rfl
  refine (congrArg _ ey).trans ((blk_9 m c t (y 0) (y 1) ⟨512 * t.val + (y 0).val, by omega⟩ rfl).trans (congrArg (outKey (aH m c) (aW m c)) ?_))
  refine funext fun (a : Fin 2) => Fin.ext ?_
  match a with
  | ⟨0, _⟩ => exact h0.symm
  | ⟨1, _⟩ => exact h1.symm

/-! ### Result 5 -/

theorem blk_10 (c : Dev nD) (t : Fin cfg0.N) (p : Fin 512) (j : Fin 128) (r : Fin 32768) (hr : r.val = 512 * t.val + p.val) :
    out0_10 (F := Ideal) (iblk m c 0 t) (iblk m c 1 t) (iblk m c 2 t) (iblk m c 3 t) (iblk m c 4 t) (ix2 p j) = outC (aH m c) (aW m c) (aG m c) (ix2 r j) := by
  unfold out0_10
  rw [View.canon_unit_zero (by decide), View.ld_unit_zero (by decide), View.ld_unit_zero (by decide), View.ld_unit_zero (by decide)]
  have hv : ∀ k : Fin 128, k0_pay11 (F := Ideal) (iblk m c 0 t) (iblk m c 3 t) (ix2 p k) = prod (aH m c) (wM (aW m c)) r (⟨k.val, by omega⟩ : Fin 256) :=
    fun k => (pay11_apply _ _ p k).trans (prod_congr (fun k => iblk_0 m c t (ix2 p k) r hr) (fun k => iblk_3 m c t (ix2 k _)))
  refine (pay1_apply _ _ _ _ p j).trans ?_
  rw [pay12_apply, gain_apply]
  simp only [hv]
  rfl

theorem block_10 (t : Fin cfg0.N) (y : S512x128.Idx) (a : Fin 2) :
    ((((cfg0.win 10).rect t).emb y) a).val = match a with | ⟨0, _⟩ => 512 * t.val + (y 0).val | ⟨1, _⟩ => (y 1).val := by
  rw [Pipeline.Window.rect_emb_val (cfg0.win 10) t y a]
  match a with
  | ⟨0, _⟩ =>
    show (BitVec.ofNat 32 ((grid0.coords t) 0).val).toNat * 512 + (y 0).val = 512 * t.val + (y 0).val
    rw [coord, BitVec.toNat_ofNat]
    have := point_lt t
    omega
  | ⟨1, _⟩ => show 0 * 128 + (y 1).val = (y 1).val; omega

theorem covered_at_10 (t : Fin cfg0.N) (y : S512x128.Idx) (i : S32768x128.Idx) (h0 : 512 * t.val + (y 0).val = (i 0).val)
    (h1 : (y 1).val = (i 1).val) : i ∈ ((cfg0.win 10).blk t).view.set := by
  have e : (((cfg0.win 10).rect t).emb y) = i := by
    refine funext fun (a : Fin 2) => Fin.ext ((block_10 t y a).trans ?_)
    match a with
    | ⟨0, _⟩ => exact h0
    | ⟨1, _⟩ => exact h1
  rw [← e]
  exact View.emb_mem_set (v := ((cfg0.win 10).blk t).view) y

theorem covered_10 (i : S32768x128.Idx) : ∃ t : Fin cfg0.N, (cfg0.win 10).flush t = true ∧ i ∈ ((cfg0.win 10).blk t).view.set :=
  ⟨pointOf (i 0), flush0_10 _, covered_at_10 _ (ix2 (n1 := 128) (placeOf (i 0)) (i 1)) i
    (by show 512 * ((i 0).val / 512) + (i 0).val % 512 = (i 0).val; omega) rfl⟩

theorem final_10 (c : Dev nD) : (dats m 0 c).arrAt 10 cfg0.N = outC (aH m c) (aW m c) (aG m c) := by
  refine (dats m 0 c).arrAt_eq_of_cover 10 (outC (aH m c) (aW m c) (aG m c)) (fun t _ => funext fun y => ?_) covered_10
  show (dats m 0 c).after 10 t y = outC (aH m c) (aW m c) (aG m c) (((cfg0.win 10).rect t).emb y)
  rw [after0_10]
  have h0 := block_10 t y (0 : Fin 2)
  have h1 := block_10 t y (1 : Fin 2)
  have hp : (y 0).val < 512 := (y 0).isLt
  have ht := point_lt t
  have ey : y = ix2 (n1 := 128) (y 0) (y 1) := funext fun a => by match a with | ⟨0, _⟩ => rfl | ⟨1, _⟩ => rfl
  refine (congrArg _ ey).trans ((blk_10 m c t (y 0) (y 1) ⟨512 * t.val + (y 0).val, by omega⟩ rfl).trans (congrArg (outC (aH m c) (aW m c) (aG m c)) ?_))
  refine funext fun (a : Fin 2) => Fin.ext ?_
  match a with
  | ⟨0, _⟩ => exact h0.symm
  | ⟨1, _⟩ => exact h1.symm

/-! ### Result 6 -/

theorem blk_11 (c : Dev nD) (t : Fin cfg0.N) (p : Fin 512) (j : Fin 128) (r : Fin 32768) (hr : r.val = 512 * t.val + p.val) :
    out0_11 (F := Ideal) (iblk m c 0 t) (iblk m c 1 t) (iblk m c 2 t) (iblk m c 3 t) (iblk m c 4 t) (ix2 p j) = outStep (aH m c) (aW m c) (ix2 r j) := by
  unfold out0_11
  rw [View.canon_unit_zero (by decide), View.ld_unit_zero (by decide), View.ld_unit_zero (by decide)]
  refine (pay2_apply _ _ p j).trans (prod_congr (fun k => iblk_0 m c t (ix2 p k) r hr) (fun k => iblk_3 m c t (ix2 k _)))

theorem block_11 (t : Fin cfg0.N) (y : S512x128.Idx) (a : Fin 2) :
    ((((cfg0.win 11).rect t).emb y) a).val = match a with | ⟨0, _⟩ => 512 * t.val + (y 0).val | ⟨1, _⟩ => (y 1).val := by
  rw [Pipeline.Window.rect_emb_val (cfg0.win 11) t y a]
  match a with
  | ⟨0, _⟩ =>
    show (BitVec.ofNat 32 ((grid0.coords t) 0).val).toNat * 512 + (y 0).val = 512 * t.val + (y 0).val
    rw [coord, BitVec.toNat_ofNat]
    have := point_lt t
    omega
  | ⟨1, _⟩ => show 0 * 128 + (y 1).val = (y 1).val; omega

theorem covered_at_11 (t : Fin cfg0.N) (y : S512x128.Idx) (i : S32768x128.Idx) (h0 : 512 * t.val + (y 0).val = (i 0).val)
    (h1 : (y 1).val = (i 1).val) : i ∈ ((cfg0.win 11).blk t).view.set := by
  have e : (((cfg0.win 11).rect t).emb y) = i := by
    refine funext fun (a : Fin 2) => Fin.ext ((block_11 t y a).trans ?_)
    match a with
    | ⟨0, _⟩ => exact h0
    | ⟨1, _⟩ => exact h1
  rw [← e]
  exact View.emb_mem_set (v := ((cfg0.win 11).blk t).view) y

theorem covered_11 (i : S32768x128.Idx) : ∃ t : Fin cfg0.N, (cfg0.win 11).flush t = true ∧ i ∈ ((cfg0.win 11).blk t).view.set :=
  ⟨pointOf (i 0), flush0_11 _, covered_at_11 _ (ix2 (n1 := 128) (placeOf (i 0)) (i 1)) i
    (by show 512 * ((i 0).val / 512) + (i 0).val % 512 = (i 0).val; omega) rfl⟩

theorem final_11 (c : Dev nD) : (dats m 0 c).arrAt 11 cfg0.N = outStep (aH m c) (aW m c) := by
  refine (dats m 0 c).arrAt_eq_of_cover 11 (outStep (aH m c) (aW m c)) (fun t _ => funext fun y => ?_) covered_11
  show (dats m 0 c).after 11 t y = outStep (aH m c) (aW m c) (((cfg0.win 11).rect t).emb y)
  rw [after0_11]
  have h0 := block_11 t y (0 : Fin 2)
  have h1 := block_11 t y (1 : Fin 2)
  have hp : (y 0).val < 512 := (y 0).isLt
  have ht := point_lt t
  have ey : y = ix2 (n1 := 128) (y 0) (y 1) := funext fun a => by match a with | ⟨0, _⟩ => rfl | ⟨1, _⟩ => rfl
  refine (congrArg _ ey).trans ((blk_11 m c t (y 0) (y 1) ⟨512 * t.val + (y 0).val, by omega⟩ rfl).trans (congrArg (outStep (aH m c) (aW m c)) ?_))
  refine funext fun (a : Fin 2) => Fin.ext ?_
  match a with
  | ⟨0, _⟩ => exact h0.symm
  | ⟨1, _⟩ => exact h1.symm

end Cert.Projection

end
-- ==== Proof.ProjectionTail.lean ====
/-
  The projection's results as the program returns them: cut out of the grid's seven results.
-/
module

public import proofs.«01_k».proof.Proof.ProjectionBlocks

@[expose] public section

noncomputable section

namespace Cert.Projection

open Cert.Kernel3Ideal Cert.Kernel3Ideal.Gen
open Idealize.ShloMosaic Idealize.ShloMosaic.TcCoe
open Idealize.SL Idealize.SL.Sem

/-! ## The operations after the grid -/

/-- The indexer queries head by head, the first 64 of each head's columns. -/
def heads (X : S32768x512.Idx → EReal) : S32768x4x64.Idx → EReal :=
  extf (F := Ideal) (φ := .bf16) .f32 (extractStridedSlice S32768x4x64 ![0, 0, 0] (shapeCast S32768x4x128 X shapeCasts_S32768x512_S32768x4x128) slices_S32768x4x128_S32768x4x64_0_0_0) bitsLt_bf16_f32

section
variable (U : Valuation τ sig (Elt Ideal))

set_option maxHeartbeats 2000000 in
theorem after_v26 : StableHlo.after hostOps1 U (Proc.devRef .tc main_v26)
    = extractStridedSlice S32768x1024 ![0, 0] (U (Proc.devRef .tc main_v23_0) : S32768x2560.Idx → EReal) slices_S32768x2560_S32768x1024_0_0 := by
  unfold hostOps1
  after_results_simp <;> rfl

set_option maxHeartbeats 2000000 in
theorem after_v27 : StableHlo.after hostOps1 U (Proc.devRef .tc main_v27)
    = extractStridedSlice S32768x1536 ![0, 1024] (U (Proc.devRef .tc main_v23_0) : S32768x2560.Idx → EReal) slices_S32768x2560_S32768x1536_0_1024 := by
  unfold hostOps1
  after_results_simp <;> rfl

set_option maxHeartbeats 2000000 in
theorem after_v28 : StableHlo.after hostOps1 U (Proc.devRef .tc main_v28)
    = extractStridedSlice S32768x16 ![0, 0] (U (Proc.devRef .tc main_v23_6) : S32768x128.Idx → EReal) slices_S32768x128_S32768x16_0_0 := by
  unfold hostOps1
  after_results_simp <;> rfl

set_option maxHeartbeats 2000000 in
theorem after_v29 : StableHlo.after hostOps1 U (Proc.devRef .tc main_v29)
    = extf (F := Ideal) (φ := .bf16) .f32 (U (Proc.devRef .tc main_v23_1) : S32768x1024.Idx → EReal) bitsLt_bf16_f32 := by
  unfold hostOps1
  after_results_simp <;> rfl

set_option maxHeartbeats 2000000 in
theorem after_v30 : StableHlo.after hostOps1 U (Proc.devRef .tc main_v30)
    = extf (F := Ideal) (φ := .bf16) .f32 (U (Proc.devRef .tc main_v23_5) : S32768x128.Idx → EReal) bitsLt_bf16_f32 := by
  unfold hostOps1
  after_results_simp <;> rfl

set_option maxHeartbeats 2000000 in
theorem after_v31 : StableHlo.after hostOps1 U (Proc.devRef .tc main_v31)
    = heads (U (Proc.devRef .tc main_v23_2) : S32768x512.Idx → EReal) := by
  unfold hostOps1
  after_results_simp <;> rfl

set_option maxHeartbeats 2000000 in
theorem after_v33 : StableHlo.after hostOps1 U (Proc.devRef .tc main_v33)
    = extf (F := Ideal) (φ := .bf16) .f32 (extractStridedSlice S32768x64 ![0, 0] (U (Proc.devRef .tc main_v23_4) : S32768x128.Idx → EReal) slices_S32768x128_S32768x64_0_0) bitsLt_bf16_f32 := by
  unfold hostOps1
  after_results_simp <;> rfl

set_option maxHeartbeats 2000000 in
theorem after_v34 : StableHlo.after hostOps1 U (Proc.devRef .tc main_v34)
    = extractStridedSlice S32768x4 ![0, 16] (U (Proc.devRef .tc main_v23_6) : S32768x128.Idx → EReal) slices_S32768x128_S32768x4_0_16 := by
  unfold hostOps1
  after_results_simp <;> rfl

set_option maxHeartbeats 2000000 in
theorem after_v35 : StableHlo.after hostOps1 U (Proc.devRef .tc main_v35)
    = extf (F := Ideal) (φ := .bf16) .f32 (U (Proc.devRef .tc main_v23_3) : S32768x512.Idx → EReal) bitsLt_bf16_f32 := by
  unfold hostOps1
  after_results_simp <;> rfl

end

/-! ## The results -/

variable (m : (ℓ : Loc nD τ sig) → Buf (Elt Ideal) ℓ)

set_option maxHeartbeats 4000000 in
theorem res_v26 (c : Dev nD) : Pipeline.afterTail₀ cfgs (dats m) 0 (V0 m) [hostOps1] c main_v26
    = extractStridedSlice S32768x1024 ![0, 0] (outZ (aH m c) (aW m c)) slices_S32768x2560_S32768x1024_0_0 := by
  unfold Pipeline.afterTail₀
  simp only [List.flatten_cons, List.flatten_nil, List.append_nil]
  refine (after_v26 _).trans (congrArg (fun X : S32768x2560.Idx → EReal => extractStridedSlice S32768x1024 ![0, 0] (X) slices_S32768x2560_S32768x1024_0_0) ?_)
  exact (Pipeline.withArrays_arr spec0 launch0.win.arr_inj c (V0 m c) _ 5).trans (final_5 m c)

set_option maxHeartbeats 4000000 in
theorem res_v27 (c : Dev nD) : Pipeline.afterTail₀ cfgs (dats m) 0 (V0 m) [hostOps1] c main_v27
    = extractStridedSlice S32768x1536 ![0, 1024] (outZ (aH m c) (aW m c)) slices_S32768x2560_S32768x1536_0_1024 := by
  unfold Pipeline.afterTail₀
  simp only [List.flatten_cons, List.flatten_nil, List.append_nil]
  refine (after_v27 _).trans (congrArg (fun X : S32768x2560.Idx → EReal => extractStridedSlice S32768x1536 ![0, 1024] (X) slices_S32768x2560_S32768x1536_0_1024) ?_)
  exact (Pipeline.withArrays_arr spec0 launch0.win.arr_inj c (V0 m c) _ 5).trans (final_5 m c)

set_option maxHeartbeats 4000000 in
theorem res_v28 (c : Dev nD) : Pipeline.afterTail₀ cfgs (dats m) 0 (V0 m) [hostOps1] c main_v28
    = extractStridedSlice S32768x16 ![0, 0] (outStep (aH m c) (aW m c)) slices_S32768x128_S32768x16_0_0 := by
  unfold Pipeline.afterTail₀
  simp only [List.flatten_cons, List.flatten_nil, List.append_nil]
  refine (after_v28 _).trans (congrArg (fun X : S32768x128.Idx → EReal => extractStridedSlice S32768x16 ![0, 0] (X) slices_S32768x128_S32768x16_0_0) ?_)
  exact (Pipeline.withArrays_arr spec0 launch0.win.arr_inj c (V0 m c) _ 11).trans (final_11 m c)

set_option maxHeartbeats 4000000 in
theorem res_v29 (c : Dev nD) : Pipeline.afterTail₀ cfgs (dats m) 0 (V0 m) [hostOps1] c main_v29
    = extf (F := Ideal) (φ := .bf16) .f32 (outLat (aH m c) (aW m c)) bitsLt_bf16_f32 := by
  unfold Pipeline.afterTail₀
  simp only [List.flatten_cons, List.flatten_nil, List.append_nil]
  refine (after_v29 _).trans (congrArg (fun X : S32768x1024.Idx → EReal => extf (F := Ideal) (φ := .bf16) .f32 (X) bitsLt_bf16_f32) ?_)
  exact (Pipeline.withArrays_arr spec0 launch0.win.arr_inj c (V0 m c) _ 6).trans (final_6 m c)

set_option maxHeartbeats 4000000 in
theorem res_v30 (c : Dev nD) : Pipeline.afterTail₀ cfgs (dats m) 0 (V0 m) [hostOps1] c main_v30
    = extf (F := Ideal) (φ := .bf16) .f32 (outC (aH m c) (aW m c) (aG m c)) bitsLt_bf16_f32 := by
  unfold Pipeline.afterTail₀
  simp only [List.flatten_cons, List.flatten_nil, List.append_nil]
  refine (after_v30 _).trans (congrArg (fun X : S32768x128.Idx → EReal => extf (F := Ideal) (φ := .bf16) .f32 (X) bitsLt_bf16_f32) ?_)
  exact (Pipeline.withArrays_arr spec0 launch0.win.arr_inj c (V0 m c) _ 10).trans (final_10 m c)

set_option maxHeartbeats 4000000 in
theorem res_v31 (c : Dev nD) : Pipeline.afterTail₀ cfgs (dats m) 0 (V0 m) [hostOps1] c main_v31
    = heads (outIdx (aH m c) (aW m c)) := by
  unfold Pipeline.afterTail₀
  simp only [List.flatten_cons, List.flatten_nil, List.append_nil]
  refine (after_v31 _).trans (congrArg (fun X : S32768x512.Idx → EReal => heads (X)) ?_)
  exact (Pipeline.withArrays_arr spec0 launch0.win.arr_inj c (V0 m c) _ 7).trans (final_7 m c)

set_option maxHeartbeats 4000000 in
theorem res_v33 (c : Dev nD) : Pipeline.afterTail₀ cfgs (dats m) 0 (V0 m) [hostOps1] c main_v33
    = extf (F := Ideal) (φ := .bf16) .f32 (extractStridedSlice S32768x64 ![0, 0] (outKey (aH m c) (aW m c)) slices_S32768x128_S32768x64_0_0) bitsLt_bf16_f32 := by
  unfold Pipeline.afterTail₀
  simp only [List.flatten_cons, List.flatten_nil, List.append_nil]
  refine (after_v33 _).trans (congrArg (fun X : S32768x128.Idx → EReal => extf (F := Ideal) (φ := .bf16) .f32 (extractStridedSlice S32768x64 ![0, 0] (X) slices_S32768x128_S32768x64_0_0) bitsLt_bf16_f32) ?_)
  exact (Pipeline.withArrays_arr spec0 launch0.win.arr_inj c (V0 m c) _ 9).trans (final_9 m c)

set_option maxHeartbeats 4000000 in
theorem res_v34 (c : Dev nD) : Pipeline.afterTail₀ cfgs (dats m) 0 (V0 m) [hostOps1] c main_v34
    = extractStridedSlice S32768x4 ![0, 16] (outStep (aH m c) (aW m c)) slices_S32768x128_S32768x4_0_16 := by
  unfold Pipeline.afterTail₀
  simp only [List.flatten_cons, List.flatten_nil, List.append_nil]
  refine (after_v34 _).trans (congrArg (fun X : S32768x128.Idx → EReal => extractStridedSlice S32768x4 ![0, 16] (X) slices_S32768x128_S32768x4_0_16) ?_)
  exact (Pipeline.withArrays_arr spec0 launch0.win.arr_inj c (V0 m c) _ 11).trans (final_11 m c)

set_option maxHeartbeats 4000000 in
theorem res_v35 (c : Dev nD) : Pipeline.afterTail₀ cfgs (dats m) 0 (V0 m) [hostOps1] c main_v35
    = extf (F := Ideal) (φ := .bf16) .f32 (outMem (aH m c) (aW m c)) bitsLt_bf16_f32 := by
  unfold Pipeline.afterTail₀
  simp only [List.flatten_cons, List.flatten_nil, List.append_nil]
  refine (after_v35 _).trans (congrArg (fun X : S32768x512.Idx → EReal => extf (F := Ideal) (φ := .bf16) .f32 (X) bitsLt_bf16_f32) ?_)
  exact (Pipeline.withArrays_arr spec0 launch0.win.arr_inj c (V0 m c) _ 8).trans (final_8 m c)

theorem rest_v26 : main_v26 ∈ Pipeline.restRefs sig spec0 := Pipeline.mem_restRefs_of main_v26 (by decide) (by decide)
theorem rest_v27 : main_v27 ∈ Pipeline.restRefs sig spec0 := Pipeline.mem_restRefs_of main_v27 (by decide) (by decide)
theorem rest_v28 : main_v28 ∈ Pipeline.restRefs sig spec0 := Pipeline.mem_restRefs_of main_v28 (by decide) (by decide)
theorem rest_v29 : main_v29 ∈ Pipeline.restRefs sig spec0 := Pipeline.mem_restRefs_of main_v29 (by decide) (by decide)
theorem rest_v30 : main_v30 ∈ Pipeline.restRefs sig spec0 := Pipeline.mem_restRefs_of main_v30 (by decide) (by decide)
theorem rest_v31 : main_v31 ∈ Pipeline.restRefs sig spec0 := Pipeline.mem_restRefs_of main_v31 (by decide) (by decide)
theorem rest_v33 : main_v33 ∈ Pipeline.restRefs sig spec0 := Pipeline.mem_restRefs_of main_v33 (by decide) (by decide)
theorem rest_v34 : main_v34 ∈ Pipeline.restRefs sig spec0 := Pipeline.mem_restRefs_of main_v34 (by decide) (by decide)
theorem rest_v35 : main_v35 ∈ Pipeline.restRefs sig spec0 := Pipeline.mem_restRefs_of main_v35 (by decide) (by decide)

end Cert.Projection

end
-- ==== Proof.ProjectionRef.lean ====
/-
  The projection's reference read at one element.
-/
module

public import proofs.«01_k».proof.Proof.ProjectionBlocks
public import proofs.«01_k».proof.Proof.Gen.Reference3Ideal.Run

@[expose] public section

noncomputable section

namespace Cert.Projection

open Cert.Reference3Ideal Cert.Reference3Ideal.Gen
open Idealize.ShloMosaic Idealize.ShloMosaic.TcCoe
open Cert.Experts (rows_sum)

/-- The rows times the weights. -/
def refAll (h : FVec Ideal S32768x1024 .f32) (w : FVec Ideal S1024x4564 .f32) : FVec Ideal S32768x4564 .f32 :=
  Host.dotGeneral dot_S32768x1024_S1024x4564_S32768x4564_1_0_0_1_n_n none h w

theorem refAll_apply (h : FVec Ideal S32768x1024 .f32) (w : FVec Ideal S1024x4564 .f32) (r : Fin 32768) (q : Fin 4564) :
    refAll h w (ix2 r q) = prod h w r q := by
  unfold refAll Host.dotGeneral prod
  rw [Ideal.dotGeneral_apply]
  exact rows_sum (M := 32768) (K := 1024) (N := 4564) dot_S32768x1024_S1024x4564_S32768x4564_1_0_0_1_n_n.wf _ _ r q

/-- The norm of the rows of an array, as the reference's operations have it. -/
def refNorm (s : FVec Ideal S32768x128 .f32) (g : FVec Ideal S128 .f32) : FVec Ideal S32768x128 .f32 :=
  mulf (mulf s (broadcastInDim S32768x128 ![0, 1] bcast_S32768x1_S32768x128_0_1 (Host.rsqrt (addf (Host.divf
    (broadcastInDim S32768x1 ![0] bcast_S32768_S32768x1_0 (Host.reduceAdd (mulf s s) (constant S_ .f32 0x00000000#32) reducesTo_S32768x128_S32768_d1 h_S_))
    (broadcastInDim S32768x1 ![] bcast_S_S32768x1 (constant S_ .f32 0x43000000#32))) (broadcastInDim S32768x1 ![] bcast_S_S32768x1 (constant S_ .f32 0x358637BD#32))))))
    (broadcastInDim S32768x128 ![0, 1] bcast_S1x128_S32768x128_0_1 (broadcastInDim S1x128 ![1] bcast_S128_S1x128_1 g))

theorem refSum_apply (v : FVec Ideal S32768x128 .f32) (r : Fin 32768) :
    Host.reduceAdd v (constant S_ .f32 0x00000000#32) reducesTo_S32768x128_S32768_d1 h_S_ (fun | ⟨0, _⟩ => r : S32768.Idx)
      = ∑ k : Fin 128, v (ix2 r k) := by
  show Ideal.hostReduceAdd reducesTo_S32768x128_S32768_d1 v (FloatOps.ofBits .f32 0x00000000#32 : Ideal .f32) _ = _
  rw [Ideal.hostReduceAdd_r2_a1 (n0 := 32768) (n1 := 128) (t := S32768) reducesTo_S32768x128_S32768_d1 v _ _]
  refine (congrArg₂ (fun a b : EReal => a + b) Ideal.ofBits_zero_f32 (Finset.sum_congr rfl fun k _ => ?_)).trans (zero_add _)
  exact congrArg v (funext fun a => by match a with | ⟨0, _⟩ => rfl | ⟨1, _⟩ => rfl)

theorem refNorm_apply (s : FVec Ideal S32768x128 .f32) (g : FVec Ideal S128 .f32) (r : Fin 32768) (j : Fin 128) :
    refNorm s g (ix2 r j) = rms (fun k => s (ix2 r k)) (g (fun | ⟨0, _⟩ => j)) j := by
  unfold refNorm rms
  refine congrArg₂ (fun a b : EReal => a * b) (congrArg₂ (fun a b : EReal => a * b) rfl ?_) ?_
  · refine (broadcastInDim_apply _ _ _ _ (ix2 r (0 : Fin 1)) (fun a => by match a with | ⟨0, _⟩ => rfl | ⟨1, _⟩ => rfl)).trans ?_
    refine congrArg (fun x : EReal => Ideal.rsqrt (Ideal.div x (FloatOps.ofBits .f32 0x43000000#32 : Ideal .f32) + (FloatOps.ofBits .f32 0x358637BD#32 : Ideal .f32))) ?_
    refine (broadcastInDim_apply _ _ _ _ (fun | ⟨0, _⟩ => r : S32768.Idx) (fun a => by match a with | ⟨0, _⟩ => rfl)).trans ?_
    exact refSum_apply (mulf s s) r
  · refine (broadcastInDim_apply _ _ _ _ (ix2 (0 : Fin 1) j) (fun a => by match a with | ⟨0, _⟩ => rfl | ⟨1, _⟩ => rfl)).trans ?_
    exact broadcastInDim_apply _ _ _ _ (fun | ⟨0, _⟩ => j : S128.Idx) (fun a => by match a with | ⟨0, _⟩ => rfl)

end Cert.Projection

end
-- ==== Proof.Projection.lean ====
/-
  The input projection's claims: its frames, and its nine results equal to the reference's in exact arithmetic.
-/
module

public import proofs.«01_k».proof.Defs
public import proofs.«01_k».proof.Proof.ProjectionTail
public import proofs.«01_k».proof.Proof.ProjectionRef
public import proofs.«01_k».proof.Proof.Gen.Kernel3.Frame
public import Idealize.ShloMosaic.Lib.Quiescent

@[expose] public section

noncomputable section

namespace Cert.Projection

open Idealize.ShloMosaic Idealize.SL.Sem Idealize.ShloMosaic.TcCoe

/-! ## The results are the reference's -/

section
variable (h : (⟨2, ![32768, 1024]⟩ : Shape).Idx → EReal) (w : (⟨2, ![1024, 4564]⟩ : Shape).Idx → EReal) (g : (⟨1, ![128]⟩ : Shape).Idx → EReal)

theorem at_ix2 {n0 n1 : ℕ} {x y : (⟨2, ![n0, n1]⟩ : Shape).Idx → EReal} (e : ∀ r q, x (ix2 r q) = y (ix2 r q)) : x = y :=
  funext fun i => by
    have ei : i = ix2 (n0 := n0) (n1 := n1) (i 0) (i 1) := funext fun a => by match a with | ⟨0, _⟩ => rfl | ⟨1, _⟩ => rfl
    rw [ei]
    exact e _ _

theorem at_ix3 {n0 n1 n2 : ℕ} {x y : (⟨3, ![n0, n1, n2]⟩ : Shape).Idx → EReal} (e : ∀ r q j, x (ix3 r q j) = y (ix3 r q j)) : x = y :=
  funext fun i => by
    have ei : i = ix3 (n0 := n0) (n1 := n1) (n2 := n2) (i 0) (i 1) (i 2) :=
      funext fun a => by match a with | ⟨0, _⟩ => rfl | ⟨1, _⟩ => rfl | ⟨2, _⟩ => rfl
    rw [ei]
    exact e _ _ _

theorem eq_v26 : extractStridedSlice Cert.Kernel3Ideal.S32768x1024 ![0, 0] (outZ h w) Cert.Kernel3Ideal.Gen.slices_S32768x2560_S32768x1024_0_0
    = extractStridedSlice Cert.Reference3Ideal.S32768x1024 ![0, 0] (refAll h w) Cert.Reference3Ideal.Gen.slices_S32768x4564_S32768x1024_0_0 := by
  refine at_ix2 (n0 := 32768) (n1 := 1024) fun r q => ?_
  have hq := q.isLt
  refine Eq.trans ?_ ((cols_apply (M := 32768) (A := 4564) (B := 1024) (refAll h w) 0 Cert.Reference3Ideal.Gen.slices_S32768x4564_S32768x1024_0_0 r q
    ⟨0 + q.val, by omega⟩ rfl).trans (refAll_apply h w r _)).symm
  refine (cols_apply (M := 32768) (A := 2560) (B := 1024) (outZ h w) 0 Cert.Kernel3Ideal.Gen.slices_S32768x2560_S32768x1024_0_0 r q ⟨0 + q.val, by omega⟩ rfl).trans ?_
  exact prod_congr (fun _ => rfl) fun k => wZ_apply w k ⟨0 + q.val, by omega⟩ _ rfl

theorem eq_v27 : extractStridedSlice Cert.Kernel3Ideal.S32768x1536 ![0, 1024] (outZ h w) Cert.Kernel3Ideal.Gen.slices_S32768x2560_S32768x1536_0_1024
    = extractStridedSlice Cert.Reference3Ideal.S32768x1536 ![0, 1024] (refAll h w) Cert.Reference3Ideal.Gen.slices_S32768x4564_S32768x1536_0_1024 := by
  refine at_ix2 (n0 := 32768) (n1 := 1536) fun r q => ?_
  have hq := q.isLt
  refine Eq.trans ?_ ((cols_apply (M := 32768) (A := 4564) (B := 1536) (refAll h w) 1024 Cert.Reference3Ideal.Gen.slices_S32768x4564_S32768x1536_0_1024 r q
    ⟨1024 + q.val, by omega⟩ rfl).trans (refAll_apply h w r _)).symm
  refine (cols_apply (M := 32768) (A := 2560) (B := 1536) (outZ h w) 1024 Cert.Kernel3Ideal.Gen.slices_S32768x2560_S32768x1536_0_1024 r q ⟨1024 + q.val, by omega⟩ rfl).trans ?_
  exact prod_congr (fun _ => rfl) fun k => wZ_apply w k ⟨1024 + q.val, by omega⟩ _ rfl

theorem eq_v28 : extractStridedSlice Cert.Kernel3Ideal.S32768x16 ![0, 0] (outStep h w) Cert.Kernel3Ideal.Gen.slices_S32768x128_S32768x16_0_0
    = extractStridedSlice Cert.Reference3Ideal.S32768x16 ![0, 2560] (refAll h w) Cert.Reference3Ideal.Gen.slices_S32768x4564_S32768x16_0_2560 := by
  refine at_ix2 (n0 := 32768) (n1 := 16) fun r q => ?_
  have hq := q.isLt
  refine Eq.trans ?_ ((cols_apply (M := 32768) (A := 4564) (B := 16) (refAll h w) 2560 Cert.Reference3Ideal.Gen.slices_S32768x4564_S32768x16_0_2560 r q
    ⟨2560 + q.val, by omega⟩ rfl).trans (refAll_apply h w r _)).symm
  refine (cols_apply (M := 32768) (A := 128) (B := 16) (outStep h w) 0 Cert.Kernel3Ideal.Gen.slices_S32768x128_S32768x16_0_0 r q ⟨0 + q.val, by omega⟩ rfl).trans ?_
  exact prod_congr (fun _ => rfl) fun k => wM_step w k (⟨128 + (0 + q.val), by omega⟩ : Fin 256) q (by show 128 + (0 + q.val) = 128 + q.val; omega) _ rfl

theorem eq_v29 : extf (F := Ideal) (φ := .bf16) .f32 (outLat h w) Cert.Kernel3Ideal.Gen.bitsLt_bf16_f32
    = extractStridedSlice Cert.Reference3Ideal.S32768x1024 ![0, 2576] (refAll h w) Cert.Reference3Ideal.Gen.slices_S32768x4564_S32768x1024_0_2576 := by
  refine at_ix2 (n0 := 32768) (n1 := 1024) fun r q => ?_
  have hq := q.isLt
  refine Eq.trans ?_ ((cols_apply (M := 32768) (A := 4564) (B := 1024) (refAll h w) 2576 Cert.Reference3Ideal.Gen.slices_S32768x4564_S32768x1024_0_2576 r q
    ⟨2576 + q.val, by omega⟩ rfl).trans (refAll_apply h w r _)).symm
  exact prod_congr (fun _ => rfl) fun k => wQ_lat w k (⟨0 + q.val, by omega⟩ : Fin 2176) q (by show 0 + q.val = 0 + q.val; omega) _ rfl

theorem eq_v33 : extf (F := Ideal) (φ := .bf16) .f32 (extractStridedSlice Cert.Kernel3Ideal.S32768x64 ![0, 0] (outKey h w) Cert.Kernel3Ideal.Gen.slices_S32768x128_S32768x64_0_0) Cert.Kernel3Ideal.Gen.bitsLt_bf16_f32
    = extractStridedSlice Cert.Reference3Ideal.S32768x64 ![0, 3984] (refAll h w) Cert.Reference3Ideal.Gen.slices_S32768x4564_S32768x64_0_3984 := by
  refine at_ix2 (n0 := 32768) (n1 := 64) fun r q => ?_
  have hq := q.isLt
  refine Eq.trans ?_ ((cols_apply (M := 32768) (A := 4564) (B := 64) (refAll h w) 3984 Cert.Reference3Ideal.Gen.slices_S32768x4564_S32768x64_0_3984 r q
    ⟨3984 + q.val, by omega⟩ rfl).trans (refAll_apply h w r _)).symm
  refine (cols_apply (M := 32768) (A := 128) (B := 64) (outKey h w) 0 Cert.Kernel3Ideal.Gen.slices_S32768x128_S32768x64_0_0 r q ⟨0 + q.val, by omega⟩ rfl).trans ?_
  exact prod_congr (fun _ => rfl) fun k => wQ_key w k (⟨2048 + (0 + q.val), by omega⟩ : Fin 2176) q (by show 2048 + (0 + q.val) = 2048 + q.val; omega) _ rfl

theorem eq_v34 : extractStridedSlice Cert.Kernel3Ideal.S32768x4 ![0, 16] (outStep h w) Cert.Kernel3Ideal.Gen.slices_S32768x128_S32768x4_0_16
    = extractStridedSlice Cert.Reference3Ideal.S32768x4 ![0, 4048] (refAll h w) Cert.Reference3Ideal.Gen.slices_S32768x4564_S32768x4_0_4048 := by
  refine at_ix2 (n0 := 32768) (n1 := 4) fun r q => ?_
  have hq := q.isLt
  refine Eq.trans ?_ ((cols_apply (M := 32768) (A := 4564) (B := 4) (refAll h w) 4048 Cert.Reference3Ideal.Gen.slices_S32768x4564_S32768x4_0_4048 r q
    ⟨4048 + q.val, by omega⟩ rfl).trans (refAll_apply h w r _)).symm
  refine (cols_apply (M := 32768) (A := 128) (B := 4) (outStep h w) 16 Cert.Kernel3Ideal.Gen.slices_S32768x128_S32768x4_0_16 r q ⟨16 + q.val, by omega⟩ rfl).trans ?_
  exact prod_congr (fun _ => rfl) fun k => wM_head w k (⟨128 + (16 + q.val), by omega⟩ : Fin 256) q (by show 128 + (16 + q.val) = 144 + q.val; omega) _ rfl

theorem eq_v35 : extf (F := Ideal) (φ := .bf16) .f32 (outMem h w) Cert.Kernel3Ideal.Gen.bitsLt_bf16_f32
    = extractStridedSlice Cert.Reference3Ideal.S32768x512 ![0, 4052] (refAll h w) Cert.Reference3Ideal.Gen.slices_S32768x4564_S32768x512_0_4052 := by
  refine at_ix2 (n0 := 32768) (n1 := 512) fun r q => ?_
  have hq := q.isLt
  refine Eq.trans ?_ ((cols_apply (M := 32768) (A := 4564) (B := 512) (refAll h w) 4052 Cert.Reference3Ideal.Gen.slices_S32768x4564_S32768x512_0_4052 r q
    ⟨4052 + q.val, by omega⟩ rfl).trans (refAll_apply h w r _)).symm
  exact prod_congr (fun _ => rfl) fun k => wQ_mem w k (⟨1536 + q.val, by omega⟩ : Fin 2176) q (by show 1536 + q.val = 1536 + q.val; omega) _ rfl

theorem eq_v30 : extf (F := Ideal) (φ := .bf16) .f32 (outC h w g) Cert.Kernel3Ideal.Gen.bitsLt_bf16_f32
    = refNorm (extractStridedSlice Cert.Reference3Ideal.S32768x128 ![0, 3600] (refAll h w) Cert.Reference3Ideal.Gen.slices_S32768x4564_S32768x128_0_3600) g := by
  refine at_ix2 (n0 := 32768) (n1 := 128) fun r q => ?_
  refine Eq.trans ?_ (refNorm_apply _ g r q).symm
  show rms (fun k : Fin 128 => prod h (wM w) r (⟨k.val, by omega⟩ : Fin 256)) (g (fun | ⟨0, _⟩ => q)) q = _
  refine congrArg (fun v : Fin 128 → EReal => rms v (g (fun | ⟨0, _⟩ => q)) q) (funext fun k => ?_)
  have hk := k.isLt
  refine Eq.trans ?_ ((cols_apply (M := 32768) (A := 4564) (B := 128) (refAll h w) 3600 Cert.Reference3Ideal.Gen.slices_S32768x4564_S32768x128_0_3600 r k
    ⟨3600 + k.val, by omega⟩ rfl).trans (refAll_apply h w r _)).symm
  exact prod_congr (fun _ => rfl) fun l => wM_lat w l (⟨k.val, by omega⟩ : Fin 256) k (by show k.val = 0 + k.val; omega) _ rfl

theorem eq_v31 : heads (outIdx h w)
    = shapeCast Cert.Reference3Ideal.S32768x4x64 (extractStridedSlice Cert.Reference3Ideal.S32768x256 ![0, 3728] (refAll h w)
        Cert.Reference3Ideal.Gen.slices_S32768x4564_S32768x256_0_3728) Cert.Reference3Ideal.Gen.shapeCasts_S32768x256_S32768x4x64 := by
  refine at_ix3 (n0 := 32768) (n1 := 4) (n2 := 64) fun r e q => ?_
  have he := e.isLt
  have hq := q.isLt
  refine Eq.trans ?_ ((shapeCast_apply _ _ _ (ix2 (n0 := 32768) (n1 := 256) r ⟨64 * e.val + q.val, by omega⟩) ?_).trans
    ((cols_apply (M := 32768) (A := 4564) (B := 256) (refAll h w) 3728 Cert.Reference3Ideal.Gen.slices_S32768x4564_S32768x256_0_3728 r
      ⟨64 * e.val + q.val, by omega⟩ ⟨3728 + 64 * e.val + q.val, by omega⟩ (Nat.add_assoc _ _ _)).trans (refAll_apply h w r _))).symm
  · show extractStridedSlice Cert.Kernel3Ideal.S32768x4x64 ![0, 0, 0] (shapeCast Cert.Kernel3Ideal.S32768x4x128 (outIdx h w) Cert.Kernel3Ideal.Gen.shapeCasts_S32768x512_S32768x4x128)
      Cert.Kernel3Ideal.Gen.slices_S32768x4x128_S32768x4x64_0_0_0 (ix3 r e q) = _
    refine (extractStridedSlice_apply _ _ _ _ (ix3 (n0 := 32768) (n1 := 4) (n2 := 128) r e ⟨q.val, by omega⟩) (fun a => by
      match a with
      | ⟨0, _⟩ => show r.val = 0 + r.val; omega
      | ⟨1, _⟩ => show e.val = 0 + e.val; omega
      | ⟨2, _⟩ => show q.val = 0 + q.val; omega)).trans ?_
    refine (shapeCast_apply _ _ _ (ix2 (n0 := 32768) (n1 := 512) r ⟨128 * e.val + q.val, by omega⟩) ?_).trans ?_
    · rw [Shape.rowMajor_val_two, Shape.rowMajor_val_three]
      show r.val * 512 + (128 * e.val + q.val) = (r.val * 4 + e.val) * 128 + q.val
      omega
    · exact prod_congr (fun _ => rfl) fun k => wQ_idx w k (⟨1024 + (128 * e.val + q.val), by omega⟩ : Fin 2176) e q
        (by show 1024 + (128 * e.val + q.val) = 1024 + 128 * e.val + q.val; omega) _ rfl
  · rw [Shape.rowMajor_val_two, Shape.rowMajor_val_three]
    show r.val * 256 + (64 * e.val + q.val) = (r.val * 4 + e.val) * 64 + q.val
    omega

end

/-! ## The claims -/

theorem frame_kernel : Cert.quiescent_Kernel3 := fun m ρ _ => Cert.Kernel3.Gen.frame m ρ

theorem frame_kernelIdeal : Cert.quiescent_Kernel3Ideal := fun m ρ _ => Cert.Kernel3Ideal.Gen.frame m ρ

theorem frame_referenceIdeal : Cert.quiescent_Reference3Ideal := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

section
open Cert.Kernel3Ideal Cert.Kernel3Ideal.Gen

/-- The kernel's run in exact arithmetic: its nine results are the reference's of its arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v26) = extractStridedSlice Cert.Reference3Ideal.S32768x1024 ![0, 0] (refAll (aH m c) (aW m c)) Cert.Reference3Ideal.Gen.slices_S32768x4564_S32768x1024_0_0
      ∧ r.2.mem ((c : Thread nD τ).loc main_v27) = extractStridedSlice Cert.Reference3Ideal.S32768x1536 ![0, 1024] (refAll (aH m c) (aW m c)) Cert.Reference3Ideal.Gen.slices_S32768x4564_S32768x1536_0_1024
      ∧ r.2.mem ((c : Thread nD τ).loc main_v28) = extractStridedSlice Cert.Reference3Ideal.S32768x16 ![0, 2560] (refAll (aH m c) (aW m c)) Cert.Reference3Ideal.Gen.slices_S32768x4564_S32768x16_0_2560
      ∧ r.2.mem ((c : Thread nD τ).loc main_v29) = extractStridedSlice Cert.Reference3Ideal.S32768x1024 ![0, 2576] (refAll (aH m c) (aW m c)) Cert.Reference3Ideal.Gen.slices_S32768x4564_S32768x1024_0_2576
      ∧ r.2.mem ((c : Thread nD τ).loc main_v30) = refNorm (extractStridedSlice Cert.Reference3Ideal.S32768x128 ![0, 3600] (refAll (aH m c) (aW m c)) Cert.Reference3Ideal.Gen.slices_S32768x4564_S32768x128_0_3600) (aG m c)
      ∧ r.2.mem ((c : Thread nD τ).loc main_v31) = shapeCast Cert.Reference3Ideal.S32768x4x64 (extractStridedSlice Cert.Reference3Ideal.S32768x256 ![0, 3728] (refAll (aH m c) (aW m c)) Cert.Reference3Ideal.Gen.slices_S32768x4564_S32768x256_0_3728) Cert.Reference3Ideal.Gen.shapeCasts_S32768x256_S32768x4x64
      ∧ r.2.mem ((c : Thread nD τ).loc main_v33) = extractStridedSlice Cert.Reference3Ideal.S32768x64 ![0, 3984] (refAll (aH m c) (aW m c)) Cert.Reference3Ideal.Gen.slices_S32768x4564_S32768x64_0_3984
      ∧ r.2.mem ((c : Thread nD τ).loc main_v34) = extractStridedSlice Cert.Reference3Ideal.S32768x4 ![0, 4048] (refAll (aH m c) (aW m c)) Cert.Reference3Ideal.Gen.slices_S32768x4564_S32768x4_0_4048
      ∧ r.2.mem ((c : Thread nD τ).loc main_v35) = extractStridedSlice Cert.Reference3Ideal.S32768x512 ![0, 4052] (refAll (aH m c) (aW m c)) Cert.Reference3Ideal.Gen.slices_S32768x4564_S32768x512_0_4052
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run defs _ _).mono (fun r h c => ⟨?_, ?_, ?_, ?_, ?_, ?_, ?_, ?_, ?_, ?_, ?_, ?_⟩) (run_main m ρ)
  · exact ((h c).2 main_v26 rest_v26).trans ((res_v26 m c).trans (eq_v26 (aH m c) (aW m c)))
  · exact ((h c).2 main_v27 rest_v27).trans ((res_v27 m c).trans (eq_v27 (aH m c) (aW m c)))
  · exact ((h c).2 main_v28 rest_v28).trans ((res_v28 m c).trans (eq_v28 (aH m c) (aW m c)))
  · exact ((h c).2 main_v29 rest_v29).trans ((res_v29 m c).trans (eq_v29 (aH m c) (aW m c)))
  · exact ((h c).2 main_v30 rest_v30).trans ((res_v30 m c).trans (eq_v30 (aH m c) (aW m c) (aG m c)))
  · exact ((h c).2 main_v31 rest_v31).trans ((res_v31 m c).trans (eq_v31 (aH m c) (aW m c)))
  · exact ((h c).2 main_v33 rest_v33).trans ((res_v33 m c).trans (eq_v33 (aH m c) (aW m c)))
  · exact ((h c).2 main_v34 rest_v34).trans ((res_v34 m c).trans (eq_v34 (aH m c) (aW m c)))
  · exact ((h c).2 main_v35 rest_v35).trans ((res_v35 m c).trans (eq_v35 (aH m c) (aW m c)))
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end

theorem algebraic : Cert.algebraic_Kernel3Ideal_Reference3Ideal := fun m ρ m' ρ' _ hag =>
  ⟨_, _, _, _, _, _, _, _, _, run m ρ, (θ_run Cert.Reference3Ideal.defs _ _).mono (fun r h c => by
      obtain ⟨h0, h1, h2⟩ := hag c
      obtain ⟨q0, q1, q2, q3, q4, q5, q6, q7, q8, qs⟩ := h c
      rw [h0, h1] at q0 q1 q2 q3 q5 q6 q7 q8
      rw [h0, h1, h2] at q4
      exact ⟨q0, q1, q2, q3, q4, q5, q6, q7, q8, qs⟩)
    (Cert.Reference3Ideal.Value.run (F := Ideal) m' ρ')⟩

end Cert.Projection

end
-- ==== Proof.MixMath.lean ====
/- Arithmetic of the mixer's residual: a softmax over real logits, and the sums of its three parts. -/
module

public import proofs.«01_k».proof.Proof.ExpertsOps

@[expose] public section

noncomputable section

namespace Cert.Mix

open Idealize.ShloMosaic

/-- Real: neither infinity. -/
def Real' (x : EReal) : Prop := x ≠ ⊥ ∧ x ≠ ⊤

theorem real_coe (r : ℝ) : Real' (r : EReal) := ⟨EReal.coe_ne_bot r, EReal.coe_ne_top r⟩

theorem real_eq {x : EReal} (h : Real' x) : ((x.toReal : ℝ) : EReal) = x := EReal.coe_toReal h.2 h.1

theorem real_mul {x y : EReal} (hx : Real' x) (hy : Real' y) : Real' (x * y) := by
  rw [← real_eq hx, ← real_eq hy, ← EReal.coe_mul]
  exact real_coe _

theorem real_sub {x y : EReal} (hx : Real' x) (hy : Real' y) : Real' (x - y) := by
  rw [← real_eq hx, ← real_eq hy, ← EReal.coe_sub]
  exact real_coe _

theorem real_sum {ι : Type} (s : Finset ι) (f : ι → EReal) (h : ∀ i ∈ s, Real' (f i)) : Real' (∑ i ∈ s, f i) := by
  classical
  induction s using Finset.induction_on with
  | empty => rw [Finset.sum_empty]; exact real_coe 0
  | insert a s ha ih =>
    rw [Finset.sum_insert ha]
    have h1 := h a (Finset.mem_insert_self a s)
    have h2 := ih fun i hi => h i (Finset.mem_insert_of_mem hi)
    rw [← real_eq h1, ← real_eq h2, ← EReal.coe_add]
    exact real_coe _

theorem negInf : (FloatOps.ofBits .f32 0xFF800000#32 : Ideal .f32) = (⊥ : EReal) := by
  show Ideal.ofBits .f32 0xFF800000#32 = ⊥
  simp [Ideal.ofBits, Ideal.ieee]

theorem posInf : (FloatOps.ofBits .f32 0x7F800000#32 : Ideal .f32) = (⊤ : EReal) := by
  show Ideal.ofBits .f32 0x7F800000#32 = ⊤
  simp [Ideal.ofBits, Ideal.ieee]

/-- The scale of the logits. -/
def scale : EReal := (FloatOps.ofBits .f32 0x3DB504F3#32 : Ideal .f32)

theorem real_scale : Real' scale := by
  unfold scale
  show Real' (Ideal.ofBits .f32 0x3DB504F3#32)
  simp only [Ideal.ofBits, Ideal.ieee]
  norm_num
  exact real_coe _

/-- The greatest logit. -/
def top (l : Fin 256 → EReal) : EReal := Finset.univ.fold max (FloatOps.ofBits .f32 0xFF800000#32 : Ideal .f32) l

theorem real_top (l : Fin 256 → EReal) (h : ∀ m, Real' (l m)) : Real' (top l) := by
  unfold top
  constructor
  · refine ne_of_gt ((Finset.lt_fold_max _).2 (Or.inr ⟨0, Finset.mem_univ _, ?_⟩))
    exact lt_of_le_of_ne bot_le (h 0).1.symm
  · refine ne_of_lt ((Finset.fold_max_lt _).2 ⟨?_, fun m _ => lt_of_le_of_ne le_top (h m).2⟩)
    rw [negInf]
    exact bot_lt_top

/-- The weight of one memory row before the division. -/
def weight (l : Fin 256 → EReal) (m : Fin 256) : EReal := Ideal.exp (l m - top l)

/-- Divided after the sum over the rows. -/
def after (l v : Fin 256 → EReal) : EReal := Ideal.div (∑ m, weight l m * v m) (∑ m, weight l m)

/-- Divided row by row, before the sum. -/
def before (l v : Fin 256 → EReal) : EReal := ∑ m, v m * Ideal.div (weight l m) (∑ m, weight l m)

theorem weight_real (l : Fin 256 → EReal) (h : ∀ m, Real' (l m)) (m : Fin 256) : ∃ x : ℝ, 0 < x ∧ weight l m = (x : EReal) := by
  refine ⟨Real.exp (l m - top l).toReal, Real.exp_pos _, ?_⟩
  unfold weight
  rw [← real_eq (real_sub (h m) (real_top l h))]
  rfl

theorem sum_coe (f : Fin 256 → ℝ) : (∑ m, (f m : EReal)) = ((∑ m, f m : ℝ) : EReal) := by
  have : ∀ s : Finset (Fin 256), (∑ m ∈ s, (f m : EReal)) = ((∑ m ∈ s, f m : ℝ) : EReal) := by
    intro s
    induction s using Finset.induction_on with
    | empty => simp
    | insert a s ha ih => rw [Finset.sum_insert ha, Finset.sum_insert ha, ih, EReal.coe_add]
  exact this _

theorem sum_mul_real (x : ℝ) (hx : 0 ≤ x) (f : Fin 256 → EReal) : (∑ m, f m) * (x : EReal) = ∑ m, f m * (x : EReal) := by
  have : ∀ s : Finset (Fin 256), (∑ m ∈ s, f m) * (x : EReal) = ∑ m ∈ s, f m * (x : EReal) := by
    intro s
    induction s using Finset.induction_on with
    | empty => simp
    | insert a s ha ih =>
      rw [Finset.sum_insert ha, Finset.sum_insert ha, ← ih]
      exact EReal.right_distrib_of_nonneg_of_ne_top (EReal.coe_nonneg.2 hx) (EReal.coe_ne_top x) _ _
  exact this _

/-- Over real logits the two orders agree. -/
theorem after_eq_before (l v : Fin 256 → EReal) (h : ∀ m, Real' (l m)) : after l v = before l v := by
  unfold after before
  choose x hx e using weight_real l h
  have hs : 0 < ∑ m, x m := Finset.sum_pos (fun m _ => hx m) ⟨0, Finset.mem_univ _⟩
  have es : (∑ m, weight l m) = ((∑ m, x m : ℝ) : EReal) := (Finset.sum_congr rfl fun m _ => e m).trans (sum_coe x)
  rw [es]
  have hn : ((∑ m, x m : ℝ) : EReal) ≠ 0 := by
    rw [Ne, EReal.coe_eq_zero]
    exact ne_of_gt hs
  have d : ∀ y : EReal, Ideal.div y ((∑ m, x m : ℝ) : EReal) = y * (((∑ m, x m)⁻¹ : ℝ) : EReal) := fun y => by
    unfold Ideal.div
    rw [if_neg hn, EReal.coe_inv]
  rw [d, sum_mul_real _ (inv_nonneg.2 hs.le)]
  refine Finset.sum_congr rfl fun m _ => ?_
  rw [d, mul_comm (weight l m), mul_assoc]

/-- One result of the norm, from the row, the gain and the offset. -/
def norm (x : Fin 1024 → EReal) (g b : EReal) (j : Fin 1024) : EReal :=
  let mu := Ideal.div (∑ k, x k) (FloatOps.ofBits .f32 0x44800000#32 : Ideal .f32)
  (x j - mu) * Ideal.rsqrt (Ideal.div (∑ k, (x k - mu) * (x k - mu)) (FloatOps.ofBits .f32 0x44800000#32 : Ideal .f32)
    + (FloatOps.ofBits .f32 0x3727C5AC#32 : Ideal .f32)) * g + b

/-- A sum over the 2048 columns is the sum over the three parts. -/
theorem sum_parts (f : Fin 2048 → EReal) :
    ∑ k, f k = (∑ k : Fin 1024, f ⟨k.val, by omega⟩) + (∑ k : Fin 512, f ⟨1024 + k.val, by omega⟩) + ∑ k : Fin 512, f ⟨1536 + k.val, by omega⟩ := by
  have e1 := Fin.sum_univ_add (a := 1024) (b := 1024) f
  have e2 := Fin.sum_univ_add (a := 512) (b := 512) fun k : Fin 1024 => f ⟨1024 + k.val, by omega⟩
  refine e1.trans ((congrArg (fun z : EReal => (∑ k : Fin 1024, f ⟨k.val, by omega⟩) + z) e2).trans ?_)
  rw [← add_assoc]
  refine congrArg (fun z : EReal => (∑ k : Fin 1024, f ⟨k.val, by omega⟩) + (∑ k : Fin 512, f ⟨1024 + k.val, by omega⟩) + z) (Finset.sum_congr rfl fun k _ => congrArg f (Fin.ext ?_))
  show 1024 + (512 + k.val) = 1536 + k.val
  omega

end Cert.Mix

end
-- ==== Proof.MixPoint.lean ====
/-
  What the residual call leaves in a block of its first result at one grid point.
-/
module

public import proofs.«01_k».proof.Proof.Gen.Kernel4Ideal.Frame
public import Idealize.ShloMosaic.Lib.VecWindow

@[expose] public section

noncomputable section

namespace Cert.Mix

open Cert.Kernel4Ideal Cert.Kernel4Ideal.Gen
open Idealize.ShloMosaic Idealize.ShloMosaic.TcCoe
open Idealize.ShloMosaic.Pipeline (Dat Cfg Window)

variable {F : FTy → Type} [FloatOps F]

theorem read_rect {s : Shape} {e : EltTy} (M : Memref sig .tc .vmem s e) (h : M.IsWhole) (X : s.Idx → Elt F e) (r : Rect s) :
    View.readAt (Elt F) M.view r.toLoadRect (h.unread X) = View.ld X r := by
  show View.ld (M.view.read (Elt F) (h.unread X)) r = _
  rw [h.read_unread]

/-- The block of the first result, from the blocks read. -/
def blockOut (x0 : Vec F S1024x1024 .bf16) (x1 : Vec F S1024x512 .bf16) (x2 : Vec F S1024x512 .bf16) (x3 : Vec F S256x512 .bf16) (x4 : Vec F S256x512 .bf16) (x5 : Vec F S1024x1024 .f32) (x6 : Vec F S2048x1024 .bf16) (x7 : Vec F S1x1024 .f32) (x8 : Vec F S1x1024 .f32) : FVec F S1024x1024 .f32 :=
  k0_pay15 (k0_pay12
    (k0_pay5 (View.ld x2 (Rect.unit (s := S1024x512) ![0, 0] S1024x128.size inb_S1024x512_S1024x128_0_0)) (View.ld x3 (Rect.unit (s := S256x512) ![0, 0] S256x128.size inb_S256x512_S256x128_0_0))
      (View.ld x4 (Rect.unit (s := S256x512) ![0, 0] S256x128.size inb_S256x512_S256x128_0_0)))
    (k0_pay8 (k0_pay6 (View.ld x2 (Rect.unit (s := S1024x512) ![0, 128] S1024x128.size inb_S1024x512_S1024x128_0_128)) (View.ld x3 (Rect.unit (s := S256x512) ![0, 128] S256x128.size inb_S256x512_S256x128_0_128)))
      (k0_pay7 (View.ld x2 (Rect.unit (s := S1024x512) ![0, 128] S1024x128.size inb_S1024x512_S1024x128_0_128)) (View.ld x3 (Rect.unit (s := S256x512) ![0, 128] S256x128.size inb_S256x512_S256x128_0_128)))
      (View.ld x4 (Rect.unit (s := S256x512) ![0, 128] S256x128.size inb_S256x512_S256x128_0_128)))
    (k0_pay9 (View.ld x2 (Rect.unit (s := S1024x512) ![0, 256] S1024x128.size inb_S1024x512_S1024x128_0_256)) (View.ld x3 (Rect.unit (s := S256x512) ![0, 256] S256x128.size inb_S256x512_S256x128_0_256))
      (View.ld x4 (Rect.unit (s := S256x512) ![0, 256] S256x128.size inb_S256x512_S256x128_0_256)))
    (k0_pay10 (View.ld x2 (Rect.unit (s := S1024x512) ![0, 384] S1024x128.size inb_S1024x512_S1024x128_0_384)) (View.ld x3 (Rect.unit (s := S256x512) ![0, 384] S256x128.size inb_S256x512_S256x128_0_384)))
    (k0_pay11 (View.ld x2 (Rect.unit (s := S1024x512) ![0, 384] S1024x128.size inb_S1024x512_S1024x128_0_384)) (View.ld x3 (Rect.unit (s := S256x512) ![0, 384] S256x128.size inb_S256x512_S256x128_0_384)))
    (View.ld x4 (Rect.unit (s := S256x512) ![0, 384] S256x128.size inb_S256x512_S256x128_0_384))
    (View.ld x0 (Rect.unit (s := S1024x1024) ![0, 0] S1024x1024.size inb_S1024x1024_S1024x1024_0_0)) (View.ld x6 (Rect.unit (s := S2048x1024) ![0, 0] S1024x1024.size inb_S2048x1024_S1024x1024_0_0))
    (View.ld x1 (Rect.unit (s := S1024x512) ![0, 0] S1024x512.size inb_S1024x512_S1024x512_0_0)) (View.ld x6 (Rect.unit (s := S2048x1024) ![1024, 0] S512x1024.size inb_S2048x1024_S512x1024_1024_0))
    (View.ld x6 (Rect.unit (s := S2048x1024) ![1536, 0] S512x1024.size inb_S2048x1024_S512x1024_1536_0)) (View.ld x5 (Rect.unit (s := S1024x1024) ![0, 0] S1024x1024.size inb_S1024x1024_S1024x1024_0_0)))
    (k0_pay13 (View.ld x7 (Rect.unit (s := S1x1024) ![0, 0] S1x1024.size inb_S1x1024_S1x1024_0_0))) (k0_pay14 (View.ld x8 (Rect.unit (s := S1x1024) ![0, 0] S1x1024.size inb_S1x1024_S1x1024_0_0)))

theorem piece_A (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x1024 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x128 .f32) (harg11 : arg11.IsWhole) (arg12 : Memref sig .tc .vmem S1024x1024 .f32) (harg12 : arg12.IsWhole) (arg13 : Memref sig .tc .vmem S4x1024 .i32) (harg13 : arg13.IsWhole) (arg14 : Memref sig .tc .vmem S4x1024 .f32) (harg14 : arg14.IsWhole) (arg15 : Memref sig .tc .vmem S4x1024 .i32) (harg15 : arg15.IsWhole) (arg16 : Memref sig .tc .vmem S32x128 .i32) (harg16 : arg16.IsWhole) (arg17 : Memref sig .tc .vmem S32x128 .f32) (harg17 : arg17.IsWhole) (hc0 : cond0_0 i)
    (x0 : Vec F S1024x1024 .bf16) (x1 : Vec F S1024x512 .bf16) (x2 : Vec F S1024x512 .bf16) (x3 : Vec F S256x512 .bf16) (x4 : Vec F S256x512 .bf16) (x5 : Vec F S1024x1024 .f32) (x6 : Vec F S2048x1024 .bf16) (x7 : Vec F S1x1024 .f32) (x8 : Vec F S1x1024 .f32) (x9 : Vec F S32x1024 .bf16) (x10 : Vec F S32x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1
      = [⟨Rect.unit (s := S1024x1024) ![0, 0] S1024x1024.size inb_S1024x1024_S1024x1024_0_0, blockOut x0 x1 x2 x3 x4 x5 x6 x7 x8⟩] := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, read_rect]
  rfl

theorem out_A (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x1024 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x128 .f32) (harg11 : arg11.IsWhole) (arg12 : Memref sig .tc .vmem S1024x1024 .f32) (harg12 : arg12.IsWhole) (arg13 : Memref sig .tc .vmem S4x1024 .i32) (harg13 : arg13.IsWhole) (arg14 : Memref sig .tc .vmem S4x1024 .f32) (harg14 : arg14.IsWhole) (arg15 : Memref sig .tc .vmem S4x1024 .i32) (harg15 : arg15.IsWhole) (arg16 : Memref sig .tc .vmem S32x128 .i32) (harg16 : arg16.IsWhole) (arg17 : Memref sig .tc .vmem S32x128 .f32) (harg17 : arg17.IsWhole) (hc0 : cond0_0 i)
    (x0 : Vec F S1024x1024 .bf16) (x1 : Vec F S1024x512 .bf16) (x2 : Vec F S1024x512 .bf16) (x3 : Vec F S256x512 .bf16) (x4 : Vec F S256x512 .bf16) (x5 : Vec F S1024x1024 .f32) (x6 : Vec F S2048x1024 .bf16) (x7 : Vec F S1x1024 .f32) (x8 : Vec F S1x1024 .f32) (x9 : Vec F S32x1024 .bf16) (x10 : Vec F S32x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10
      = blockOut x0 x1 x2 x3 x4 x5 x6 x7 x8 := by
  unfold out0_A_11
  rw [piece_A]
  exact View.read_writes_full VO0_11 VO0_11.junk inb_S1024x1024_S1024x1024_0_0 _ []

theorem piece_B (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x1024 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x128 .f32) (harg11 : arg11.IsWhole) (arg12 : Memref sig .tc .vmem S1024x1024 .f32) (harg12 : arg12.IsWhole) (arg13 : Memref sig .tc .vmem S4x1024 .i32) (harg13 : arg13.IsWhole) (arg14 : Memref sig .tc .vmem S4x1024 .f32) (harg14 : arg14.IsWhole) (arg15 : Memref sig .tc .vmem S4x1024 .i32) (harg15 : arg15.IsWhole) (arg16 : Memref sig .tc .vmem S32x128 .i32) (harg16 : arg16.IsWhole) (arg17 : Memref sig .tc .vmem S32x128 .f32) (harg17 : arg17.IsWhole) (hc0 : ¬cond0_0 i)
    (x0 : Vec F S1024x1024 .bf16) (x1 : Vec F S1024x512 .bf16) (x2 : Vec F S1024x512 .bf16) (x3 : Vec F S256x512 .bf16) (x4 : Vec F S256x512 .bf16) (x5 : Vec F S1024x1024 .f32) (x6 : Vec F S2048x1024 .bf16) (x7 : Vec F S1x1024 .f32) (x8 : Vec F S1x1024 .f32) (x9 : Vec F S32x1024 .bf16) (x10 : Vec F S32x128 .f32) (xs0 : Vec F S32x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0).1
      = [⟨Rect.unit (s := S1024x1024) ![0, 0] S1024x1024.size inb_S1024x1024_S1024x1024_0_0, blockOut x0 x1 x2 x3 x4 x5 x6 x7 x8⟩] := by
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, read_rect]
  rfl

theorem out_B (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1024x1024 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x128 .f32) (harg11 : arg11.IsWhole) (arg12 : Memref sig .tc .vmem S1024x1024 .f32) (harg12 : arg12.IsWhole) (arg13 : Memref sig .tc .vmem S4x1024 .i32) (harg13 : arg13.IsWhole) (arg14 : Memref sig .tc .vmem S4x1024 .f32) (harg14 : arg14.IsWhole) (arg15 : Memref sig .tc .vmem S4x1024 .i32) (harg15 : arg15.IsWhole) (arg16 : Memref sig .tc .vmem S32x128 .i32) (harg16 : arg16.IsWhole) (arg17 : Memref sig .tc .vmem S32x128 .f32) (harg17 : arg17.IsWhole) (hc0 : ¬cond0_0 i)
    (x0 : Vec F S1024x1024 .bf16) (x1 : Vec F S1024x512 .bf16) (x2 : Vec F S1024x512 .bf16) (x3 : Vec F S256x512 .bf16) (x4 : Vec F S256x512 .bf16) (x5 : Vec F S1024x1024 .f32) (x6 : Vec F S2048x1024 .bf16) (x7 : Vec F S1x1024 .f32) (x8 : Vec F S1x1024 .f32) (x9 : Vec F S32x1024 .bf16) (x10 : Vec F S32x128 .f32) (xs0 : Vec F S32x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs0
      = blockOut x0 x1 x2 x3 x4 x5 x6 x7 x8 := by
  unfold out0_B_11
  rw [piece_B]
  exact View.read_writes_full VO0_11 VO0_11.junk inb_S1024x1024_S1024x1024_0_0 _ []

theorem fst_eq {α β : Type} {x : α × β} {a d : α} {b : β} (e : x = (a, b)) (h : a = d) : x.1 = d := (congrArg Prod.fst e).trans h

variable (m : (ℓ : Loc nD τ sig) → Buf (Elt F) ℓ)

theorem after_first (c : Dev nD) (t : Fin cfg0.N) :
    (outsAt0 m c t.val t.isLt).1 = blockOut (iblk m c 0 t) (iblk m c 1 t) (iblk m c 2 t) (iblk m c 3 t) (iblk m c 4 t) (iblk m c 5 t) (iblk m c 6 t)
      (iblk m c 7 t) (iblk m c 8 t) := by
  by_cases h0 : t.val % 32 = 0
  · exact fst_eq (outsAt0_A m c t h0) (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t))
  · exact fst_eq (outsAt0_B m c t h0) (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2)

end Cert.Mix

end
-- ==== Proof.MixBody.lean ====
/-
  A block of the residual, in exact arithmetic, read at one element.
-/
module

public import proofs.«01_k».proof.Proof.MixMath
public import proofs.«01_k».proof.Proof.MixPoint
public import Idealize.ShloMosaic.Lib.Pipeline.Value
public import Idealize.ShloMosaic.Lib.Pointwise.Reduce

@[expose] public section

noncomputable section

namespace Cert.Mix

open Cert.Kernel4Ideal Cert.Kernel4Ideal.Gen
open Cert.Experts (rows_sum)
open Idealize.ShloMosaic Idealize.ShloMosaic.TcCoe

abbrev ix2 {n0 n1 : ℕ} (a : Fin n0) (b : Fin n1) : (⟨2, ![n0, n1]⟩ : Shape).Idx := Cert.Experts.ix2 a b

/-! ## The mathematics of one row -/

/-- Column `e` of head `n`. -/
def col (n : Fin 4) (e : Fin 128) : Fin 512 := ⟨128 * n.val + e.val, by omega⟩

/-- The head of a column. -/
def headOfCol (k : Fin 512) : Fin 4 := ⟨k.val / 128, by omega⟩

/-- A head's logits of one row against the memory's rows. -/
def logits (q : Fin 512 → EReal) (k : Fin 256 → Fin 512 → EReal) (n : Fin 4) (m : Fin 256) : EReal :=
  (∑ e : Fin 128, q (col n e) * k m (col n e)) * scale

/-- The two mixers' rows and the attention's row against a column of the output weights. -/
def mixed (s : Fin 1024 → EReal) (d a : Fin 512 → EReal) (w : Fin 2048 → EReal) : EReal :=
  (∑ k : Fin 1024, s k * w ⟨k.val, by omega⟩) + (∑ k : Fin 512, d k * w ⟨1024 + k.val, by omega⟩) + ∑ k : Fin 512, a k * w ⟨1536 + k.val, by omega⟩

/-- The residual before its norm. -/
def residual (h : EReal) (mix : EReal) : EReal := (FloatOps.ofBits .f32 0x3FD744FD#32 : Ideal .f32) * h + mix

/-! ## A block's operations -/

/-- Rows times rows. -/
abbrev ntDims (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem nt_sum {M K N : ℕ} (wf : DotDims.WF ⟨2, ![M, K]⟩ ⟨2, ![N, K]⟩ ⟨2, ![M, N]⟩ [1] [1] [0] [0] [] [])
    (L : (⟨2, ![M, K]⟩ : Shape).Idx → EReal) (R : (⟨2, ![N, K]⟩ : Shape).Idx → EReal) (r : Fin M) (q : Fin N) :
    (∑ k : (ntDims M K N wf).contr.Idx, L ((ntDims M K N wf).lhsIdx (ix2 r q) k) * R ((ntDims M K N wf).rhsIdx (ix2 r q) k))
      = ∑ k : Fin K, L (ix2 r k) * R (ix2 q k) := by
  rw [(ntDims M K N wf).sum_contr₁ (a := 1) rfl (K := K) rfl]
  refine Finset.sum_congr rfl fun k _ => ?_
  congr 1
  · refine congrArg L (funext fun a => ?_)
    match a with
    | ⟨0, _⟩ => rfl
    | ⟨1, _⟩ => rfl
  · refine congrArg R (funext fun a => ?_)
    match a with
    | ⟨0, _⟩ => rfl
    | ⟨1, _⟩ => rfl

theorem logit_apply (q : FVec Ideal S1024x128 .bf16) (k : FVec Ideal S256x128 .bf16) (p : Fin 1024) (m : Fin 256) :
    k0_pay10 (F := Ideal) q k (ix2 p m) = (∑ e : Fin 128, q (ix2 p e) * k (ix2 m e)) * scale := by
  unfold k0_pay10
  rw [shapeCast_self, shapeCast_self]
  simp only [matmul]
  refine congrArg (fun z : EReal => z * scale) ?_
  rw [Ideal.matmul_constant_zero_apply]
  exact nt_sum (M := 1024) (K := 128) (N := 256) dot_S1024x128_S256x128_S1024x256_1_1_0_0_n_n.wf _ _ p m

/-- A value per row, over the row's columns. -/
def spread (v : FVec Ideal S1024 .f32) : FVec Ideal S1024x1 .f32 := shapeCast S1024x1 v shapeCasts_S1024_S1024x1

theorem spread_apply (v : FVec Ideal S1024 .f32) (p : Fin 1024) : spread v (ix2 p (0 : Fin 1)) = v (fun | ⟨0, _⟩ => p) := by
  unfold spread
  refine shapeCast_apply _ _ _ (fun | ⟨0, _⟩ => p : S1024.Idx) ?_
  rw [Shape.rowMajor_val_two, Shape.rowMajor_val_one]
  show p.val = p.val * 1 + 0
  omega

theorem ix2_lib {n0 n1 : ℕ} (a : Fin n0) (b : Fin n1) : Idealize.ShloMosaic.ix2 (n0 := n0) (n1 := n1) ⟨a.val, a.isLt⟩ b = ix2 a b :=
  funext fun i => by match i with | ⟨0, _⟩ => rfl | ⟨1, _⟩ => rfl

theorem rowTop_apply (l : FVec Ideal S1024x256 .f32) (p : Fin 1024) :
    multiReduction .maximumf [1] S1024 l 0xFF800000#32 reduces_S1024x256_S1024 (.inl rfl) rfl (fun | ⟨0, _⟩ => p : S1024.Idx)
      = top fun m => l (ix2 p m) := by
  refine (multiReduction_maximumf_eq_fold (F := Ideal) l _ _ _ _ _).trans ?_
  refine (Shape.Reduces.fold_fiber_r2_a1 (n0 := 1024) (n1 := 256) (t := S1024) reduces_S1024x256_S1024 _ _ _ l).trans ?_
  unfold top
  exact congrArg (Finset.univ.fold max _) (funext fun m => congrArg l (ix2_lib p m))

theorem rowSum_apply (l : FVec Ideal S1024x256 .f32) (p : Fin 1024) :
    multiReduction .add [1] S1024 l 0x00000000#32 reduces_S1024x256_S1024 (.inl rfl) rfl (fun | ⟨0, _⟩ => p : S1024.Idx)
      = ∑ m : Fin 256, l (ix2 p m) :=
  (Ideal.reduceAdd_r2_a1 (n0 := 1024) (n1 := 256) (t := S1024) reduces_S1024x256_S1024 _ _).trans
    (Finset.sum_congr rfl fun m _ => congrArg l (ix2_lib p m))

theorem rowSum1024_apply (l : FVec Ideal S1024x1024 .f32) (p : Fin 1024) :
    multiReduction .add [1] S1024 l 0x00000000#32 reduces_S1024x1024_S1024 (.inl rfl) rfl (fun | ⟨0, _⟩ => p : S1024.Idx)
      = ∑ m : Fin 1024, l (ix2 p m) :=
  (Ideal.reduceAdd_r2_a1 (n0 := 1024) (n1 := 1024) (t := S1024) reduces_S1024x1024_S1024 _ _).trans
    (Finset.sum_congr rfl fun m _ => congrArg l (ix2_lib p m))

/-- The weights of a block's rows, not yet divided. -/
def weights (l : FVec Ideal S1024x256 .f32) : FVec Ideal S1024x256 .f32 :=
  exp (subf l (broadcastTo S1024x256 (spread (multiReduction .maximumf [1] S1024 l 0xFF800000#32 reduces_S1024x256_S1024 (.inl rfl) rfl))
    broadcasts_S1024x1_S1024x256))

theorem weights_apply (l : FVec Ideal S1024x256 .f32) (p : Fin 1024) (m : Fin 256) : weights l (ix2 p m) = weight (fun m => l (ix2 p m)) m := by
  unfold weights weight
  show Ideal.exp (l (ix2 p m) - broadcastTo S1024x256 _ broadcasts_S1024x1_S1024x256 (ix2 p m)) = _
  refine congrArg (fun z : EReal => Ideal.exp (l (ix2 p m) - z)) ?_
  refine (broadcastTo_apply _ _ _ (ix2 p (0 : Fin 1)) (fun a => by match a with | ⟨0, _⟩ => rfl | ⟨1, _⟩ => rfl)).trans ?_
  rw [spread_apply]
  exact rowTop_apply l p

/-- One head of a block: the weighted rows, divided by the weights' sum. -/
def headOf (l : FVec Ideal S1024x256 .f32) (v : FVec Ideal S256x128 .bf16) : FVec Ideal S1024x128 .bf16 :=
  truncf .bf16 (divf (matmul dot_S1024x256_S256x128_S1024x128_1_0_0_1_n_n none (truncf .bf16 (weights l) bitsLt_bf16_f32)
      (shapeCast S256x128 v shapeCasts_S256x128_S256x128) (constant S1024x128 .f32 0x00000000#32))
    (broadcastTo S1024x128 (spread (multiReduction .add [1] S1024 (weights l) 0x00000000#32 reduces_S1024x256_S1024 (.inl rfl) rfl))
      broadcasts_S1024x1_S1024x128)) bitsLt_bf16_f32

theorem headOf_apply (l : FVec Ideal S1024x256 .f32) (v : FVec Ideal S256x128 .bf16) (p : Fin 1024) (d : Fin 128) :
    headOf l v (ix2 p d) = after (fun m => l (ix2 p m)) fun m => v (ix2 m d) := by
  unfold headOf after
  rw [shapeCast_self]
  simp only [matmul]
  refine congrArg₂ Ideal.div ?_ ?_
  · rw [Ideal.matmul_constant_zero_apply]
    refine (rows_sum (M := 1024) (K := 256) (N := 128) dot_S1024x256_S256x128_S1024x128_1_0_0_1_n_n.wf _ _ p d).trans ?_
    exact Finset.sum_congr rfl fun m _ => congrArg (fun z : EReal => z * v (ix2 m d)) (weights_apply l p m)
  · refine (broadcastTo_apply _ _ _ (ix2 p (0 : Fin 1)) (fun a => by match a with | ⟨0, _⟩ => rfl | ⟨1, _⟩ => rfl)).trans ?_
    rw [spread_apply]
    exact (rowSum_apply (weights l) p).trans (Finset.sum_congr rfl fun m _ => weights_apply l p m)

theorem pay5_eq (q : FVec Ideal S1024x128 .bf16) (k v : FVec Ideal S256x128 .bf16) :
    k0_pay5 (F := Ideal) q k v = headOf (k0_pay10 (F := Ideal) q k) v := rfl

theorem pay8_eq (q : FVec Ideal S1024x128 .bf16) (k v : FVec Ideal S256x128 .bf16) :
    k0_pay8 (F := Ideal) (k0_pay6 (F := Ideal) q k) (k0_pay7 (F := Ideal) q k) v = headOf (k0_pay10 (F := Ideal) q k) v := rfl

theorem pay9_eq (q : FVec Ideal S1024x128 .bf16) (k v : FVec Ideal S256x128 .bf16) :
    k0_pay9 (F := Ideal) q k v = headOf (k0_pay10 (F := Ideal) q k) v := rfl

/-- The four heads of a block side by side. -/
def heads (a b c d : FVec Ideal S1024x128 .bf16) : FVec Ideal S1024x512 .bf16 :=
  concatenate S1024x512 1 [⟨S1024x128, a⟩, ⟨S1024x128, b⟩, ⟨S1024x128, c⟩, ⟨S1024x128, d⟩] concatenates_S1024x128_S1024x128_S1024x128_S1024x128_S1024x512_d1

/-- The block of the residual before its norm. -/
def preNorm (y : FVec Ideal S1024x512 .bf16) (x0 : FVec Ideal S1024x1024 .bf16) (w0 : FVec Ideal S1024x1024 .bf16) (x1 : FVec Ideal S1024x512 .bf16)
    (w1 w2 : FVec Ideal S512x1024 .bf16) (h : FVec Ideal S1024x1024 .f32) : FVec Ideal S1024x1024 .f32 :=
  addf (mulf (broadcast S1024x1024 (Scalar.ofBits .f32 0x3FD744FD#32)) h)
    (addf (addf (matmul dot_S1024x1024_S1024x1024_S1024x1024_1_0_0_1_n_n none (shapeCast S1024x1024 x0 shapeCasts_S1024x1024_S1024x1024)
          (shapeCast S1024x1024 w0 shapeCasts_S1024x1024_S1024x1024) (constant S1024x1024 .f32 0x00000000#32))
        (matmul dot_S1024x512_S512x1024_S1024x1024_1_0_0_1_n_n none (shapeCast S1024x512 x1 shapeCasts_S1024x512_S1024x512)
          (shapeCast S512x1024 w1 shapeCasts_S512x1024_S512x1024) (constant S1024x1024 .f32 0x00000000#32)))
      (matmul dot_S1024x512_S512x1024_S1024x1024_1_0_0_1_n_n none y
        (shapeCast S512x1024 w2 shapeCasts_S512x1024_S512x1024) (constant S1024x1024 .f32 0x00000000#32)))

theorem pay12_eq (a b c : FVec Ideal S1024x128 .bf16) (q : FVec Ideal S1024x128 .bf16) (k v : FVec Ideal S256x128 .bf16)
    (x0 w0 : FVec Ideal S1024x1024 .bf16) (x1 : FVec Ideal S1024x512 .bf16) (w1 w2 : FVec Ideal S512x1024 .bf16) (h : FVec Ideal S1024x1024 .f32) :
    k0_pay12 (F := Ideal) a b c (k0_pay10 (F := Ideal) q k) (k0_pay11 (F := Ideal) q k) v x0 w0 x1 w1 w2 h
      = preNorm (heads a b c (headOf (k0_pay10 (F := Ideal) q k) v)) x0 w0 x1 w1 w2 h := rfl

theorem preNorm_apply (y : FVec Ideal S1024x512 .bf16) (x0 : FVec Ideal S1024x1024 .bf16) (w0 : FVec Ideal S1024x1024 .bf16)
    (x1 : FVec Ideal S1024x512 .bf16) (w1 w2 : FVec Ideal S512x1024 .bf16) (h : FVec Ideal S1024x1024 .f32) (p j : Fin 1024) :
    preNorm y x0 w0 x1 w1 w2 h (ix2 p j) = residual (h (ix2 p j))
      ((∑ k : Fin 1024, x0 (ix2 p k) * w0 (ix2 k j)) + (∑ k : Fin 512, x1 (ix2 p k) * w1 (ix2 k j)) + ∑ k : Fin 512, y (ix2 p k) * w2 (ix2 k j)) := by
  unfold preNorm residual
  rw [shapeCast_self, shapeCast_self, shapeCast_self, shapeCast_self, shapeCast_self]
  simp only [matmul]
  refine congrArg (fun z : EReal => (FloatOps.ofBits .f32 0x3FD744FD#32 : Ideal .f32) * h (ix2 p j) + z) ?_
  refine congrArg₂ (fun a b : EReal => a + b) (congrArg₂ (fun a b : EReal => a + b) ?_ ?_) ?_
  · rw [Ideal.matmul_constant_zero_apply]
    exact rows_sum (M := 1024) (K := 1024) (N := 1024) dot_S1024x1024_S1024x1024_S1024x1024_1_0_0_1_n_n.wf _ _ p j
  · rw [Ideal.matmul_constant_zero_apply]
    exact rows_sum (M := 1024) (K := 512) (N := 1024) dot_S1024x512_S512x1024_S1024x1024_1_0_0_1_n_n.wf _ _ p j
  · rw [Ideal.matmul_constant_zero_apply]
    exact rows_sum (M := 1024) (K := 512) (N := 1024) dot_S1024x512_S512x1024_S1024x1024_1_0_0_1_n_n.wf _ _ p j

/-- The mean of each row. -/
def mean (v : FVec Ideal S1024x1024 .f32) : FVec Ideal S1024x1 .f32 :=
  divf (spread (multiReduction .add [1] S1024 v 0x00000000#32 reduces_S1024x1024_S1024 (.inl rfl) rfl)) (broadcast S1024x1 (Scalar.ofBits .f32 0x44800000#32))

theorem mean_apply (v : FVec Ideal S1024x1024 .f32) (p : Fin 1024) :
    mean v (ix2 p (0 : Fin 1)) = Ideal.div (∑ k : Fin 1024, v (ix2 p k)) (FloatOps.ofBits .f32 0x44800000#32 : Ideal .f32) := by
  unfold mean
  refine congrArg (fun z : EReal => Ideal.div z (FloatOps.ofBits .f32 0x44800000#32 : Ideal .f32)) ?_
  rw [spread_apply]
  exact rowSum1024_apply v p

/-- Each row less its mean. -/
def centred (v : FVec Ideal S1024x1024 .f32) : FVec Ideal S1024x1024 .f32 :=
  subf v (broadcastTo S1024x1024 (mean v) broadcasts_S1024x1_S1024x1024)

theorem centred_apply (v : FVec Ideal S1024x1024 .f32) (p j : Fin 1024) :
    centred v (ix2 p j) = v (ix2 p j) - Ideal.div (∑ k : Fin 1024, v (ix2 p k)) (FloatOps.ofBits .f32 0x44800000#32 : Ideal .f32) := by
  unfold centred
  refine congrArg (fun z : EReal => v (ix2 p j) - z) ?_
  exact (broadcastTo_apply _ _ _ (ix2 p (0 : Fin 1)) (fun a => by match a with | ⟨0, _⟩ => rfl | ⟨1, _⟩ => rfl)).trans (mean_apply v p)

/-- The norm of a block. -/
def normed (v : FVec Ideal S1024x1024 .f32) (g b : FVec Ideal S1x1024 .f32) : FVec Ideal S1024x1024 .f32 :=
  addf (mulf (mulf (centred v) (broadcastTo S1024x1024 (rsqrt (addf (mean (mulf (centred v) (centred v)))
    (broadcast S1024x1 (Scalar.ofBits .f32 0x3727C5AC#32)))) broadcasts_S1024x1_S1024x1024))
    (broadcastTo S1024x1024 g broadcasts_S1x1024_S1024x1024)) (broadcastTo S1024x1024 b broadcasts_S1x1024_S1024x1024)

theorem pay15_eq (v : FVec Ideal S1024x1024 .f32) (g b : FVec Ideal S1x1024 .f32) : k0_pay15 (F := Ideal) v g b = normed v g b := rfl

theorem normed_apply (v : FVec Ideal S1024x1024 .f32) (g b : FVec Ideal S1x1024 .f32) (p j : Fin 1024) :
    normed v g b (ix2 p j) = norm (fun k => v (ix2 p k)) (g (ix2 (0 : Fin 1) j)) (b (ix2 (0 : Fin 1) j)) j := by
  unfold normed norm
  refine congrArg₂ (fun a b : EReal => a + b) (congrArg₂ (fun a b : EReal => a * b) (congrArg₂ (fun a b : EReal => a * b) (centred_apply v p j) ?_) ?_) ?_
  · refine (broadcastTo_apply _ _ _ (ix2 p (0 : Fin 1)) (fun a => by match a with | ⟨0, _⟩ => rfl | ⟨1, _⟩ => rfl)).trans ?_
    refine congrArg (fun z : EReal => Ideal.rsqrt (z + (FloatOps.ofBits .f32 0x3727C5AC#32 : Ideal .f32))) ((mean_apply _ p).trans ?_)
    refine congrArg (fun z : EReal => Ideal.div z (FloatOps.ofBits .f32 0x44800000#32 : Ideal .f32)) (Finset.sum_congr rfl fun k _ => ?_)
    exact congrArg₂ (fun a b : EReal => a * b) (centred_apply v p k) (centred_apply v p k)
  · exact broadcastTo_apply _ _ _ (ix2 (0 : Fin 1) j) (fun a => by match a with | ⟨0, _⟩ => rfl | ⟨1, _⟩ => rfl)
  · exact broadcastTo_apply _ _ _ (ix2 (0 : Fin 1) j) (fun a => by match a with | ⟨0, _⟩ => rfl | ⟨1, _⟩ => rfl)

end Cert.Mix

end
-- ==== Proof.MixHeads.lean ====
/-
  A block of the residual as a function of the blocks read.
-/
module

public import proofs.«01_k».proof.Proof.MixBody
public import Idealize.ShloMosaic.Lib.Pipeline.ValueKit.Tiles

@[expose] public section

noncomputable section

namespace Cert.Mix

open Cert.Kernel4Ideal Cert.Kernel4Ideal.Gen
open Idealize.ShloMosaic Idealize.ShloMosaic.TcCoe

/-- The attention's row at one column: the logits of the column's head, and the column's values. -/
def attnAfter (q : Fin 512 → EReal) (k v : Fin 256 → Fin 512 → EReal) (j : Fin 512) : EReal :=
  after (logits q k (headOfCol j)) fun m => v m j

theorem cut_q (x : Vec Ideal S1024x512 .bf16) (off : ℕ) (h : ∀ a, (![0, off] : Fin 2 → Nat) a + S1024x128.size a ≤ S1024x512.size a) (p : Fin 1024)
    (e : Fin 128) (j : Fin 512) (hj : j.val = off + e.val) : View.ld x (Rect.unit (s := S1024x512) ![0, off] S1024x128.size h) (ix2 p e) = x (ix2 p j) :=
  View.ld_unit_apply_of x ![0, off] S1024x128.size h (ix2 p e) (ix2 p j) (fun a => by
    match a with
    | ⟨0, _⟩ => show p.val = 0 + p.val; omega
    | ⟨1, _⟩ => exact hj)

theorem cut_k (x : Vec Ideal S256x512 .bf16) (off : ℕ) (h : ∀ a, (![0, off] : Fin 2 → Nat) a + S256x128.size a ≤ S256x512.size a) (p : Fin 256)
    (e : Fin 128) (j : Fin 512) (hj : j.val = off + e.val) : View.ld x (Rect.unit (s := S256x512) ![0, off] S256x128.size h) (ix2 p e) = x (ix2 p j) :=
  View.ld_unit_apply_of x ![0, off] S256x128.size h (ix2 p e) (ix2 p j) (fun a => by
    match a with
    | ⟨0, _⟩ => show p.val = 0 + p.val; omega
    | ⟨1, _⟩ => exact hj)

theorem cut_w1024 (x : Vec Ideal S2048x1024 .bf16) (p j : Fin 1024) :
    View.ld x (Rect.unit (s := S2048x1024) ![0, 0] S1024x1024.size inb_S2048x1024_S1024x1024_0_0) (ix2 p j) = x (ix2 (⟨p.val, by omega⟩ : Fin 2048) j) :=
  View.ld_unit_apply_of x ![0, 0] S1024x1024.size _ (ix2 p j) (ix2 (⟨p.val, by omega⟩ : Fin 2048) j) (fun a => by
    match a with
    | ⟨0, _⟩ => show p.val = 0 + p.val; omega
    | ⟨1, _⟩ => show j.val = 0 + j.val; omega)

theorem cut_w512 (x : Vec Ideal S2048x1024 .bf16) (off : ℕ) (h : ∀ a, (![off, 0] : Fin 2 → Nat) a + S512x1024.size a ≤ S2048x1024.size a) (p : Fin 512)
    (j : Fin 1024) (i : Fin 2048) (hi : i.val = off + p.val) : View.ld x (Rect.unit (s := S2048x1024) ![off, 0] S512x1024.size h) (ix2 p j) = x (ix2 i j) :=
  View.ld_unit_apply_of x ![off, 0] S512x1024.size h (ix2 p j) (ix2 i j) (fun a => by
    match a with
    | ⟨0, _⟩ => exact hi
    | ⟨1, _⟩ => show j.val = 0 + j.val; omega)

/-- One head's block, at one of its columns. -/
theorem head_cut (x2 : Vec Ideal S1024x512 .bf16) (x3 x4 : Vec Ideal S256x512 .bf16) (n : Fin 4) (off : ℕ) (ho : off = 128 * n.val)
    (hq : ∀ a, (![0, off] : Fin 2 → Nat) a + S1024x128.size a ≤ S1024x512.size a)
    (hk : ∀ a, (![0, off] : Fin 2 → Nat) a + S256x128.size a ≤ S256x512.size a) (p : Fin 1024) (e : Fin 128) (j : Fin 512) (hj : j.val = off + e.val) :
    headOf (k0_pay10 (F := Ideal) (View.ld x2 (Rect.unit (s := S1024x512) ![0, off] S1024x128.size hq))
      (View.ld x3 (Rect.unit (s := S256x512) ![0, off] S256x128.size hk))) (View.ld x4 (Rect.unit (s := S256x512) ![0, off] S256x128.size hk)) (ix2 p e)
      = attnAfter (fun k => x2 (ix2 p k)) (fun m k => x3 (ix2 m k)) (fun m k => x4 (ix2 m k)) j := by
  have hn : headOfCol j = n := Fin.ext (by show j.val / 128 = n.val; omega)
  refine (headOf_apply _ _ p e).trans ?_
  unfold attnAfter
  rw [hn]
  refine congrArg₂ after (funext fun m => (logit_apply _ _ p m).trans ?_) (funext fun m => cut_k x4 off hk m e j hj)
  unfold logits
  refine congrArg (fun z : EReal => z * scale) (Finset.sum_congr rfl fun d _ => ?_)
  exact congrArg₂ (fun a b : EReal => a * b) (cut_q x2 off hq p d (col n d) (by show 128 * n.val + d.val = off + d.val; omega))
    (cut_k x3 off hk m d (col n d) (by show 128 * n.val + d.val = off + d.val; omega))

/-- The four heads' pieces. -/
abbrev headPieces (a b c d : FVec Ideal S1024x128 .bf16) : List ((s : Shape) × (s.Idx → Ideal .bf16)) :=
  [⟨S1024x128, a⟩, ⟨S1024x128, b⟩, ⟨S1024x128, c⟩, ⟨S1024x128, d⟩]

theorem heads_piece (a b c d x : FVec Ideal S1024x128 .bf16) (n : ℕ) (hn : n < (headPieces a b c d).length)
    (hp : (headPieces a b c d)[n] = ⟨S1024x128, x⟩) (pre : ℕ)
    (hpre : ((((headPieces a b c d).take n).map (·.1)).map fun s => if h : s.rank = S1024x512.rank then s.size ((1 : Fin S1024x512.rank).cast h.symm) else 0).sum = pre)
    (p : Fin 1024) (e : Fin 128) (j : Fin 512) (hj : j.val = pre + e.val) : heads a b c d (ix2 p j) = x (ix2 p e) := by
  refine concatenate_apply_piece (t := S1024x512) 1 (headPieces a b c d) concatenates_S1024x128_S1024x128_S1024x128_S1024x128_S1024x512_d1 (ix2 p j) n hn S1024x128 x hp rfl pre hpre
    (ix2 p e) ?_ ?_
  · intro a ha
    match a with
    | ⟨0, _⟩ => rfl
    | ⟨1, _⟩ => exact absurd rfl ha
  · exact hj.symm

/-- A block of the residual at one element. -/
theorem blockOut_apply (x0 : Vec Ideal S1024x1024 .bf16) (x1 : Vec Ideal S1024x512 .bf16) (x2 : Vec Ideal S1024x512 .bf16) (x3 x4 : Vec Ideal S256x512 .bf16)
    (x5 : Vec Ideal S1024x1024 .f32) (x6 : Vec Ideal S2048x1024 .bf16) (x7 x8 : Vec Ideal S1x1024 .f32) (p j : Fin 1024) :
    blockOut (F := Ideal) x0 x1 x2 x3 x4 x5 x6 x7 x8 (ix2 p j)
      = norm (fun i => residual (x5 (ix2 p i)) (mixed (fun k => x0 (ix2 p k)) (fun k => x1 (ix2 p k))
          (attnAfter (fun k => x2 (ix2 p k)) (fun m k => x3 (ix2 m k)) fun m k => x4 (ix2 m k)) fun k => x6 (ix2 k i)))
        (x7 (ix2 (0 : Fin 1) j)) (x8 (ix2 (0 : Fin 1) j)) j := by
  unfold blockOut
  rw [pay5_eq, pay8_eq, pay9_eq, pay12_eq, pay15_eq]
  refine (normed_apply _ _ _ p j).trans ?_
  unfold k0_pay13 k0_pay14
  rw [shapeCast_self, shapeCast_self, View.ld_unit_zero (by decide), View.ld_unit_zero (by decide), View.ld_unit_zero (by decide), View.ld_unit_zero (by decide),
    View.ld_unit_zero (by decide)]
  refine congrArg (fun f : Fin 1024 → EReal => norm f (x7 (ix2 (0 : Fin 1) j)) (x8 (ix2 (0 : Fin 1) j)) j) (funext fun i => ?_)
  refine (preNorm_apply _ _ _ _ _ _ _ p i).trans ?_
  refine congrArg (residual (x5 (ix2 p i))) ?_
  unfold mixed
  refine congrArg₂ (fun a b : EReal => a + b) (congrArg₂ (fun a b : EReal => a + b) (Finset.sum_congr rfl fun k _ => ?_) (Finset.sum_congr rfl fun k _ => ?_))
    (Finset.sum_congr rfl fun k _ => ?_)
  · exact congrArg (fun z : EReal => x0 (ix2 p k) * z) (cut_w1024 x6 k i)
  · exact congrArg (fun z : EReal => x1 (ix2 p k) * z) (cut_w512 x6 1024 _ k i _ rfl)
  · refine congrArg₂ (fun a b : EReal => a * b) ?_ (cut_w512 x6 1536 _ k i _ rfl)
    have hk := k.isLt
    rcases (show k.val / 128 = 0 ∨ k.val / 128 = 1 ∨ k.val / 128 = 2 ∨ k.val / 128 = 3 by omega) with h | h | h | h
    · exact (heads_piece _ _ _ _ _ 0 (show 0 < 4 by decide) rfl 0 rfl p ⟨k.val - 0, by omega⟩ k (by show k.val = 0 + (k.val - 0); omega)).trans
        (head_cut x2 x3 x4 0 0 rfl _ _ p _ k (by show k.val = 0 + (k.val - 0); omega))
    · exact (heads_piece _ _ _ _ _ 1 (show 1 < 4 by decide) rfl 128 rfl p ⟨k.val - 128, by omega⟩ k (by show k.val = 128 + (k.val - 128); omega)).trans
        (head_cut x2 x3 x4 1 128 rfl _ _ p _ k (by show k.val = 128 + (k.val - 128); omega))
    · exact (heads_piece _ _ _ _ _ 2 (show 2 < 4 by decide) rfl 256 rfl p ⟨k.val - 256, by omega⟩ k (by show k.val = 256 + (k.val - 256); omega)).trans
        (head_cut x2 x3 x4 2 256 rfl _ _ p _ k (by show k.val = 256 + (k.val - 256); omega))
    · exact (heads_piece _ _ _ _ _ 3 (show 3 < 4 by decide) rfl 384 rfl p ⟨k.val - 384, by omega⟩ k (by show k.val = 384 + (k.val - 384); omega)).trans
        (head_cut x2 x3 x4 3 384 rfl _ _ p _ k (by show k.val = 384 + (k.val - 384); omega))

end Cert.Mix

end
-- ==== Proof.MixBlocks.lean ====
/-
  The residual call's first result, block by block.
-/
module

public import proofs.«01_k».proof.Proof.MixHeads

@[expose] public section

noncomputable section

namespace Cert.Mix

open Cert.Kernel4Ideal Cert.Kernel4Ideal.Gen
open Idealize.ShloMosaic Idealize.ShloMosaic.TcCoe Idealize.ShloMosaic.StableHlo
open Idealize.ShloMosaic.Pipeline (Dat Cfg Window)

/-- A row's memory row: the memory has 256 rows for each 8192 of the others. -/
def memRow (r : Fin 32768) (m : Fin 256) : Fin 1024 := ⟨256 * (r.val / 8192) + m.val, by omega⟩

/-- The first result, with a given form of the attention's row. -/
def result (attn : (Fin 512 → EReal) → (Fin 256 → Fin 512 → EReal) → (Fin 256 → Fin 512 → EReal) → Fin 512 → EReal)
    (s : (⟨2, ![32768, 1024]⟩ : Shape).Idx → EReal) (d q : (⟨2, ![32768, 512]⟩ : Shape).Idx → EReal) (k v : (⟨2, ![1024, 512]⟩ : Shape).Idx → EReal)
    (h : (⟨2, ![32768, 1024]⟩ : Shape).Idx → EReal) (w : (⟨2, ![2048, 1024]⟩ : Shape).Idx → EReal) (g b : (⟨1, ![1024]⟩ : Shape).Idx → EReal) :
    (⟨2, ![32768, 1024]⟩ : Shape).Idx → EReal := fun i =>
  norm (fun j => residual (h (ix2 (n1 := 1024) (i 0) j)) (mixed (fun e => s (ix2 (n1 := 1024) (i 0) e)) (fun e => d (ix2 (n1 := 512) (i 0) e))
      (attn (fun e => q (ix2 (n1 := 512) (i 0) e)) (fun l e => k (ix2 (memRow (i 0) l) e)) fun l e => v (ix2 (memRow (i 0) l) e)) fun e => w (ix2 e j)))
    (g (fun | ⟨0, _⟩ => i 1)) (b (fun | ⟨0, _⟩ => i 1)) (i 1)

variable (m : (ℓ : Loc nD τ sig) → Buf (Elt Ideal) ℓ)

abbrev aS (c : Dev nD) : S32768x1024.Idx → EReal := m ((c.tc : Thread nD τ).loc main_arg0)
abbrev aD (c : Dev nD) : S32768x512.Idx → EReal := m ((c.tc : Thread nD τ).loc main_arg1)
abbrev aQ (c : Dev nD) : S32768x512.Idx → EReal := m ((c.tc : Thread nD τ).loc main_arg2)
abbrev aK (c : Dev nD) : S1024x512.Idx → EReal := m ((c.tc : Thread nD τ).loc main_arg3)
abbrev aV (c : Dev nD) : S1024x512.Idx → EReal := m ((c.tc : Thread nD τ).loc main_arg4)
abbrev aH (c : Dev nD) : S32768x1024.Idx → EReal := m ((c.tc : Thread nD τ).loc main_arg5)
abbrev aW (c : Dev nD) : S2048x1024.Idx → EReal := m ((c.tc : Thread nD τ).loc main_arg6)
abbrev aG (c : Dev nD) : S1024.Idx → EReal := m ((c.tc : Thread nD τ).loc main_arg7)
abbrev aB (c : Dev nD) : S1024.Idx → EReal := m ((c.tc : Thread nD τ).loc main_arg8)

/-! ## The arrays the call reads -/

set_option maxHeartbeats 4000000 in
theorem V_v2 (c : Dev nD) : V m c main_v2 = (aS m c) := by
  unfold V hostOps0
  after_results_simp
  rfl

set_option maxHeartbeats 4000000 in
theorem V_v3 (c : Dev nD) : V m c main_v3 = (aD m c) := by
  unfold V hostOps0
  after_results_simp
  rfl

set_option maxHeartbeats 4000000 in
theorem V_v4 (c : Dev nD) : V m c main_v4 = (aQ m c) := by
  unfold V hostOps0
  after_results_simp
  rfl

set_option maxHeartbeats 4000000 in
theorem V_v5 (c : Dev nD) : V m c main_v5 = (aK m c) := by
  unfold V hostOps0
  after_results_simp
  rfl

set_option maxHeartbeats 4000000 in
theorem V_v6 (c : Dev nD) : V m c main_v6 = (aV m c) := by
  unfold V hostOps0
  after_results_simp
  rfl

set_option maxHeartbeats 4000000 in
theorem V_v7 (c : Dev nD) : V m c main_v7 = (aW m c) := by
  unfold V hostOps0
  after_results_simp
  rfl

set_option maxHeartbeats 4000000 in
theorem V_v8 (c : Dev nD) : V m c main_v8 = shapeCast S1x1024 (aG m c) shapeCasts_S1024_S1x1024 := by
  unfold V hostOps0
  after_results_simp
  rfl

set_option maxHeartbeats 4000000 in
theorem V_v9 (c : Dev nD) : V m c main_v9 = shapeCast S1x1024 (aB m c) shapeCasts_S1024_S1x1024 := by
  unfold V hostOps0
  after_results_simp
  rfl

/-! ## The grid's points -/

theorem point_lt (t : Fin cfg0.N) : t.val < 32 := lt_of_lt_of_eq t.isLt (by decide)

theorem coord (t : Fin cfg0.N) : ((grid0.coords t) 0).val = t.val :=
  (Pipeline.Grid.coords_val (G := grid0) t 0 (S := 1) (B := 32) (by decide) rfl).trans (by have := point_lt t; omega)

theorem memBlock3 (i : grid0.Coords) : cc0_transform_3 i 0 = (i 0).val / 8 := by
  have h : ∀ a : Fin 32, cc0_transform_3 (fun | ⟨0, _⟩ => a) 0 = a.val / 8 := by decide
  exact h (i 0)

theorem memBlock4 (i : grid0.Coords) : cc0_transform_4 i 0 = (i 0).val / 8 := by
  have h : ∀ a : Fin 32, cc0_transform_4 (fun | ⟨0, _⟩ => a) 0 = a.val / 8 := by decide
  exact h (i 0)

/-- The point whose block holds a row. -/
def pointOf (r : Fin 32768) : Fin cfg0.N := ⟨r.val / 1024, lt_of_lt_of_eq (show r.val / 1024 < 32 by have := r.isLt; omega) (by decide)⟩

/-- A row's place in its block. -/
def placeOf (r : Fin 32768) : Fin 1024 := ⟨r.val % 1024, Nat.mod_lt _ (by decide)⟩

theorem iblk_0 (c : Dev nD) (t : Fin cfg0.N) (p : Fin 1024) (e : Fin 1024) (r : Fin 32768) (hr : r.val = 1024 * t.val + p.val) :
    iblk m c 0 t (ix2 p e) = aS m c (ix2 r e) := by
  show V m c main_v2 (((cfg0.win 0).rect t).emb (ix2 p e)) = _
  refine (congrArg (V m c main_v2) (funext fun a => Fin.ext ?_)).trans (congrFun (V_v2 m c) _)
  rw [Pipeline.Window.rect_emb_val (cfg0.win 0) t (ix2 p e) a]
  match a with
  | ⟨0, _⟩ =>
    show (BitVec.ofNat 32 ((grid0.coords t) 0).val).toNat * 1024 + p.val = r.val
    rw [coord, BitVec.toNat_ofNat]
    have := point_lt t
    omega
  | ⟨1, _⟩ =>
    show 0 * 1024 + e.val = e.val
    omega

theorem iblk_1 (c : Dev nD) (t : Fin cfg0.N) (p : Fin 1024) (e : Fin 512) (r : Fin 32768) (hr : r.val = 1024 * t.val + p.val) :
    iblk m c 1 t (ix2 p e) = aD m c (ix2 r e) := by
  show V m c main_v3 (((cfg0.win 1).rect t).emb (ix2 p e)) = _
  refine (congrArg (V m c main_v3) (funext fun a => Fin.ext ?_)).trans (congrFun (V_v3 m c) _)
  rw [Pipeline.Window.rect_emb_val (cfg0.win 1) t (ix2 p e) a]
  match a with
  | ⟨0, _⟩ =>
    show (BitVec.ofNat 32 ((grid0.coords t) 0).val).toNat * 1024 + p.val = r.val
    rw [coord, BitVec.toNat_ofNat]
    have := point_lt t
    omega
  | ⟨1, _⟩ =>
    show 0 * 512 + e.val = e.val
    omega

theorem iblk_2 (c : Dev nD) (t : Fin cfg0.N) (p : Fin 1024) (e : Fin 512) (r : Fin 32768) (hr : r.val = 1024 * t.val + p.val) :
    iblk m c 2 t (ix2 p e) = aQ m c (ix2 r e) := by
  show V m c main_v4 (((cfg0.win 2).rect t).emb (ix2 p e)) = _
  refine (congrArg (V m c main_v4) (funext fun a => Fin.ext ?_)).trans (congrFun (V_v4 m c) _)
  rw [Pipeline.Window.rect_emb_val (cfg0.win 2) t (ix2 p e) a]
  match a with
  | ⟨0, _⟩ =>
    show (BitVec.ofNat 32 ((grid0.coords t) 0).val).toNat * 1024 + p.val = r.val
    rw [coord, BitVec.toNat_ofNat]
    have := point_lt t
    omega
  | ⟨1, _⟩ =>
    show 0 * 512 + e.val = e.val
    omega

theorem iblk_3 (c : Dev nD) (t : Fin cfg0.N) (l : Fin 256) (e : Fin 512) (p : Fin 1024) (r : Fin 32768) (hr : r.val = 1024 * t.val + p.val) :
    iblk m c 3 t (ix2 l e) = aK m c (ix2 (memRow r l) e) := by
  show V m c main_v5 (((cfg0.win 3).rect t).emb (ix2 l e)) = _
  refine (congrArg (V m c main_v5) (funext fun a => Fin.ext ?_)).trans (congrFun (V_v5 m c) _)
  rw [Pipeline.Window.rect_emb_val (cfg0.win 3) t (ix2 l e) a]
  match a with
  | ⟨0, _⟩ =>
    show cc0_transform_3 (grid0.coords t) 0 * 256 + l.val = 256 * (r.val / 8192) + l.val
    rw [memBlock3 (grid0.coords t), coord]
    have := point_lt t
    have hp := p.isLt
    omega
  | ⟨1, _⟩ =>
    show 0 * 512 + e.val = e.val
    omega

theorem iblk_4 (c : Dev nD) (t : Fin cfg0.N) (l : Fin 256) (e : Fin 512) (p : Fin 1024) (r : Fin 32768) (hr : r.val = 1024 * t.val + p.val) :
    iblk m c 4 t (ix2 l e) = aV m c (ix2 (memRow r l) e) := by
  show V m c main_v6 (((cfg0.win 4).rect t).emb (ix2 l e)) = _
  refine (congrArg (V m c main_v6) (funext fun a => Fin.ext ?_)).trans (congrFun (V_v6 m c) _)
  rw [Pipeline.Window.rect_emb_val (cfg0.win 4) t (ix2 l e) a]
  match a with
  | ⟨0, _⟩ =>
    show cc0_transform_4 (grid0.coords t) 0 * 256 + l.val = 256 * (r.val / 8192) + l.val
    rw [memBlock4 (grid0.coords t), coord]
    have := point_lt t
    have hp := p.isLt
    omega
  | ⟨1, _⟩ =>
    show 0 * 512 + e.val = e.val
    omega

theorem iblk_5 (c : Dev nD) (t : Fin cfg0.N) (p : Fin 1024) (e : Fin 1024) (r : Fin 32768) (hr : r.val = 1024 * t.val + p.val) :
    iblk m c 5 t (ix2 p e) = aH m c (ix2 r e) := by
  show V m c main_arg5 (((cfg0.win 5).rect t).emb (ix2 p e)) = _
  refine (congrArg (V m c main_arg5) (funext fun a => Fin.ext ?_)).trans (congrFun (V_main_arg5 m c) _)
  rw [Pipeline.Window.rect_emb_val (cfg0.win 5) t (ix2 p e) a]
  match a with
  | ⟨0, _⟩ =>
    show (BitVec.ofNat 32 ((grid0.coords t) 0).val).toNat * 1024 + p.val = r.val
    rw [coord, BitVec.toNat_ofNat]
    have := point_lt t
    omega
  | ⟨1, _⟩ =>
    show 0 * 1024 + e.val = e.val
    omega

theorem iblk_6 (c : Dev nD) (t : Fin cfg0.N) (k : Fin 2048) (j : Fin 1024) : iblk m c 6 t (ix2 k j) = aW m c (ix2 k j) := by
  show V m c main_v7 (((cfg0.win 6).rect t).emb (ix2 k j)) = _
  refine (congrArg (V m c main_v7) (funext fun a => Fin.ext ?_)).trans (congrFun (V_v7 m c) _)
  rw [Pipeline.Window.rect_emb_val (cfg0.win 6) t (ix2 k j) a]
  match a with
  | ⟨0, _⟩ => show 0 * 2048 + k.val = k.val; omega
  | ⟨1, _⟩ => show 0 * 1024 + j.val = j.val; omega

theorem iblk_7 (c : Dev nD) (t : Fin cfg0.N) (j : Fin 1024) : iblk m c 7 t (ix2 (0 : Fin 1) j) = aG m c (fun | ⟨0, _⟩ => j) := by
  show V m c main_v8 (((cfg0.win 7).rect t).emb (ix2 (0 : Fin 1) j)) = _
  have e : ((cfg0.win 7).rect t).emb (ix2 (0 : Fin 1) j) = (ix2 (0 : Fin 1) j : S1x1024.Idx) := funext fun a => Fin.ext (by
    rw [Pipeline.Window.rect_emb_val (cfg0.win 7) t (ix2 (0 : Fin 1) j) a]
    match a with
    | ⟨0, _⟩ => show 0 * 1 + 0 = 0; omega
    | ⟨1, _⟩ => show 0 * 1024 + j.val = j.val; omega)
  refine (congrArg (V m c main_v8) e).trans ((congrFun (V_v8 m c) _).trans (shapeCast_apply _ _ _ _ ?_))
  rw [Shape.rowMajor_val_two, Shape.rowMajor_val_one]
  show j.val = 0 * 1024 + j.val
  omega

theorem iblk_8 (c : Dev nD) (t : Fin cfg0.N) (j : Fin 1024) : iblk m c 8 t (ix2 (0 : Fin 1) j) = aB m c (fun | ⟨0, _⟩ => j) := by
  show V m c main_v9 (((cfg0.win 8).rect t).emb (ix2 (0 : Fin 1) j)) = _
  have e : ((cfg0.win 8).rect t).emb (ix2 (0 : Fin 1) j) = (ix2 (0 : Fin 1) j : S1x1024.Idx) := funext fun a => Fin.ext (by
    rw [Pipeline.Window.rect_emb_val (cfg0.win 8) t (ix2 (0 : Fin 1) j) a]
    match a with
    | ⟨0, _⟩ => show 0 * 1 + 0 = 0; omega
    | ⟨1, _⟩ => show 0 * 1024 + j.val = j.val; omega)
  refine (congrArg (V m c main_v9) e).trans ((congrFun (V_v9 m c) _).trans (shapeCast_apply _ _ _ _ ?_))
  rw [Shape.rowMajor_val_two, Shape.rowMajor_val_one]
  show j.val = 0 * 1024 + j.val
  omega

/-! ## The result -/

/-- The first result, from the arguments. -/
def outH (c : Dev nD) : S32768x1024.Idx → EReal :=
  result attnAfter (aS m c) (aD m c) (aQ m c) (aK m c) (aV m c) (aH m c) (aW m c) (aG m c) (aB m c)

theorem blk_11 (c : Dev nD) (t : Fin cfg0.N) (p : Fin 1024) (j : Fin 1024) (r : Fin 32768) (hr : r.val = 1024 * t.val + p.val) :
    blockOut (F := Ideal) (iblk m c 0 t) (iblk m c 1 t) (iblk m c 2 t) (iblk m c 3 t) (iblk m c 4 t) (iblk m c 5 t) (iblk m c 6 t) (iblk m c 7 t)
      (iblk m c 8 t) (ix2 p j) = outH m c (ix2 r j) := by
  refine (blockOut_apply _ _ _ _ _ _ _ _ _ p j).trans ?_
  have e0 : (fun k => iblk m c 0 t (ix2 p k)) = fun k => aS m c (ix2 r k) := funext fun k => iblk_0 m c t p k r hr
  have e1 : (fun k => iblk m c 1 t (ix2 p k)) = fun k => aD m c (ix2 r k) := funext fun k => iblk_1 m c t p k r hr
  have e2 : (fun k => iblk m c 2 t (ix2 p k)) = fun k => aQ m c (ix2 r k) := funext fun k => iblk_2 m c t p k r hr
  have e3 : (fun l k => iblk m c 3 t (ix2 l k)) = fun l k => aK m c (ix2 (memRow r l) k) := funext fun l => funext fun k => iblk_3 m c t l k p r hr
  have e4 : (fun l k => iblk m c 4 t (ix2 l k)) = fun l k => aV m c (ix2 (memRow r l) k) := funext fun l => funext fun k => iblk_4 m c t l k p r hr
  have e7 := iblk_7 m c t j
  have e8 := iblk_8 m c t j
  refine (congrArg₂ (fun x y : EReal => norm _ x y j) e7 e8).trans ?_
  show _ = norm (fun i => residual (aH m c (ix2 r i)) (mixed (fun k => aS m c (ix2 r k)) (fun k => aD m c (ix2 r k))
      (attnAfter (fun k => aQ m c (ix2 r k)) (fun l k => aK m c (ix2 (memRow r l) k)) fun l k => aV m c (ix2 (memRow r l) k)) fun k => aW m c (ix2 k i)))
    (aG m c (fun | ⟨0, _⟩ => j)) (aB m c (fun | ⟨0, _⟩ => j)) j
  refine congrArg (fun f : Fin 1024 → EReal => norm f (aG m c (fun | ⟨0, _⟩ => j)) (aB m c (fun | ⟨0, _⟩ => j)) j) (funext fun i => ?_)
  refine congrArg₂ residual (iblk_5 m c t p i r hr) ?_
  have e6 : (fun k => iblk m c 6 t (ix2 k i)) = fun k => aW m c (ix2 k i) := funext fun k => iblk_6 m c t k i
  have ea := congr (congrArg₂ attnAfter e2 e3) e4
  exact congr (congr (congrArg₂ mixed e0 e1) ea) e6

theorem block_11 (t : Fin cfg0.N) (y : S1024x1024.Idx) (a : Fin 2) :
    ((((cfg0.win 11).rect t).emb y) a).val = match a with | ⟨0, _⟩ => 1024 * t.val + (y 0).val | ⟨1, _⟩ => (y 1).val := by
  rw [Pipeline.Window.rect_emb_val (cfg0.win 11) t y a]
  match a with
  | ⟨0, _⟩ =>
    show (BitVec.ofNat 32 ((grid0.coords t) 0).val).toNat * 1024 + (y 0).val = 1024 * t.val + (y 0).val
    rw [coord, BitVec.toNat_ofNat]
    have := point_lt t
    omega
  | ⟨1, _⟩ => show 0 * 1024 + (y 1).val = (y 1).val; omega

theorem covered_at_11 (t : Fin cfg0.N) (y : S1024x1024.Idx) (i : S32768x1024.Idx) (h0 : 1024 * t.val + (y 0).val = (i 0).val)
    (h1 : (y 1).val = (i 1).val) : i ∈ ((cfg0.win 11).blk t).view.set := by
  have e : (((cfg0.win 11).rect t).emb y) = i := by
    refine funext fun (a : Fin 2) => Fin.ext ((block_11 t y a).trans ?_)
    match a with
    | ⟨0, _⟩ => exact h0
    | ⟨1, _⟩ => exact h1
  rw [← e]
  exact View.emb_mem_set (v := ((cfg0.win 11).blk t).view) y

theorem covered_11 (i : S32768x1024.Idx) : ∃ t : Fin cfg0.N, (cfg0.win 11).flush t = true ∧ i ∈ ((cfg0.win 11).blk t).view.set :=
  ⟨pointOf (i 0), flush0_11 _, covered_at_11 _ (ix2 (n1 := 1024) (placeOf (i 0)) (i 1)) i
    (by show 1024 * ((i 0).val / 1024) + (i 0).val % 1024 = (i 0).val; omega) rfl⟩

theorem final_11 (c : Dev nD) : (dats m 0 c).arrAt 11 cfg0.N = outH m c := by
  refine (dats m 0 c).arrAt_eq_of_cover 11 (outH m c) (fun t _ => funext fun y => ?_) covered_11
  show (dats m 0 c).after 11 t y = outH m c (((cfg0.win 11).rect t).emb y)
  rw [after0_11, after_first]
  have h0 := block_11 t y (0 : Fin 2)
  have h1 := block_11 t y (1 : Fin 2)
  have hp : (y 0).val < 1024 := (y 0).isLt
  have ht := point_lt t
  have ey : y = ix2 (n1 := 1024) (y 0) (y 1) := funext fun a => by match a with | ⟨0, _⟩ => rfl | ⟨1, _⟩ => rfl
  refine (congrArg _ ey).trans ((blk_11 m c t (y 0) (y 1) ⟨1024 * t.val + (y 0).val, by omega⟩ rfl).trans (congrArg (outH m c) ?_))
  refine funext fun (a : Fin 2) => Fin.ext ?_
  match a with
  | ⟨0, _⟩ => exact h0.symm
  | ⟨1, _⟩ => exact h1.symm

end Cert.Mix

end
-- ==== Proof.MixRef.lean ====
/-
  The residual call's reference read at one element.
-/
module

public import proofs.«01_k».proof.Proof.MixBlocks
public import proofs.«01_k».proof.Proof.Gen.Reference4Ideal.Run

@[expose] public section

noncomputable section

namespace Cert.Mix

open Cert.Reference4Ideal Cert.Reference4Ideal.Gen
open Idealize.ShloMosaic Idealize.ShloMosaic.TcCoe
open Cert.Experts (rows_sum)

/-- A rank-three and a rank-four index from their coordinates. -/
abbrev ix3 {n0 n1 n2 : ℕ} (a : Fin n0) (b : Fin n1) (c : Fin n2) : (⟨3, ![n0, n1, n2]⟩ : Shape).Idx
  | ⟨0, _⟩ => a
  | ⟨1, _⟩ => b
  | ⟨2, _⟩ => c
abbrev ix4 {n0 n1 n2 n3 : ℕ} (a : Fin n0) (b : Fin n1) (c : Fin n2) (d : Fin n3) : (⟨4, ![n0, n1, n2, n3]⟩ : Shape).Idx
  | ⟨0, _⟩ => a
  | ⟨1, _⟩ => b
  | ⟨2, _⟩ => c
  | ⟨3, _⟩ => d

/-- The row of a batch's position. -/
def rowOf (b : Fin 4) (r : Fin 8192) : Fin 32768 := ⟨8192 * b.val + r.val, by omega⟩

/-- The memory's row of a batch. -/
def memOf (b : Fin 4) (m : Fin 256) : Fin 1024 := ⟨256 * b.val + m.val, by omega⟩

theorem memRow_rowOf (b : Fin 4) (r : Fin 8192) (m : Fin 256) : memRow (rowOf b r) m = memOf b m :=
  Fin.ext (by show 256 * ((8192 * b.val + r.val) / 8192) + m.val = 256 * b.val + m.val; omega)

/-! ## The products with batches -/

theorem score_sum (L : S4x8192x4x128.Idx → EReal) (R : S4x256x4x128.Idx → EReal) (b n : Fin 4) (r : Fin 8192) (l : Fin 256) :
    (∑ k : dot_S4x8192x4x128_S4x256x4x128_S4x4x8192x256_3_3_1_1_02_02.contr.Idx,
      L (dot_S4x8192x4x128_S4x256x4x128_S4x4x8192x256_3_3_1_1_02_02.lhsIdx (ix4 b n r l) k)
        * R (dot_S4x8192x4x128_S4x256x4x128_S4x4x8192x256_3_3_1_1_02_02.rhsIdx (ix4 b n r l) k))
      = ∑ e : Fin 128, L (ix4 b r n e) * R (ix4 b l n e) := by
  rw [dot_S4x8192x4x128_S4x256x4x128_S4x4x8192x256_3_3_1_1_02_02.sum_contr₁ (a := 3) rfl (K := 128) rfl]
  refine Finset.sum_congr rfl fun k _ => ?_
  congr 1
  · refine congrArg L (funext fun a => ?_)
    match a with
    | ⟨0, _⟩ => rfl
    | ⟨1, _⟩ => rfl
    | ⟨2, _⟩ => rfl
    | ⟨3, _⟩ => rfl
  · refine congrArg R (funext fun a => ?_)
    match a with
    | ⟨0, _⟩ => rfl
    | ⟨1, _⟩ => rfl
    | ⟨2, _⟩ => rfl
    | ⟨3, _⟩ => rfl

theorem value_sum (L : S4x256x4x128.Idx → EReal) (R : S4x4x8192x256.Idx → EReal) (b n : Fin 4) (d : Fin 128) (r : Fin 8192) :
    (∑ k : dot_S4x256x4x128_S4x4x8192x256_S4x4x128x8192_1_3_3_2_02_01.contr.Idx,
      L (dot_S4x256x4x128_S4x4x8192x256_S4x4x128x8192_1_3_3_2_02_01.lhsIdx (ix4 b n d r) k)
        * R (dot_S4x256x4x128_S4x4x8192x256_S4x4x128x8192_1_3_3_2_02_01.rhsIdx (ix4 b n d r) k))
      = ∑ l : Fin 256, L (ix4 b l n d) * R (ix4 b n r l) := by
  rw [dot_S4x256x4x128_S4x4x8192x256_S4x4x128x8192_1_3_3_2_02_01.sum_contr₁ (a := 1) rfl (K := 256) rfl]
  refine Finset.sum_congr rfl fun k _ => ?_
  congr 1
  · refine congrArg L (funext fun a => ?_)
    match a with
    | ⟨0, _⟩ => rfl
    | ⟨1, _⟩ => rfl
    | ⟨2, _⟩ => rfl
    | ⟨3, _⟩ => rfl
  · refine congrArg R (funext fun a => ?_)
    match a with
    | ⟨0, _⟩ => rfl
    | ⟨1, _⟩ => rfl
    | ⟨2, _⟩ => rfl
    | ⟨3, _⟩ => rfl

/-! ## The attention -/

theorem split_rows (x : FVec Ideal S32768x512 .f32) (b : Fin 4) (r : Fin 8192) (n : Fin 4) (e : Fin 128) :
    shapeCast S4x8192x4x128 x shapeCasts_S32768x512_S4x8192x4x128 (ix4 b r n e) = x (ix2 (rowOf b r) (col n e)) := by
  refine shapeCast_apply _ _ _ _ ?_
  rw [Shape.rowMajor_val_two, Shape.rowMajor_val_four]
  show (8192 * b.val + r.val) * 512 + (128 * n.val + e.val) = ((b.val * 8192 + r.val) * 4 + n.val) * 128 + e.val
  omega

theorem split_mem (x : FVec Ideal S1024x512 .f32) (b : Fin 4) (l : Fin 256) (n : Fin 4) (e : Fin 128) :
    shapeCast S4x256x4x128 x shapeCasts_S1024x512_S4x256x4x128 (ix4 b l n e) = x (ix2 (memOf b l) (col n e)) := by
  refine shapeCast_apply _ _ _ _ ?_
  rw [Shape.rowMajor_val_two, Shape.rowMajor_val_four]
  show (256 * b.val + l.val) * 512 + (128 * n.val + e.val) = ((b.val * 256 + l.val) * 4 + n.val) * 128 + e.val
  omega

/-- The reference's logits. -/
def refLogits (q : FVec Ideal S32768x512 .f32) (k : FVec Ideal S1024x512 .f32) : FVec Ideal S4x4x8192x256 .f32 :=
  mulf (Host.dotGeneral dot_S4x8192x4x128_S4x256x4x128_S4x4x8192x256_3_3_1_1_02_02 none (shapeCast S4x8192x4x128 q shapeCasts_S32768x512_S4x8192x4x128)
    (shapeCast S4x256x4x128 k shapeCasts_S1024x512_S4x256x4x128)) (broadcastInDim S4x4x8192x256 ![] bcast_S_S4x4x8192x256 (constant S_ .f32 0x3DB504F3#32))

theorem refLogits_apply (q : FVec Ideal S32768x512 .f32) (k : FVec Ideal S1024x512 .f32) (b n : Fin 4) (r : Fin 8192) (l : Fin 256) :
    refLogits q k (ix4 b n r l) = logits (fun e => q (ix2 (rowOf b r) e)) (fun m e => k (ix2 (memOf b m) e)) n l := by
  unfold refLogits logits
  refine congrArg (fun z : EReal => z * scale) ?_
  unfold Host.dotGeneral
  rw [Ideal.dotGeneral_apply]
  refine (score_sum _ _ b n r l).trans (Finset.sum_congr rfl fun e _ => ?_)
  exact congrArg₂ (fun a b : EReal => a * b) (split_rows q b r n e) (split_mem k b l n e)

theorem ix4_lib {n0 n1 n2 n3 : ℕ} (a : Fin n0) (b : Fin n1) (c : Fin n2) (d : Fin n3) :
    Idealize.ShloMosaic.ix4 (n0 := n0) (n1 := n1) (n2 := n2) (n3 := n3) ⟨a.val, a.isLt⟩ ⟨b.val, b.isLt⟩ ⟨c.val, c.isLt⟩ d = ix4 a b c d :=
  funext fun i => by match i with | ⟨0, _⟩ => rfl | ⟨1, _⟩ => rfl | ⟨2, _⟩ => rfl | ⟨3, _⟩ => rfl

/-- The largest logit of each row. -/
def refTop (l : FVec Ideal S4x4x8192x256 .f32) : FVec Ideal S4x4x8192 .f32 :=
  maximumf (broadcastInDim S4x4x8192 ![] bcast_S_S4x4x8192 (constant S_ .f32 0xFF800000#32))
    (Host.reduce FloatOps.maximumf l (constant S_ .f32 0xFF800000#32) reducesTo_S4x4x8192x256_S4x4x8192_d3 h_S_)

theorem max_apply {s : Shape} (x y : FVec Ideal s .f32) (i : s.Idx) : maximumf x y i = max (x i) (y i) := rfl

theorem div_apply {s : Shape} (x y : FVec Ideal s .f32) (i : s.Idx) : Host.divf x y i = Ideal.div (x i) (y i) := rfl

theorem exp_apply {s : Shape} (x y : FVec Ideal s .f32) (i : s.Idx) : Host.exp (subf x y) i = Ideal.exp (x i - y i) := rfl

theorem const_apply {s u : Shape} (dims : Fin u.rank → Fin s.rank) (h : u.BroadcastsInDim s dims) (x : BitVec 32) (i : s.Idx) :
    broadcastInDim s dims h (constant (F := Ideal) u .f32 x) i = (FloatOps.ofBits .f32 x : Ideal .f32) := rfl

theorem foldTop_apply (l : FVec Ideal S4x4x8192x256 .f32) (b n : Fin 4) (r : Fin 8192) :
    Host.reduce (FloatOps.maximumf (F := Ideal) (φ := .f32)) l (constant (F := Ideal) S_ .f32 0xFF800000#32) reducesTo_S4x4x8192x256_S4x4x8192_d3 h_S_ (ix3 b n r)
      = top fun m => l (ix4 b n r m) := by
  rw [Ideal.maximumf_eq_max]
  refine (Host.reduce_eq_fold (max : EReal → EReal → EReal) l _ reducesTo_S4x4x8192x256_S4x4x8192_d3 h_S_ (ix3 b n r)).trans ?_
  refine (Shape.ReducesTo.fold_fiber_r4_a3 (n0 := 4) (n1 := 4) (n2 := 8192) (n3 := 256) (t := S4x4x8192) reducesTo_S4x4x8192x256_S4x4x8192_d3 (ix3 b n r)
    (max : EReal → EReal → EReal) _ l).trans ?_
  unfold top
  exact congrArg (Finset.univ.fold max _) (funext fun m => congrArg l (ix4_lib b n r m))

theorem refTop_apply (l : FVec Ideal S4x4x8192x256 .f32) (b n : Fin 4) (r : Fin 8192) :
    refTop l (ix3 b n r) = top fun m => l (ix4 b n r m) := by
  unfold refTop
  rw [max_apply, const_apply, foldTop_apply, negInf]
  exact max_eq_right bot_le

/-- A value per row, over the row's columns. -/
def refSpread (v : FVec Ideal S4x4x8192 .f32) : FVec Ideal S4x4x8192x256 .f32 :=
  broadcastInDim S4x4x8192x256 ![0, 1, 2, 3] bcast_S4x4x8192x1_S4x4x8192x256_0_1_2_3
    (broadcastInDim S4x4x8192x1 ![0, 1, 2] bcast_S4x4x8192_S4x4x8192x1_0_1_2 v)

theorem refSpread_apply (v : FVec Ideal S4x4x8192 .f32) (b n : Fin 4) (r : Fin 8192) (l : Fin 256) :
    refSpread v (ix4 b n r l) = v (ix3 b n r) := by
  unfold refSpread
  refine (broadcastInDim_apply _ _ _ _ (ix4 b n r (0 : Fin 1)) (fun a => by match a with | ⟨0, _⟩ => rfl | ⟨1, _⟩ => rfl | ⟨2, _⟩ => rfl | ⟨3, _⟩ => rfl)).trans ?_
  exact broadcastInDim_apply _ _ _ _ (ix3 b n r) (fun a => by match a with | ⟨0, _⟩ => rfl | ⟨1, _⟩ => rfl | ⟨2, _⟩ => rfl)

/-- The weights, not yet divided. -/
def refWeights (l : FVec Ideal S4x4x8192x256 .f32) : FVec Ideal S4x4x8192x256 .f32 := Host.exp (subf l (refSpread (refTop l)))

theorem refWeights_apply (l : FVec Ideal S4x4x8192x256 .f32) (b n : Fin 4) (r : Fin 8192) (m : Fin 256) :
    refWeights l (ix4 b n r m) = weight (fun m => l (ix4 b n r m)) m := by
  unfold refWeights weight
  rw [exp_apply]
  exact congrArg (fun z : EReal => Ideal.exp (l (ix4 b n r m) - z)) ((refSpread_apply _ b n r m).trans (refTop_apply l b n r))

theorem refSum4_apply (v : FVec Ideal S4x4x8192x256 .f32) (b n : Fin 4) (r : Fin 8192) :
    Host.reduceAdd v (constant S_ .f32 0x00000000#32) reducesTo_S4x4x8192x256_S4x4x8192_d3 h_S_ (ix3 b n r) = ∑ m : Fin 256, v (ix4 b n r m) := by
  show Ideal.hostReduceAdd reducesTo_S4x4x8192x256_S4x4x8192_d3 v (FloatOps.ofBits .f32 0x00000000#32 : Ideal .f32) _ = _
  rw [Ideal.hostReduceAdd_r4_a3 (n0 := 4) (n1 := 4) (n2 := 8192) (n3 := 256) (t := S4x4x8192) reducesTo_S4x4x8192x256_S4x4x8192_d3 v _ _]
  refine (congrArg₂ (fun a b : EReal => a + b) Ideal.ofBits_zero_f32 (Finset.sum_congr rfl fun k _ => ?_)).trans (zero_add _)
  exact congrArg v (ix4_lib b n r k)

/-- The weights. -/
def refProbs (l : FVec Ideal S4x4x8192x256 .f32) : FVec Ideal S4x4x8192x256 .f32 :=
  Host.divf (refWeights l) (refSpread (Host.reduceAdd (refWeights l) (constant S_ .f32 0x00000000#32) reducesTo_S4x4x8192x256_S4x4x8192_d3 h_S_))

theorem refProbs_apply (l : FVec Ideal S4x4x8192x256 .f32) (b n : Fin 4) (r : Fin 8192) (m : Fin 256) :
    refProbs l (ix4 b n r m) = Ideal.div (weight (fun m => l (ix4 b n r m)) m) (∑ k : Fin 256, weight (fun m => l (ix4 b n r m)) k) := by
  unfold refProbs
  rw [div_apply, refSpread_apply, refSum4_apply, refWeights_apply]
  exact congrArg (Ideal.div _) (Finset.sum_congr rfl fun k _ => refWeights_apply l b n r k)

/-- The attention's rows. -/
def refAttn (q : FVec Ideal S32768x512 .f32) (k v : FVec Ideal S1024x512 .f32) : FVec Ideal S32768x512 .f32 :=
  shapeCast S32768x512 (transpose S4x8192x4x128 [0, 3, 1, 2] (Host.dotGeneral dot_S4x256x4x128_S4x4x8192x256_S4x4x128x8192_1_3_3_2_02_01 none
    (shapeCast S4x256x4x128 v shapeCasts_S1024x512_S4x256x4x128) (refProbs (refLogits q k))) transposes_S4x4x128x8192_S4x8192x4x128_0_3_1_2)
    shapeCasts_S4x8192x4x128_S32768x512

/-- The attention's row at one column, dividing each weight before the sum. -/
def attnBefore (q : Fin 512 → EReal) (k v : Fin 256 → Fin 512 → EReal) (j : Fin 512) : EReal :=
  before (logits q k (headOfCol j)) fun m => v m j

theorem refAttn_apply (q : FVec Ideal S32768x512 .f32) (k v : FVec Ideal S1024x512 .f32) (r : Fin 32768) (j : Fin 512) :
    refAttn q k v (ix2 r j) = attnBefore (fun e => q (ix2 r e)) (fun l e => k (ix2 (memRow r l) e)) (fun l e => v (ix2 (memRow r l) e)) j := by
  have hr := r.isLt
  have hj := j.isLt
  obtain ⟨b, p, rfl⟩ : ∃ (b : Fin 4) (p : Fin 8192), r = rowOf b p :=
    ⟨⟨r.val / 8192, by omega⟩, ⟨r.val % 8192, by omega⟩, Fin.ext (by show r.val = 8192 * (r.val / 8192) + r.val % 8192; omega)⟩
  obtain ⟨n, d, rfl⟩ : ∃ (n : Fin 4) (d : Fin 128), j = col n d :=
    ⟨⟨j.val / 128, by omega⟩, ⟨j.val % 128, by omega⟩, Fin.ext (by show j.val = 128 * (j.val / 128) + j.val % 128; omega)⟩
  have hn : headOfCol (col n d) = n := Fin.ext (by show (128 * n.val + d.val) / 128 = n.val; omega)
  unfold attnBefore before refAttn
  rw [hn]
  refine (shapeCast_apply _ _ _ (ix4 b p n d) ?_).trans ?_
  · rw [Shape.rowMajor_val_two, Shape.rowMajor_val_four]
    show ((b.val * 8192 + p.val) * 4 + n.val) * 128 + d.val = (8192 * b.val + p.val) * 512 + (128 * n.val + d.val)
    omega
  refine (transpose_apply _ _ _ _ (ix4 b n d p) (fun a => by match a with | ⟨0, _⟩ => rfl | ⟨1, _⟩ => rfl | ⟨2, _⟩ => rfl | ⟨3, _⟩ => rfl)).trans ?_
  unfold Host.dotGeneral
  rw [Ideal.dotGeneral_apply]
  refine (value_sum _ _ b n d p).trans (Finset.sum_congr rfl fun l _ => ?_)
  have el : (fun m => refLogits q k (ix4 b n p m)) = logits (fun e => q (ix2 (rowOf b p) e)) (fun l e => k (ix2 (memRow (rowOf b p) l) e)) n :=
    funext fun m => (refLogits_apply q k b n p m).trans (congrArg (fun f : Fin 256 → Fin 512 → EReal => logits (fun e => q (ix2 (rowOf b p) e)) f n m)
      (funext fun l => funext fun e => by rw [memRow_rowOf]))
  refine congrArg₂ (fun a b : EReal => a * b) ((split_mem v b l n d).trans (by show _ = v (ix2 (memRow (rowOf b p) l) (col n d)); rw [memRow_rowOf])) ((refProbs_apply _ b n p l).trans ?_)
  rw [el]

/-! ## The output projection and the norm -/

/-- The rows the output weights multiply. -/
abbrev refPieces (s : FVec Ideal S32768x1024 .f32) (d a : FVec Ideal S32768x512 .f32) : List ((s : Shape) × (s.Idx → Ideal .f32)) :=
  [⟨S32768x1024, s⟩, ⟨S32768x512, d⟩, ⟨S32768x512, a⟩]

def refJoin (s : FVec Ideal S32768x1024 .f32) (d a : FVec Ideal S32768x512 .f32) : FVec Ideal S32768x2048 .f32 :=
  concatenate S32768x2048 1 (refPieces s d a) concatenates_S32768x1024_S32768x512_S32768x512_S32768x2048_d1

theorem refJoin_piece (s : FVec Ideal S32768x1024 .f32) (d a : FVec Ideal S32768x512 .f32) {N : ℕ} (n : ℕ) (hn : n < (refPieces s d a).length)
    (x : (⟨2, ![32768, N]⟩ : Shape).Idx → Ideal .f32) (hp : (refPieces s d a)[n] = ⟨⟨2, ![32768, N]⟩, x⟩) (pre : ℕ)
    (hpre : ((((refPieces s d a).take n).map (·.1)).map fun s => if h : s.rank = S32768x2048.rank then s.size ((1 : Fin S32768x2048.rank).cast h.symm) else 0).sum = pre)
    (r : Fin 32768) (e : Fin N) (j : Fin 2048) (hj : j.val = pre + e.val) : refJoin s d a (ix2 r j) = x (ix2 r e) := by
  refine concatenate_apply_piece (t := S32768x2048) 1 (refPieces s d a) concatenates_S32768x1024_S32768x512_S32768x512_S32768x2048_d1 (ix2 r j) n hn
    ⟨2, ![32768, N]⟩ x hp rfl pre hpre (ix2 r e) ?_ ?_
  · intro a ha
    match a with
    | ⟨0, _⟩ => rfl
    | ⟨1, _⟩ => exact absurd rfl ha
  · exact hj.symm

/-- The residual before its norm. -/
def refPre (s : FVec Ideal S32768x1024 .f32) (d a : FVec Ideal S32768x512 .f32) (h : FVec Ideal S32768x1024 .f32) (w : FVec Ideal S2048x1024 .f32) :
    FVec Ideal S32768x1024 .f32 :=
  addf (mulf (broadcastInDim S32768x1024 ![] bcast_S_S32768x1024 (constant S_ .f32 0x3FD744FD#32)) h)
    (Host.dotGeneral dot_S32768x2048_S2048x1024_S32768x1024_1_0_0_1_n_n none (refJoin s d a) w)

theorem refPre_apply (s : FVec Ideal S32768x1024 .f32) (d a : FVec Ideal S32768x512 .f32) (h : FVec Ideal S32768x1024 .f32) (w : FVec Ideal S2048x1024 .f32)
    (r : Fin 32768) (j : Fin 1024) :
    refPre s d a h w (ix2 r j)
      = residual (h (ix2 r j)) (mixed (fun k => s (ix2 r k)) (fun k => d (ix2 r k)) (fun k => a (ix2 r k)) fun k => w (ix2 k j)) := by
  unfold refPre residual mixed
  refine congrArg (fun z : EReal => (FloatOps.ofBits .f32 0x3FD744FD#32 : Ideal .f32) * h (ix2 r j) + z) ?_
  unfold Host.dotGeneral
  rw [Ideal.dotGeneral_apply]
  refine (rows_sum (M := 32768) (K := 2048) (N := 1024) dot_S32768x2048_S2048x1024_S32768x1024_1_0_0_1_n_n.wf _ _ r j).trans ?_
  refine (sum_parts _).trans ?_
  refine congrArg₂ (fun a b : EReal => a + b) (congrArg₂ (fun a b : EReal => a + b) (Finset.sum_congr rfl fun k _ => ?_) (Finset.sum_congr rfl fun k _ => ?_))
    (Finset.sum_congr rfl fun k _ => ?_)
  · exact congrArg (fun z : EReal => z * w (ix2 _ j)) (refJoin_piece s d a (N := 1024) 0 (show 0 < 3 by decide) s rfl 0 rfl r k _ (Nat.zero_add _).symm)
  · exact congrArg (fun z : EReal => z * w (ix2 _ j)) (refJoin_piece s d a (N := 512) 1 (show 1 < 3 by decide) d rfl 1024 rfl r k _ rfl)
  · exact congrArg (fun z : EReal => z * w (ix2 _ j)) (refJoin_piece s d a (N := 512) 2 (show 2 < 3 by decide) a rfl 1536 rfl r k _ rfl)

theorem refSum_apply (v : FVec Ideal S32768x1024 .f32) (r : Fin 32768) :
    Host.reduceAdd v (constant S_ .f32 0x00000000#32) reducesTo_S32768x1024_S32768_d1 h_S_ (fun | ⟨0, _⟩ => r : S32768.Idx)
      = ∑ k : Fin 1024, v (ix2 r k) := by
  show Ideal.hostReduceAdd reducesTo_S32768x1024_S32768_d1 v (FloatOps.ofBits .f32 0x00000000#32 : Ideal .f32) _ = _
  rw [Ideal.hostReduceAdd_r2_a1 (n0 := 32768) (n1 := 1024) (t := S32768) reducesTo_S32768x1024_S32768_d1 v _ _]
  refine (congrArg₂ (fun a b : EReal => a + b) Ideal.ofBits_zero_f32 (Finset.sum_congr rfl fun k _ => ?_)).trans (zero_add _)
  exact congrArg v (funext fun a => by match a with | ⟨0, _⟩ => rfl | ⟨1, _⟩ => rfl)

/-- The mean of each row. -/
def refMean (v : FVec Ideal S32768x1024 .f32) : FVec Ideal S32768x1 .f32 :=
  Host.divf (broadcastInDim S32768x1 ![0] bcast_S32768_S32768x1_0 (Host.reduceAdd v (constant S_ .f32 0x00000000#32) reducesTo_S32768x1024_S32768_d1 h_S_))
    (broadcastInDim S32768x1 ![] bcast_S_S32768x1 (constant S_ .f32 0x44800000#32))

theorem refMean_apply (v : FVec Ideal S32768x1024 .f32) (r : Fin 32768) :
    refMean v (ix2 r (0 : Fin 1)) = Ideal.div (∑ k : Fin 1024, v (ix2 r k)) (FloatOps.ofBits .f32 0x44800000#32 : Ideal .f32) := by
  unfold refMean
  refine congrArg (fun z : EReal => Ideal.div z (FloatOps.ofBits .f32 0x44800000#32 : Ideal .f32)) ?_
  refine (broadcastInDim_apply _ _ _ _ (fun | ⟨0, _⟩ => r : S32768.Idx) (fun a => by match a with | ⟨0, _⟩ => rfl)).trans ?_
  exact refSum_apply v r

/-- Each row less its mean. -/
def refCentred (v : FVec Ideal S32768x1024 .f32) : FVec Ideal S32768x1024 .f32 :=
  subf v (broadcastInDim S32768x1024 ![0, 1] bcast_S32768x1_S32768x1024_0_1 (refMean v))

theorem refCentred_apply (v : FVec Ideal S32768x1024 .f32) (r : Fin 32768) (j : Fin 1024) :
    refCentred v (ix2 r j) = v (ix2 r j) - Ideal.div (∑ k : Fin 1024, v (ix2 r k)) (FloatOps.ofBits .f32 0x44800000#32 : Ideal .f32) := by
  unfold refCentred
  refine congrArg (fun z : EReal => v (ix2 r j) - z) ?_
  exact (broadcastInDim_apply _ _ _ _ (ix2 r (0 : Fin 1)) (fun a => by match a with | ⟨0, _⟩ => rfl | ⟨1, _⟩ => rfl)).trans (refMean_apply v r)

/-- The norm of the rows. -/
def refNormed (v : FVec Ideal S32768x1024 .f32) (g b : FVec Ideal S1024 .f32) : FVec Ideal S32768x1024 .f32 :=
  addf (mulf (mulf (refCentred v) (broadcastInDim S32768x1024 ![0, 1] bcast_S32768x1_S32768x1024_0_1 (Host.rsqrt (addf (refMean (mulf (refCentred v) (refCentred v)))
    (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

theorem refGain_apply (g : FVec Ideal S1024 .f32) (r : Fin 32768) (j : Fin 1024) :
    broadcastInDim S32768x1024 ![0, 1] bcast_S1x1024_S32768x1024_0_1 (broadcastInDim S1x1024 ![1] bcast_S1024_S1x1024_1 g) (ix2 r j) = g (fun | ⟨0, _⟩ => j) := by
  refine (broadcastInDim_apply _ _ _ _ (ix2 (0 : Fin 1) j) (fun a => by match a with | ⟨0, _⟩ => rfl | ⟨1, _⟩ => rfl)).trans ?_
  exact broadcastInDim_apply _ _ _ _ (fun | ⟨0, _⟩ => j : S1024.Idx) (fun a => by match a with | ⟨0, _⟩ => rfl)

theorem refNormed_apply (v : FVec Ideal S32768x1024 .f32) (g b : FVec Ideal S1024 .f32) (r : Fin 32768) (j : Fin 1024) :
    refNormed v g b (ix2 r j) = norm (fun k => v (ix2 r k)) (g (fun | ⟨0, _⟩ => j)) (b (fun | ⟨0, _⟩ => j)) j := by
  unfold refNormed norm
  refine congrArg₂ (fun a b : EReal => a + b) (congrArg₂ (fun a b : EReal => a * b) (congrArg₂ (fun a b : EReal => a * b) (refCentred_apply v r j) ?_)
    (refGain_apply g r j)) (refGain_apply b r j)
  refine (broadcastInDim_apply _ _ _ _ (ix2 r (0 : Fin 1)) (fun a => by match a with | ⟨0, _⟩ => rfl | ⟨1, _⟩ => rfl)).trans ?_
  refine congrArg (fun z : EReal => Ideal.rsqrt (z + (FloatOps.ofBits .f32 0x3727C5AC#32 : Ideal .f32))) ((refMean_apply _ r).trans ?_)
  refine congrArg (fun z : EReal => Ideal.div z (FloatOps.ofBits .f32 0x44800000#32 : Ideal .f32)) (Finset.sum_congr rfl fun k _ => ?_)
  exact congrArg₂ (fun a b : EReal => a * b) (refCentred_apply v r k) (refCentred_apply v r k)

/-- The reference's result as a whole. -/
theorem ref_eq (s : FVec Ideal S32768x1024 .f32) (d q : FVec Ideal S32768x512 .f32) (k v : FVec Ideal S1024x512 .f32) (h : FVec Ideal S32768x1024 .f32)
    (w : FVec Ideal S2048x1024 .f32) (g b : FVec Ideal S1024 .f32) :
    refNormed (refPre s d (refAttn q k v) h w) g b = result attnBefore s d q k v h w g b := by
  refine funext fun i => ?_
  have ei : i = ix2 (n0 := 32768) (n1 := 1024) (i 0) (i 1) := funext fun a => by match a with | ⟨0, _⟩ => rfl | ⟨1, _⟩ => rfl
  refine (congrArg _ ei).trans ((refNormed_apply _ g b (i 0) (i 1)).trans ?_)
  unfold result
  refine congrArg (fun f : Fin 1024 → EReal => norm f (g (fun | ⟨0, _⟩ => i 1)) (b (fun | ⟨0, _⟩ => i 1)) (i 1)) (funext fun j => ?_)
  refine (refPre_apply _ _ _ _ _ (i 0) j).trans ?_
  refine congrArg (fun f : Fin 512 → EReal => residual (h (ix2 (n1 := 1024) (i 0) j)) (mixed (fun e => s (ix2 (n1 := 1024) (i 0) e)) (fun e => d (ix2 (n1 := 512) (i 0) e))
    f fun e => w (ix2 e j))) (funext fun e => ?_)
  exact refAttn_apply q k v (i 0) e

/-- The generated result is that. -/
theorem res_eq (m : (ℓ : Loc nD τ sig) → Buf (Elt Ideal) ℓ) (c : Dev nD) :
    Value.res_main_v46 (F := Ideal) m c
      = refNormed (refPre (m ((c.tc : Thread nD τ).loc main_arg0)) (m ((c.tc : Thread nD τ).loc main_arg1))
          (refAttn (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)))
        (m ((c.tc : Thread nD τ).loc main_arg7)) (m ((c.tc : Thread nD τ).loc main_arg8)) := rfl

end Cert.Mix

end
-- ==== Proof.Mix.lean ====
/-
  The residual call's claims: its frames, and its first result equal to the reference's in exact arithmetic.
-/
module

public import proofs.«01_k».proof.Defs
public import proofs.«01_k».proof.Proof.MixRef
public import proofs.«01_k».proof.Proof.Gen.Kernel4.Frame
public import proofs.«01_k».proof.Proof.Gen.Pre_finite_scores
public import Idealize.ShloMosaic.Lib.Quiescent

@[expose] public section

noncomputable section

namespace Cert.Mix

open Idealize.ShloMosaic Idealize.SL.Sem Idealize.ShloMosaic.TcCoe

/-! ## Finite queries and keys -/

theorem real_of_test (x : EReal) (h : (FloatOps.cmpf .olt (FloatOps.hostAbsf (x : Ideal .f32)) (FloatOps.ofBits .f32 0x7F800000#32 : Ideal .f32) : BitVec 1) = 1#1) :
    Real' x := by
  rw [posInf] at h
  have h' : max x (-x) < (⊤ : EReal) := by
    by_contra hn
    have : (Ideal.cmp .olt (max x (-x) : EReal) ⊤ : BitVec 1) = 1#1 := h
    simp [Ideal.cmp, hn] at this
  constructor
  · rintro rfl
    simp at h'
  · rintro rfl
    simp at h'

theorem real_logits (q : Fin 512 → EReal) (k : Fin 256 → Fin 512 → EReal) (hq : ∀ e, Real' (q e)) (hk : ∀ m e, Real' (k m e)) (n : Fin 4) (m : Fin 256) :
    Real' (logits q k n m) :=
  real_mul (real_sum _ _ fun e _ => real_mul (hq _) (hk _ _)) real_scale

/-- Dividing after the sum is dividing each weight before it. -/
theorem attn_eq (q : Fin 512 → EReal) (k v : Fin 256 → Fin 512 → EReal) (hq : ∀ e, Real' (q e)) (hk : ∀ m e, Real' (k m e)) :
    attnAfter q k v = attnBefore q k v :=
  funext fun j => after_eq_before _ _ fun m => real_logits q k hq hk _ m

theorem result_eq (s : (⟨2, ![32768, 1024]⟩ : Shape).Idx → EReal) (d q : (⟨2, ![32768, 512]⟩ : Shape).Idx → EReal) (k v : (⟨2, ![1024, 512]⟩ : Shape).Idx → EReal)
    (h : (⟨2, ![32768, 1024]⟩ : Shape).Idx → EReal) (w : (⟨2, ![2048, 1024]⟩ : Shape).Idx → EReal) (g b : (⟨1, ![1024]⟩ : Shape).Idx → EReal)
    (hq : ∀ i, Real' (q i)) (hk : ∀ i, Real' (k i)) : result attnAfter s d q k v h w g b = result attnBefore s d q k v h w g b := by
  refine funext fun i => ?_
  unfold result
  rw [attn_eq _ _ _ (fun e => hq _) (fun m e => hk _)]

/-! ## The claims -/

theorem frame_kernel : Cert.quiescent_Kernel4 := fun m ρ _ => Cert.Kernel4.Gen.frame m ρ

theorem frame_kernelIdeal : Cert.quiescent_Kernel4Ideal := fun m ρ _ => Cert.Kernel4Ideal.Gen.frame m ρ

theorem frame_referenceIdeal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_kernelIdeal_pre : Cert.quiescent_Kernel4Ideal_pre_finite_scores := fun m ρ _ => Cert.Kernel4Ideal.Gen.frame m ρ

theorem frame_referenceIdeal_pre : Cert.quiescent_Reference4Ideal_pre_finite_scores := fun m ρ _ => frame_referenceIdeal m ρ trivial

theorem pre_query (m : (ℓ : Loc Cert.Kernel4Ideal.nD Cert.Kernel4Ideal.τ Cert.Kernel4Ideal.sig) → Buf (Elt Ideal) ℓ) (h : Cert.Pre_Kernel4Ideal_finite_scores m)
    (c : Dev Cert.Kernel4Ideal.nD) (i : Cert.Kernel4Ideal.S32768x512.Idx) : Real' (aQ m c i) :=
  real_of_test _ (congrFun (h c).1 i)

theorem pre_key (m : (ℓ : Loc Cert.Kernel4Ideal.nD Cert.Kernel4Ideal.τ Cert.Kernel4Ideal.sig) → Buf (Elt Ideal) ℓ) (h : Cert.Pre_Kernel4Ideal_finite_scores m)
    (c : Dev Cert.Kernel4Ideal.nD) (i : Cert.Kernel4Ideal.S1024x512.Idx) : Real' (aK m c i) :=
  real_of_test _ (congrFun (h c).2 i)

section
open Cert.Kernel4Ideal Cert.Kernel4Ideal.Gen

/-- The result in the reference's form. -/
abbrev outRef (m : (ℓ : Loc nD τ sig) → Buf (Elt Ideal) ℓ) (c : Dev nD) : S32768x1024.Idx → EReal :=
  result attnBefore (aS m c) (aD m c) (aQ m c) (aK m c) (aV m c) (aH m c) (aW m c) (aG m c) (aB m c)

/-- The kernel's run in exact arithmetic: its first result is the reference's of its arguments. -/
theorem run (m : (ℓ : Loc nD τ sig) → Buf (Elt Ideal) ℓ) (ρ : Dev nD → PrngReg) (hp : Cert.Pre_Kernel4Ideal_finite_scores m) :
    θ_run defs (onTc (τ := τ) (main (F := Ideal))) ⟨m, fun _ => 0, ρ⟩ (fun r => ∀ c : Dev nD,
      r.2.mem ((c.tc : Thread nD τ).loc main_v12_0) = outRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ⟨?_, h.2 c⟩) (θ_run_and (run_main m ρ) (unchanged m ρ))
  refine ((h.1 c).1 11).trans ((final_11 m c).trans ?_)
  exact result_eq _ _ _ _ _ _ _ _ _ (pre_query m hp c) (pre_key m hp c)

end

theorem algebraic : Cert.algebraic_Kernel4Ideal_Reference4Ideal_pre_finite_scores := fun m ρ m' ρ' hp hag =>
  ⟨_, run m ρ hp, (θ_run Cert.Reference4Ideal.defs _ _).mono (fun r h c => by
      obtain ⟨h0, h1, h2, h3, h4, h5, h6, h7, h8, h9, h10⟩ := hag c
      obtain ⟨q0, qs⟩ := h c
      refine ⟨q0.trans ((res_eq m' c).trans ((ref_eq _ _ _ _ _ _ _ _ _).trans ?_)), qs⟩
      rw [h0, h1, h2, h3, h4, h5, h6, h7, h8])
    (Cert.Reference4Ideal.Value.run (F := Ideal) m' ρ')⟩

end Cert.Mix

end
-- ==== Proof.lean ====
/-
  The proof of the certificate's claims.

  Dispatch: `Proof/DispatchIssue.lean` (one row's transfer), `DispatchTrip.lean` (a trip of the issuing loop),
  `DispatchBody.lean` (the body at a grid point), `DispatchFill.lean` (the result after each point), `DispatchRun.lean` (the
  run), `DispatchValue.lean` (the reference and the precondition), `Dispatch.lean` (its claims).

  Experts: `ExpertsTables.lean` (what the host operations leave), `ExpertsBody.lean` (the body at a grid point),
  `ExpertsNat.lean` (the counts as numbers), `ExpertsPoint.lean` (each point's blocks), `ExpertsRun.lean` (the run),
  `ExpertsValue.lean` (its result), `ExpertsOps.lean` and `ExpertsSpec.lean` (one element of the mathematics),
  `ExpertsBlock.lean` (the kernel's element), `ExpertsRef.lean` (the reference's), `ExpertsMain.lean` and `ExpertsText.lean`
  (the two printings are one text), `Experts.lean` (its claims).

  Projection: `ProjectionWeights.lean` (the packed weights' columns), `ProjectionBlocks.lean` (what the grid leaves in its seven
  results), `ProjectionTail.lean` (the results read off them), `ProjectionRef.lean` (one element of the reference),
  `Projection.lean` (its claims).

  Residual: `MixMath.lean` (the softmax and the norm), `MixPoint.lean` (what a point stores), `MixBody.lean` (the names of its
  parts), `MixHeads.lean` (one element of a point's block), `MixBlocks.lean` (what the grid leaves in its first result),
  `MixRef.lean` (one element of the reference), `Mix.lean` (its claims).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_rows_distinct
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite_scores
public import proofs.«01_k».proof.Proof.Dispatch
public import proofs.«01_k».proof.Proof.Experts
public import proofs.«01_k».proof.Proof.Projection
public import proofs.«01_k».proof.Proof.Mix

@[expose] public section

noncomputable section

namespace Cert.Proof

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_rows_distinct.Gen.facts, Cert.Pre_finite_scores.Gen.facts,
    Cert.Dispatch.frame_kernel, Cert.Dispatch.frame_kernelIdeal, Cert.Dispatch.frame_referenceIdeal,
    Cert.Dispatch.frame_referenceIdeal_pre, Cert.Dispatch.frame_reference, Cert.Dispatch.frame_reference_pre,
    Cert.Experts.frame_kernel, Cert.Experts.frame_kernelIdeal, Cert.Experts.frame_referenceIdeal,
    Cert.Projection.frame_kernel, Cert.Projection.frame_kernelIdeal, Cert.Projection.frame_referenceIdeal,
    Cert.Mix.frame_kernel, Cert.Mix.frame_kernelIdeal, Cert.Mix.frame_kernelIdeal_pre,
    Cert.Mix.frame_referenceIdeal, Cert.Mix.frame_referenceIdeal_pre,
    trivial, Cert.Dispatch.algebraic, Cert.Dispatch.bitexact, trivial, Cert.Experts.algebraic,
    trivial, Cert.Projection.algebraic, trivial, Cert.Mix.algebraic⟩

end Cert.Proof

end
